-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_all_finite9 [hPre_all_finite9 : Cert.Pre_all_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_all_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).1 = (fun _ => 1#1)
    ∧ (Cert.Pre_all_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.1 = (fun _ => 1#1)
    ∧ (Cert.Pre_all_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.1 = (fun _ => 1#1)
    ∧ (Cert.Pre_all_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2.1 = (fun _ => 1#1)
    ∧ (Cert.Pre_all_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_all_finite9 [hPre_all_finite9 : Cert.Pre_all_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_all_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).1 = (fun _ => 1#1)
    ∧ (Cert.Pre_all_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.1 = (fun _ => 1#1)
    ∧ (Cert.Pre_all_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.1 = (fun _ => 1#1)
    ∧ (Cert.Pre_all_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.2.1 = (fun _ => 1#1)
    ∧ (Cert.Pre_all_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_all_finite9 [hKernel9Ideal : Cert.Kernel9Ideal.Facts] [hPre_all_finite9 : Cert.Pre_all_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_all_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_all_finite9 [hReference9Ideal : Cert.Reference9Ideal.Facts] [hPre_all_finite9 : Cert.Pre_all_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_all_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_all_finite9 [hKernel9Ideal : Cert.Kernel9Ideal.Facts] [hReference9Ideal : Cert.Reference9Ideal.Facts] [hPre_all_finite9 : Cert.Pre_all_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_all_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v19_0)) (v1 : (c : Dev Cert.Kernel9Ideal.nD) → Buf (Elt Ideal) ((c.tc : Thread Cert.Kernel9Ideal.nD Cert.Kernel9Ideal.τ).loc Cert.Kernel9Ideal.main_v19_1)) (v2 : (c : Dev Cert.Kernel9Ideal.nD) → Buf (Elt Ideal) ((c.tc : Thread Cert.Kernel9Ideal.nD Cert.Kernel9Ideal.τ).loc Cert.Kernel9Ideal.main_v19_2)) (v3 : (c : Dev Cert.Kernel9Ideal.nD) → Buf (Elt Ideal) ((c.tc : Thread Cert.Kernel9Ideal.nD Cert.Kernel9Ideal.τ).loc Cert.Kernel9Ideal.main_v19_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v19_0) = v0 c
          ∧ r.2.mem ((c.tc : Thread Cert.Kernel9Ideal.nD Cert.Kernel9Ideal.τ).loc Cert.Kernel9Ideal.main_v19_1) = v1 c
          ∧ r.2.mem ((c.tc : Thread Cert.Kernel9Ideal.nD Cert.Kernel9Ideal.τ).loc Cert.Kernel9Ideal.main_v19_2) = v2 c
          ∧ r.2.mem ((c.tc : Thread Cert.Kernel9Ideal.nD Cert.Kernel9Ideal.τ).loc Cert.Kernel9Ideal.main_v19_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v82) = v0 c
          ∧ r.2.mem ((c.tc : Thread Cert.Reference9Ideal.nD Cert.Reference9Ideal.τ).loc Cert.Reference9Ideal.main_v83) = v1 c
          ∧ r.2.mem ((c.tc : Thread Cert.Reference9Ideal.nD Cert.Reference9Ideal.τ).loc Cert.Reference9Ideal.main_v84) = v2 c
          ∧ r.2.mem ((c.tc : Thread Cert.Reference9Ideal.nD Cert.Reference9Ideal.τ).loc Cert.Reference9Ideal.main_v85) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v53) = v0 c
          ∧ r.2.mem ((c.tc : Thread Cert.Reference11Ideal.nD Cert.Reference11Ideal.τ).loc Cert.Reference11Ideal.main_v59) = v1 c
          ∧ r.2.mem ((c.tc : Thread Cert.Reference11Ideal.nD Cert.Reference11Ideal.τ).loc Cert.Reference11Ideal.main_v62) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)) (v2 : (c : Dev Cert.Kernel14Ideal.nD) → Buf (Elt Ideal) ((c.tc : Thread Cert.Kernel14Ideal.nD Cert.Kernel14Ideal.τ).loc Cert.Kernel14Ideal.main_v5_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_v5_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v29) = v0 c
          ∧ r.2.mem ((c.tc : Thread Cert.Reference14Ideal.nD Cert.Reference14Ideal.τ).loc Cert.Reference14Ideal.main_v54) = v1 c
          ∧ r.2.mem ((c.tc : Thread Cert.Reference14Ideal.nD Cert.Reference14Ideal.τ).loc Cert.Reference14Ideal.main_v25) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v29) = v0 c
          ∧ r.2.mem ((c.tc : Thread Cert.Reference15Ideal.nD Cert.Reference15Ideal.τ).loc Cert.Reference15Ideal.main_v54) = v1 c
          ∧ r.2.mem ((c.tc : Thread Cert.Reference15Ideal.nD Cert.Reference15Ideal.τ).loc Cert.Reference15Ideal.main_v25) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_all_finite : Cert.Pre_all_finite.Facts) (hPre_all_finite2 : Cert.Pre_all_finite2.Facts) (hPre_all_finite9 : Cert.Pre_all_finite9.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_all_finite9 (hKernel9Ideal := hKernel9Ideal) (hPre_all_finite9 := hPre_all_finite9)
    ∧ quiescent_Reference9Ideal (hReference9Ideal := hReference9Ideal)
    ∧ quiescent_Reference9Ideal_pre_all_finite9 (hReference9Ideal := hReference9Ideal) (hPre_all_finite9 := hPre_all_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_all_finite9 (hKernel9Ideal := hKernel9Ideal) (hReference9Ideal := hReference9Ideal) (hPre_all_finite9 := hPre_all_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_all_finite.lean ====
abbrev S4096x2048 : Shape := ⟨2, ![4096, 2048]⟩
abbrev S5632x2048 : Shape := ⟨2, ![5632, 2048]⟩
abbrev S2x4096x5632 : Shape := ⟨3, ![2, 4096, 5632]⟩
abbrev S2x3x11264 : Shape := ⟨3, ![2, 3, 11264]⟩
abbrev S2x11264 : Shape := ⟨2, ![2, 11264]⟩
abbrev S_ : Shape := ⟨0, ![]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S2x4096x5632 : S_.BroadcastsInDim S2x4096x5632 (![] : Fin 0 → Fin S2x4096x5632.rank)
  slices_S2x3x11264_S1x3x11264_1_0_0 : S2x3x11264.Slices ![1, 0, 0] S1x3x11264
  shapeCasts_S1x3x11264_S3x11264 : S1x3x11264.ShapeCasts S3x11264
  bcast_S_S3x11264 : S_.BroadcastsInDim S3x11264 (![] : Fin 0 → Fin S3x11264.rank)
  slices_S2x11264_S1x11264_1_0 : S2x11264.Slices ![1, 0] S1x11264
  shapeCasts_S1x11264_S11264 : S1x11264.ShapeCasts S11264
  bcast_S_S11264 : S_.BroadcastsInDim S11264 (![] : Fin 0 → Fin S11264.rank)

variable [Facts]

def fn_part1 {F : FTy → Type} [FloatOps F] (main_v3 : IVec S4096x2048 1) (main_v7 : IVec S5632x2048 1) (main_v11 : IVec S2x4096x5632 1) (main_v16 : IVec S3x11264 1) (main_v19 : FVec F S11264 .f32) : IVec S4096x2048 1 × IVec S5632x2048 1 × IVec S2x4096x5632 1 × IVec S3x11264 1 × IVec S11264 1 :=
  let main_cst_3 : FVec F S_ .f32 := constant S_ .f32 0x7F800000#32
  let main_v20 : FVec F S11264 .f32 := broadcastInDim S11264 ![] bcast_S_S11264 main_cst_3
  let main_v21 : IVec S11264 1 := cmpf .olt main_v19 main_v20
  (main_v3, main_v7, main_v11, main_v16, main_v21)

def fn {F : FTy → Type} [FloatOps F] (main_arg0 : FVec F S4096x2048 .bf16) (main_arg1 : FVec F S5632x2048 .bf16) (main_arg2 : FVec F S2x4096x5632 .bf16) (main_arg3 : FVec F S2x3x11264 .f32) (main_arg4 : FVec F S2x11264 .f32) : IVec S4096x2048 1 × IVec S5632x2048 1 × IVec S2x4096x5632 1 × IVec S3x11264 1 × IVec S11264 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S2x4096x5632 .f32 := (extf .f32 · bitsLt_bf16_f32) main_arg2
  let main_v9 : FVec F S2x4096x5632 .f32 := Host.absf main_v8
  let main_cst_1 : FVec F S_ .f32 := constant S_ .f32 0x7F800000#32
  let main_v10 : FVec F S2x4096x5632 .f32 := broadcastInDim S2x4096x5632 ![] bcast_S_S2x4096x5632 main_cst_1
  let main_v11 : IVec S2x4096x5632 1 := cmpf .olt main_v9 main_v10
  let main_v12 : FVec F S1x3x11264 .f32 := (extractStridedSlice S1x3x11264 ![1, 0, 0] · slices_S2x3x11264_S1x3x11264_1_0_0) main_arg3
  let main_v13 : FVec F S3x11264 .f32 := shapeCast S3x11264 main_v12 shapeCasts_S1x3x11264_S3x11264
  let main_v14 : FVec F S3x11264 .f32 := Host.absf main_v13
  let main_cst_2 : FVec F S_ .f32 := constant S_ .f32 0x7F800000#32
  let main_v15 : FVec F S3x11264 .f32 := broadcastInDim S3x11264 ![] bcast_S_S3x11264 main_cst_2
  let main_v16 : IVec S3x11264 1 := cmpf .olt main_v14 main_v15
  let main_v17 : FVec F S1x11264 .f32 := (extractStridedSlice S1x11264 ![1, 0] · slices_S2x11264_S1x11264_1_0) main_arg4
  let main_v18 : FVec F S11264 .f32 := shapeCast S11264 main_v17 shapeCasts_S1x11264_S11264
  let main_v19 : FVec F S11264 .f32 := Host.absf main_v18
  fn_part1 (F := F) main_v3 main_v7 main_v11 main_v16 main_v19
-- ==== Pre_all_finite2.lean ====
abbrev S2x4096x5632 : Shape := ⟨3, ![2, 4096, 5632]⟩
abbrev S4x2048x2816 : Shape := ⟨3, ![4, 2048, 2816]⟩
abbrev S4096x2048 : Shape := ⟨2, ![4096, 2048]⟩
abbrev S2048 : Shape := ⟨1, ![2048]⟩
abbrev S_ : Shape := ⟨0, ![]⟩

class Facts : Prop where
  bitsLt_bf16_f32 : FTy.bits .bf16 < FTy.bits .f32
  bcast_S_S2x4096x5632 : S_.BroadcastsInDim S2x4096x5632 (![] : Fin 0 → Fin S2x4096x5632.rank)
  bcast_S_S4x2048x2816 : S_.BroadcastsInDim S4x2048x2816 (![] : Fin 0 → Fin S4x2048x2816.rank)
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S2x4096x5632 .bf16) (main_arg1 : FVec F S4x2048x2816 .bf16) (main_arg2 : FVec F S4096x2048 .f32) (main_arg3 : FVec F S4096x2048 .f32) (main_arg4 : FVec F S2048 .f32) (main_arg5 : FVec F S2048 .f32) : IVec S2x4096x5632 1 × IVec S4x2048x2816 1 × IVec S4096x2048 1 × IVec S4096x2048 1 × IVec S2048 1 :=
  let main_v0 : FVec F S2x4096x5632 .f32 := (extf .f32 · bitsLt_bf16_f32) main_arg0
  let main_v1 : FVec F S2x4096x5632 .f32 := Host.absf main_v0
  let main_cst : FVec F S_ .f32 := constant S_ .f32 0x7F800000#32
  let main_v2 : FVec F S2x4096x5632 .f32 := broadcastInDim S2x4096x5632 ![] bcast_S_S2x4096x5632 main_cst
  let main_v3 : IVec S2x4096x5632 1 := cmpf .olt main_v1 main_v2
  let main_v4 : FVec F S4x2048x2816 .f32 := (extf .f32 · bitsLt_bf16_f32) main_arg1
  let main_v5 : FVec F S4x2048x2816 .f32 := Host.absf main_v4
  let main_cst_0 : FVec F S_ .f32 := constant S_ .f32 0x7F800000#32
  let main_v6 : FVec F S4x2048x2816 .f32 := broadcastInDim S4x2048x2816 ![] bcast_S_S4x2048x2816 main_cst_0
  let main_v7 : IVec S4x2048x2816 1 := cmpf .olt main_v5 main_v6
  let main_v8 : FVec F S4096x2048 .f32 := Host.absf main_arg2
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  let main_v11 : FVec F S4096x2048 .f32 := Host.absf main_arg3
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_v14 : FVec F S2048 .f32 := Host.absf main_arg4
  let main_cst_3 : FVec F S_ .f32 := constant S_ .f32 0x7F800000#32
  let main_v15 : FVec F S2048 .f32 := broadcastInDim S2048 ![] bcast_S_S2048 main_cst_3
  let main_v16 : IVec S2048 1 := cmpf .olt main_v14 main_v15
  (main_v3, main_v7, main_v10, main_v13, main_v16)
-- ==== Pre_all_finite9.lean ====
abbrev S4096x8192 : Shape := ⟨2, ![4096, 8192]⟩
abbrev S4x2048x2048 : Shape := ⟨3, ![4, 2048, 2048]⟩
abbrev S4096x2048 : Shape := ⟨2, ![4096, 2048]⟩
abbrev S2048 : Shape := ⟨1, ![2048]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  bcast_S_S4x2048x2048 : S_.BroadcastsInDim S4x2048x2048 (![] : Fin 0 → Fin S4x2048x2048.rank)
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x8192 .bf16) (main_arg1 : FVec F S4x2048x2048 .bf16) (main_arg2 : FVec F S4096x2048 .f32) (main_arg3 : FVec F S4096x2048 .f32) (main_arg4 : FVec F S2048 .f32) (main_arg5 : FVec F S2048 .f32) : IVec S4096x8192 1 × IVec S4x2048x2048 1 × IVec S4096x2048 1 × IVec S4096x2048 1 × IVec S2048 1 :=
  let main_v0 : FVec F S4096x8192 .f32 := (extf .f32 · bitsLt_bf16_f32) main_arg0
  let main_v1 : FVec F S4096x8192 .f32 := Host.absf main_v0
  let main_cst : FVec F S_ .f32 := constant S_ .f32 0x7F800000#32
  let main_v2 : FVec F S4096x8192 .f32 := broadcastInDim S4096x8192 ![] bcast_S_S4096x8192 main_cst
  let main_v3 : IVec S4096x8192 1 := cmpf .olt main_v1 main_v2
  let main_v4 : FVec F S4x2048x2048 .f32 := (extf .f32 · bitsLt_bf16_f32) main_arg1
  let main_v5 : FVec F S4x2048x2048 .f32 := Host.absf main_v4
  let main_cst_0 : FVec F S_ .f32 := constant S_ .f32 0x7F800000#32
  let main_v6 : FVec F S4x2048x2048 .f32 := broadcastInDim S4x2048x2048 ![] bcast_S_S4x2048x2048 main_cst_0
  let main_v7 : IVec S4x2048x2048 1 := cmpf .olt main_v5 main_v6
  let main_v8 : FVec F S4096x2048 .f32 := Host.absf main_arg2
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  let main_v11 : FVec F S4096x2048 .f32 := Host.absf main_arg3
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_v14 : FVec F S2048 .f32 := Host.absf main_arg4
  let main_cst_3 : FVec F S_ .f32 := constant S_ .f32 0x7F800000#32
  let main_v15 : FVec F S2048 .f32 := broadcastInDim S2048 ![] bcast_S_S2048 main_cst_3
  let main_v16 : IVec S2048 1 := cmpf .olt main_v14 main_v15
  (main_v3, main_v7, main_v10, main_v13, main_v16)
-- ==== Kernel.lean ====
abbrev S4096x2048 : Shape := ⟨2, ![4096, 2048]⟩
abbrev S5632x2048 : Shape := ⟨2, ![5632, 2048]⟩
abbrev S2x4096x5632 : Shape := ⟨3, ![2, 4096, 5632]⟩
abbrev S2x3x11264 : Shape := ⟨3, ![2, 3, 11264]⟩
abbrev S2x11264 : Shape := ⟨2, ![2, 11264]⟩
abbrev S1x3x11264 : Shape := ⟨3, ![1, 3, 11264]⟩
abbrev S3x11264 : Shape := ⟨2, ![3, 11264]⟩
abbrev S3x2x1x5632 : Shape := ⟨4, ![3, 2, 1, 5632]⟩
abbrev S1x11264 : Shape := ⟨2, ![1, 11264]⟩
abbrev S11264 : Shape := ⟨1, ![11264]⟩
abbrev S2x1x5632 : Shape := ⟨3, ![2, 1, 5632]⟩
abbrev S1x2x1x5632 : Shape := ⟨4, ![1, 2, 1, 5632]⟩
abbrev S2x2x5632 : Shape := ⟨3, ![2, 2, 5632]⟩
abbrev S_ : Shape := ⟨0, ![]⟩
abbrev S2x4094x5632 : Shape := ⟨3, ![2, 4094, 5632]⟩
abbrev S2x4095x5632 : Shape := ⟨3, ![2, 4095, 5632]⟩
abbrev S1x5632x2048 : Shape := ⟨3, ![1, 5632, 2048]⟩
abbrev S2x3x5632 : Shape := ⟨3, ![2, 3, 5632]⟩
abbrev S512x2048 : Shape := ⟨2, ![512, 2048]⟩
abbrev S1x512x2048 : Shape := ⟨3, ![1, 512, 2048]⟩
abbrev S2x512x512 : Shape := ⟨3, ![2, 512, 512]⟩
abbrev S1x3x512 : Shape := ⟨3, ![1, 3, 512]⟩
abbrev S2x3x512 : Shape := ⟨3, ![2, 3, 512]⟩
abbrev S2x1x512 : Shape := ⟨3, ![2, 1, 512]⟩
abbrev S2x8x512 : Shape := ⟨3, ![2, 8, 512]⟩
abbrev S512x512 : Shape := ⟨2, ![512, 512]⟩
abbrev S512x256 : Shape := ⟨2, ![512, 256]⟩
abbrev S1x512x256 : Shape := ⟨3, ![1, 512, 256]⟩
abbrev S1x3x256 : Shape := ⟨3, ![1, 3, 256]⟩
abbrev S3x256 : Shape := ⟨2, ![3, 256]⟩
abbrev S1x8x256 : Shape := ⟨3, ![1, 8, 256]⟩
abbrev S8x256 : Shape := ⟨2, ![8, 256]⟩
abbrev S520x256 : Shape := ⟨2, ![520, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 43
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S2x3x11264, .f32⟩
  | .hbm, ⟨4, _⟩ => ⟨S2x11264, .f32⟩
  | .hbm, ⟨5, _⟩ => ⟨S2x4096x5632, .f32⟩
  | .hbm, ⟨6, _⟩ => ⟨S1x3x11264, .f32⟩
  | .hbm, ⟨7, _⟩ => ⟨S3x11264, .f32⟩
  | .hbm, ⟨8, _⟩ => ⟨S3x2x1x5632, .f32⟩
  | .hbm, ⟨9, _⟩ => ⟨S1x11264, .f32⟩
  | .hbm, ⟨10, _⟩ => ⟨S11264, .f32⟩
  | .hbm, ⟨11, _⟩ => ⟨S2x1x5632, .f32⟩
  | .hbm, ⟨12, _⟩ => ⟨S1x2x1x5632, .f32⟩
  | .hbm, ⟨13, _⟩ => ⟨S2x1x5632, .f32⟩
  | .hbm, ⟨14, _⟩ => ⟨S2x4096x5632, .f32⟩
  | .hbm, ⟨15, _⟩ => ⟨S2x4096x5632, .f32⟩
  | .hbm, ⟨16, _⟩ => ⟨S2x4096x5632, .f32⟩
  | .hbm, ⟨17, _⟩ => ⟨S2x4096x5632, .f32⟩
  | .hbm, ⟨18, _⟩ => ⟨S1x2x1x5632, .f32⟩
  | .hbm, ⟨19, _⟩ => ⟨S2x1x5632, .f32⟩
  | .hbm, ⟨20, _⟩ => ⟨S2x2x5632, .f32⟩
  | .hbm, ⟨21, _⟩ => ⟨S_, .f32⟩
  | .hbm, ⟨22, _⟩ => ⟨S2x2x5632, .f32⟩
  | .hbm, ⟨23, _⟩ => ⟨S2x4094x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S2x4096x5632, .f32⟩
  | .hbm, ⟨28, _⟩ => ⟨S1x2x1x5632, .f32⟩
  | .hbm, ⟨29, _⟩ => ⟨S2x1x5632, .f32⟩
  | .hbm, ⟨30, _⟩ => ⟨S2x1x5632, .f32⟩
  | .hbm, ⟨31, _⟩ => ⟨S_, .f32⟩
  | .hbm, ⟨32, _⟩ => ⟨S2x1x5632, .f32⟩
  | .hbm, ⟨33, _⟩ => ⟨S2x4095x5632, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S2x4096x5632, .f32⟩
  | .hbm, ⟨38, _⟩ => ⟨S1x5632x2048, .bf16⟩
  | .hbm, ⟨39, _⟩ => ⟨S2x4096x5632, .bf16⟩
  | .hbm, ⟨40, _⟩ => ⟨S2x4096x5632, .bf16⟩
  | .hbm, ⟨41, _⟩ => ⟨S2x3x5632, .f32⟩
  | .hbm, ⟨42, _⟩ => ⟨S2x1x5632, .f32⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2x512x512, .bf16⟩
  | .local _ .vmem, ⟨5, _⟩ => ⟨S2x512x512, .bf16⟩
  | .local _ .vmem, ⟨6, _⟩ => ⟨S2x512x512, .bf16⟩
  | .local _ .vmem, ⟨7, _⟩ => ⟨S2x512x512, .bf16⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S2x512x512, .bf16⟩
  | .local _ .vmem, ⟨13, _⟩ => ⟨S2x512x512, .bf16⟩
  | .local _ .vmem, ⟨14, _⟩ => ⟨S2x3x512, .f32⟩
  | .local _ .vmem, ⟨15, _⟩ => ⟨S2x3x512, .f32⟩
  | .local _ .vmem, ⟨16, _⟩ => ⟨S2x1x512, .f32⟩
  | .local _ .vmem, ⟨17, _⟩ => ⟨S2x1x512, .f32⟩
  | .local _ .vmem, ⟨18, _⟩ => ⟨S2x8x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev main_v33_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x2048 : Shape := ⟨2, ![4096, 2048]⟩
abbrev S5632x2048 : Shape := ⟨2, ![5632, 2048]⟩
abbrev S2x4096x5632 : Shape := ⟨3, ![2, 4096, 5632]⟩
abbrev S2x3x11264 : Shape := ⟨3, ![2, 3, 11264]⟩
abbrev S2x11264 : Shape := ⟨2, ![2, 11264]⟩
abbrev S1x4096x5632 : Shape := ⟨3, ![1, 4096, 5632]⟩
abbrev S4096x5632 : Shape := ⟨2, ![4096, 5632]⟩
abbrev S4096x11264 : Shape := ⟨2, ![4096, 11264]⟩
abbrev S1x4096x11264 : Shape := ⟨3, ![1, 4096, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x1x11264 : Shape := ⟨3, ![1, 1, 11264]⟩
abbrev S1x2x11264 : Shape := ⟨3, ![1, 2, 11264]⟩
abbrev S_ : Shape := ⟨0, ![]⟩
abbrev S1x4094x11264 : Shape := ⟨3, ![1, 4094, 11264]⟩
abbrev S1x4095x11264 : Shape := ⟨3, ![1, 4095, 11264]⟩
abbrev S1x4096x2048 : Shape := ⟨3, ![1, 4096, 2048]⟩
abbrev S3x5632 : Shape := ⟨2, ![3, 5632]⟩
abbrev S1x3x5632 : Shape := ⟨3, ![1, 3, 5632]⟩
abbrev S2x3x5632 : Shape := ⟨3, ![2, 3, 5632]⟩
abbrev S1x5632 : Shape := ⟨2, ![1, 5632]⟩
abbrev S1x1x5632 : Shape := ⟨3, ![1, 1, 5632]⟩
abbrev S2x1x5632 : Shape := ⟨3, ![2, 1, 5632]⟩

abbrev nBuf : Space → Nat
  | .hbm => 146
  | .vmem => 0
  | .smem => 0
  | _ => 0

abbrev hbmTy0_0 (i : Nat) : BufTy := match i % 128 with
  | 0 => ⟨S4096x2048, .bf16⟩
  | 1 => ⟨S5632x2048, .bf16⟩
  | 2 => ⟨S2x4096x5632, .bf16⟩
  | 3 => ⟨S2x3x11264, .f32⟩
  | 4 => ⟨S2x11264, .f32⟩
  | 5 => ⟨S1x4096x5632, .bf16⟩
  | 6 => ⟨S4096x5632, .bf16⟩
  | 7 => ⟨S1x4096x5632, .bf16⟩
  | 8 => ⟨S4096x5632, .bf16⟩
  | 9 => ⟨S4096x11264, .bf16⟩
  | 10 => ⟨S1x4096x11264, .bf16⟩
  | 11 => ⟨S1x4096x11264, .f32⟩
  | 12 => ⟨S1x3x11264, .f32⟩
  | 13 => ⟨S3x11264, .f32⟩
  | 14 => ⟨S1x11264, .f32⟩
  | 15 => ⟨S11264, .f32⟩
  | 16 => ⟨S5632x2048, .f32⟩
  | 17 => ⟨S1x11264, .f32⟩
  | 18 => ⟨S11264, .f32⟩
  | 19 => ⟨S1x1x11264, .f32⟩
  | 20 => ⟨S1x4096x11264, .f32⟩
  | 21 => ⟨S1x4096x11264, .f32⟩
  | 22 => ⟨S1x1x11264, .f32⟩
  | 23 => ⟨S1x4096x11264, .f32⟩
  | 24 => ⟨S1x4096x11264, .f32⟩
  | 25 => ⟨S1x11264, .f32⟩
  | 26 => ⟨S11264, .f32⟩
  | 27 => ⟨S1x2x11264, .f32⟩
  | 28 => ⟨S_, .f32⟩
  | 29 => ⟨S1x2x11264, .f32⟩
  | 30 => ⟨S1x4094x11264, .f32⟩
  | 31 => ⟨S1x4096x11264, .f32⟩
  | 32 => ⟨S_, .f32⟩
  | 33 => ⟨S1x2x11264, .f32⟩
  | 34 => ⟨S1x1x11264, .f32⟩
  | 35 => ⟨S1x4096x11264, .f32⟩
  | 36 => ⟨S1x4096x11264, .f32⟩
  | 37 => ⟨S1x4096x11264, .f32⟩
  | 38 => ⟨S1x11264, .f32⟩
  | 39 => ⟨S11264, .f32⟩
  | 40 => ⟨S1x1x11264, .f32⟩
  | 41 => ⟨S_, .f32⟩
  | 42 => ⟨S1x1x11264, .f32⟩
  | 43 => ⟨S1x4095x11264, .f32⟩
  | 44 => ⟨S1x4096x11264, .f32⟩
  | 45 => ⟨S_, .f32⟩
  | 46 => ⟨S1x1x11264, .f32⟩
  | 47 => ⟨S1x1x11264, .f32⟩
  | 48 => ⟨S1x4096x11264, .f32⟩
  | 49 => ⟨S1x4096x11264, .f32⟩
  | 50 => ⟨S1x4096x11264, .f32⟩
  | 51 => ⟨S1x4096x5632, .f32⟩
  | 52 => ⟨S1x4096x5632, .f32⟩
  | 53 => ⟨S1x4096x5632, .f32⟩
  | 54 => ⟨S1x4096x5632, .f32⟩
  | 55 => ⟨S_, .f32⟩
  | 56 => ⟨S1x4096x5632, .f32⟩
  | 57 => ⟨S1x4096x5632, .f32⟩
  | 58 => ⟨S_, .f32⟩
  | 59 => ⟨S1x4096x5632, .f32⟩
  | 60 => ⟨S1x4096x5632, .f32⟩
  | 61 => ⟨S_, .f32⟩
  | 62 => ⟨S1x4096x5632, .f32⟩
  | 63 => ⟨S1x4096x5632, .f32⟩
  | 64 => ⟨S1x4096x5632, .f32⟩
  | 65 => ⟨S1x4096x5632, .f32⟩
  | 66 => ⟨S1x4096x5632, .f32⟩
  | 67 => ⟨S1x4096x2048, .f32⟩
  | 68 => ⟨S1x4096x2048, .bf16⟩
  | 69 => ⟨S1x4096x2048, .f32⟩
  | 70 => ⟨S1x4096x5632, .f32⟩
  | 71 => ⟨S1x4096x5632, .f32⟩
  | 72 => ⟨S1x4096x5632, .f32⟩
  | 73 => ⟨S1x4096x5632, .f32⟩
  | 74 => ⟨S1x4096x5632, .f32⟩
  | 75 => ⟨S1x4096x5632, .f32⟩
  | 76 => ⟨S1x4096x5632, .f32⟩
  | 77 => ⟨S1x4096x11264, .f32⟩
  | 78 => ⟨S1x4096x11264, .f32⟩
  | 79 => ⟨S1x4096x11264, .f32⟩
  | 80 => ⟨S1x4096x11264, .f32⟩
  | 81 => ⟨S_, .f32⟩
  | 82 => ⟨S1x11264, .f32⟩
  | 83 => ⟨S1x1x11264, .f32⟩
  | 84 => ⟨S_, .f32⟩
  | 85 => ⟨S11264, .f32⟩
  | 86 => ⟨S1x1x11264, .f32⟩
  | 87 => ⟨S1x4095x11264, .f32⟩
  | 88 => ⟨S_, .f32⟩
  | 89 => ⟨S1x4096x11264, .f32⟩
  | 90 => ⟨S1x11264, .f32⟩
  | 91 => ⟨S_, .f32⟩
  | 92 => ⟨S3x11264, .f32⟩
  | 93 => ⟨S1x4096x11264, .f32⟩
  | 94 => ⟨S1x4096x11264, .f32⟩
  | 95 => ⟨S1x4096x11264, .f32⟩
  | 96 => ⟨S_, .f32⟩
  | 97 => ⟨S1x11264, .f32⟩
  | 98 => ⟨S1x1x11264, .f32⟩
  | 99 => ⟨S_, .f32⟩
  | 100 => ⟨S11264, .f32⟩
  | 101 => ⟨S1x2x11264, .f32⟩
  | 102 => ⟨S1x4094x11264, .f32⟩
  | 103 => ⟨S_, .f32⟩
  | 104 => ⟨S1x4096x11264, .f32⟩
  | 105 => ⟨S1x4096x11264, .f32⟩
  | 106 => ⟨S1x11264, .f32⟩
  | 107 => ⟨S_, .f32⟩
  | 108 => ⟨S3x11264, .f32⟩
  | 109 => ⟨S3x11264, .f32⟩
  | 110 => ⟨S_, .f32⟩
  | 111 => ⟨S1x11264, .f32⟩
  | 112 => ⟨S1x1x11264, .f32⟩
  | 113 => ⟨S_, .f32⟩
  | 114 => ⟨S11264, .f32⟩
  | 115 => ⟨S1x4096x11264, .f32⟩
  | 116 => ⟨S1x4096x11264, .f32⟩
  | 117 => ⟨S1x4096x11264, .f32⟩
  | 118 => ⟨S1x4096x11264, .f32⟩
  | 119 => ⟨S_, .f32⟩
  | 120 => ⟨S1x11264, .f32⟩
  | 121 => ⟨S1x1x11264, .f32⟩
  | 122 => ⟨S_, .f32⟩
  | 123 => ⟨S11264, .f32⟩
  | 124 => ⟨S1x11264, .f32⟩
  | 125 => ⟨S_, .f32⟩
  | 126 => ⟨S3x11264, .f32⟩
  | 127 => ⟨S3x11264, .f32⟩
  | _ => ⟨S4096x2048, .bf16⟩

abbrev hbmTy0_1 (i : Nat) : BufTy := match i % 128 with
  | 0 => ⟨S4096x11264, .f32⟩
  | 1 => ⟨S4096x11264, .bf16⟩
  | 2 => ⟨S4096x5632, .bf16⟩
  | 3 => ⟨S4096x5632, .bf16⟩
  | 4 => ⟨S1x4096x5632, .bf16⟩
  | 5 => ⟨S1x4096x5632, .bf16⟩
  | 6 => ⟨S2x4096x5632, .bf16⟩
  | 7 => ⟨S3x5632, .f32⟩
  | 8 => ⟨S3x5632, .f32⟩
  | 9 => ⟨S1x3x5632, .f32⟩
  | 10 => ⟨S1x3x5632, .f32⟩
  | 11 => ⟨S2x3x5632, .f32⟩
  | 12 => ⟨S1x11264, .f32⟩
  | 13 => ⟨S1x5632, .f32⟩
  | 14 => ⟨S1x5632, .f32⟩
  | 15 => ⟨S1x1x5632, .f32⟩
  | 16 => ⟨S1x1x5632, .f32⟩
  | 17 => ⟨S2x1x5632, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_v44_2 : Ref sig .tc := ⟨.hbm, 60, rfl⟩
abbrev main_call0_cst_1 : Ref sig .tc := ⟨.hbm, 61, rfl⟩
abbrev main_call0_v6 : Ref sig .tc := ⟨.hbm, 62, rfl⟩
abbrev main_call0_v7 : Ref sig .tc := ⟨.hbm, 63, rfl⟩
abbrev main_v44_1 : Ref sig .tc := ⟨.hbm, 64, rfl⟩
abbrev main_v44_0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_3 : Ref sig .tc := ⟨.hbm, 81, rfl⟩
abbrev main_v57 : Ref sig .tc := ⟨.hbm, 82, rfl⟩
abbrev main_v58 : Ref sig .tc := ⟨.hbm, 83, rfl⟩
abbrev main_cst_4 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_5 : Ref sig .tc := ⟨.hbm, 88, rfl⟩
abbrev main_v62 : Ref sig .tc := ⟨.hbm, 89, rfl⟩
abbrev main_v63 : Ref sig .tc := ⟨.hbm, 90, rfl⟩
abbrev main_cst_6 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_cst_8 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_9 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_10 : Ref sig .tc := ⟨.hbm, 107, rfl⟩
abbrev main_v76 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_13 : Ref sig .tc := ⟨.hbm, 119, rfl⟩
abbrev main_v85 : Ref sig .tc := ⟨.hbm, 120, rfl⟩
abbrev main_v86 : Ref sig .tc := ⟨.hbm, 121, rfl⟩
abbrev main_cst_14 : Ref sig .tc := ⟨.hbm, 122, rfl⟩
abbrev main_v87 : Ref sig .tc := ⟨.hbm, 123, rfl⟩
abbrev main_v88 : Ref sig .tc := ⟨.hbm, 124, rfl⟩
abbrev main_cst_15 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]
-- ==== Kernel2.lean ====
abbrev S2x4096x5632 : Shape := ⟨3, ![2, 4096, 5632]⟩
abbrev S4x2048x2816 : Shape := ⟨3, ![4, 2048, 2816]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x4x2048x2816 : Shape := ⟨4, ![1, 4, 2048, 2816]⟩
abbrev S1x2048 : Shape := ⟨2, ![1, 2048]⟩
abbrev S1x512x1408 : Shape := ⟨3, ![1, 512, 1408]⟩
abbrev S1x1x2048x1408 : Shape := ⟨4, ![1, 1, 2048, 1408]⟩
abbrev S512x2048 : Shape := ⟨2, ![512, 2048]⟩
abbrev S512x1 : Shape := ⟨2, ![512, 1]⟩
abbrev S2048x1408 : Shape := ⟨2, ![2048, 1408]⟩
abbrev S512x1408 : Shape := ⟨2, ![512, 1408]⟩
abbrev S128x2048 : Shape := ⟨2, ![128, 2048]⟩
abbrev S128x1 : Shape := ⟨2, ![128, 1]⟩
abbrev S128 : Shape := ⟨1, ![128]⟩

abbrev nBuf : Space → Nat
  | .hbm => 35
  | .vmem => 18
  | .smem => 0
  | _ => 0

abbrev bufTy : (tb : Table) → Fin (tcTables nBuf tb) → BufTy
  | .hbm, ⟨0, _⟩ => ⟨S2x4096x5632, .bf16⟩
  | .hbm, ⟨1, _⟩ => ⟨S4x2048x2816, .bf16⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S1x4x2048x2816, .bf16⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S4096x2048, .f32⟩
  | .hbm, ⟨32, _⟩ => ⟨S4096x2048, .bf16⟩
  | .hbm, ⟨33, _⟩ => ⟨S1x2048, .f32⟩
  | .hbm, ⟨34, _⟩ => ⟨S1x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x1, .f32⟩
  | .local _ .vmem, ⟨9, _⟩ => ⟨S512x1, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x2048, .f32⟩
  | .local _ .vmem, ⟨17, _⟩ => ⟨S512x2048, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def k0_cond3 (i : grid0.Coords) : BitVec 1 :=
  let arg0 : BitVec 32 := BitVec.ofNat 32 (i 0).val
  let c0_i32_12 : BitVec 32 := 0#32
  let v16 : BitVec 1 := Scalar.cmpi .eq arg0 c0_i32_12
  let v17 : BitVec 32 := Scalar.extui v16
  let c0_i32_13 : BitVec 32 := 0#32
  let v18 : BitVec 1 := Scalar.cmpi .ne v17 c0_i32_13
  v18

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S2x4096x5632 : Shape := ⟨3, ![2, 4096, 5632]⟩
abbrev S4x2048x2816 : Shape := ⟨3, ![4, 2048, 2816]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x2048x2816 : Shape := ⟨3, ![1, 2048, 2816]⟩
abbrev S2048x2816 : Shape := ⟨2, ![2048, 2816]⟩
abbrev S2048x11264 : Shape := ⟨2, ![2048, 11264]⟩
abbrev S4096x11264 : Shape := ⟨2, ![4096, 11264]⟩
abbrev S1x4096x5632 : Shape := ⟨3, ![1, 4096, 5632]⟩
abbrev S4096x5632 : Shape := ⟨2, ![4096, 5632]⟩

abbrev nBuf : Space → Nat
  | .hbm => 114
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S4x2048x2816, .bf16⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S1x2048x2816, .bf16⟩
  | .hbm, ⟨46, _⟩ => ⟨S2048x2816, .bf16⟩
  | .hbm, ⟨47, _⟩ => ⟨S1x2048x2816, .bf16⟩
  | .hbm, ⟨48, _⟩ => ⟨S2048x2816, .bf16⟩
  | .hbm, ⟨49, _⟩ => ⟨S1x2048x2816, .bf16⟩
  | .hbm, ⟨50, _⟩ => ⟨S2048x2816, .bf16⟩
  | .hbm, ⟨51, _⟩ => ⟨S1x2048x2816, .bf16⟩
  | .hbm, ⟨52, _⟩ => ⟨S2048x2816, .bf16⟩
  | .hbm, ⟨53, _⟩ => ⟨S2048x11264, .bf16⟩
  | .hbm, ⟨54, _⟩ => ⟨S2048x11264, .f32⟩
  | .hbm, ⟨55, _⟩ => ⟨S4096x11264, .f32⟩
  | .hbm, ⟨56, _⟩ => ⟨S1x4096x5632, .bf16⟩
  | .hbm, ⟨57, _⟩ => ⟨S4096x5632, .bf16⟩
  | .hbm, ⟨58, _⟩ => ⟨S1x4096x5632, .bf16⟩
  | .hbm, ⟨59, _⟩ => ⟨S4096x5632, .bf16⟩
  | .hbm, ⟨60, _⟩ => ⟨S4096x11264, .bf16⟩
  | .hbm, ⟨61, _⟩ => ⟨S4096x11264, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S_, .f32⟩
  | .hbm, ⟨71, _⟩ => ⟨S2048, .f32⟩
  | .hbm, ⟨72, _⟩ => ⟨S4096x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S2048, .f32⟩
  | .hbm, ⟨80, _⟩ => ⟨S4096x2048, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x2048, .f32⟩
  | .hbm, ⟨85, _⟩ => ⟨S4096x2048, .f32⟩
  | .hbm, ⟨86, _⟩ => ⟨S4096x1, .f32⟩
  | .hbm, ⟨87, _⟩ => ⟨S4096x2048, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S4096x2048, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x2048, .f32⟩
  | .hbm, ⟨110, _⟩ => ⟨S4096x2048, .f32⟩
  | .hbm, ⟨111, _⟩ => ⟨S4096x2048, .bf16⟩
  | .hbm, ⟨112, _⟩ => ⟨S1x2048, .f32⟩
  | .hbm, ⟨113, _⟩ => ⟨S1x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]
-- ==== Kernel3.lean ====
abbrev S4096x2048 : Shape := ⟨2, ![4096, 2048]⟩
abbrev S2x4096x5632 : Shape := ⟨3, ![2, 4096, 5632]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .f32⟩
  | .hbm, ⟨8, _⟩ => ⟨S2048x11264, .f32⟩
  | .hbm, ⟨9, _⟩ => ⟨S4096x2048, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S1x2048x2816, .f32⟩
  | .hbm, ⟨19, _⟩ => ⟨S1x2048x2816, .f32⟩
  | .hbm, ⟨20, _⟩ => ⟨S1x2048x2816, .f32⟩
  | .hbm, ⟨21, _⟩ => ⟨S1x2048x2816, .f32⟩
  | .hbm, ⟨22, _⟩ => ⟨S4x2048x2816, .f32⟩
  | .hbm, ⟨23, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S1x5632x2048 : Shape := ⟨3, ![1, 5632, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S1x5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x3072 : Shape := ⟨2, ![4096, 3072]⟩
abbrev S4x2048x768 : Shape := ⟨3, ![4, 2048, 768]⟩
abbrev S4096x2048 : Shape := ⟨2, ![4096, 2048]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩
abbrev S128x2048 : Shape := ⟨2, ![128, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S4x2048x768, .bf16⟩
  | .hbm, ⟨2, _⟩ => ⟨S4096x2048, .f32⟩
  | .hbm, ⟨3, _⟩ => ⟨S4096x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S4096x3072 : Shape := ⟨2, ![4096, 3072]⟩
abbrev S4x2048x768 : Shape := ⟨3, ![4, 2048, 768]⟩
abbrev S4096x2048 : Shape := ⟨2, ![4096, 2048]⟩
abbrev S_ : Shape := ⟨0, ![]⟩
abbrev S1x2048x768 : Shape := ⟨3, ![1, 2048, 768]⟩
abbrev S2048x768 : Shape := ⟨2, ![2048, 768]⟩
abbrev S2048x3072 : Shape := ⟨2, ![2048, 3072]⟩

abbrev nBuf : Space → Nat
  | .hbm => 25
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4x2048x768, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S1x2048x768, .bf16⟩
  | .hbm, ⟨9, _⟩ => ⟨S2048x768, .bf16⟩
  | .hbm, ⟨10, _⟩ => ⟨S1x2048x768, .bf16⟩
  | .hbm, ⟨11, _⟩ => ⟨S2048x768, .bf16⟩
  | .hbm, ⟨12, _⟩ => ⟨S1x2048x768, .bf16⟩
  | .hbm, ⟨13, _⟩ => ⟨S2048x768, .bf16⟩
  | .hbm, ⟨14, _⟩ => ⟨S1x2048x768, .bf16⟩
  | .hbm, ⟨15, _⟩ => ⟨S2048x768, .bf16⟩
  | .hbm, ⟨16, _⟩ => ⟨S2048x3072, .bf16⟩
  | .hbm, ⟨17, _⟩ => ⟨S2048x3072, .f32⟩
  | .hbm, ⟨18, _⟩ => ⟨S4096x3072, .f32⟩
  | .hbm, ⟨19, _⟩ => ⟨S4096x3072, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel8.lean ====
abbrev S4096x2048 : Shape := ⟨2, ![4096, 2048]⟩
abbrev S4096x3072 : Shape := ⟨2, ![4096, 3072]⟩
abbrev S4x2048x768 : Shape := ⟨3, ![4, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩
abbrev S2048x768 : Shape := ⟨2, ![2048, 768]⟩
abbrev S1x2048x768 : Shape := ⟨3, ![1, 2048, 768]⟩
abbrev S4x2048x768 : Shape := ⟨3, ![4, 2048, 768]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .f32⟩
  | .hbm, ⟨3, _⟩ => ⟨S2048x3072, .f32⟩
  | .hbm, ⟨4, _⟩ => ⟨S4096x2048, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S1x2048x768, .f32⟩
  | .hbm, ⟨14, _⟩ => ⟨S1x2048x768, .f32⟩
  | .hbm, ⟨15, _⟩ => ⟨S1x2048x768, .f32⟩
  | .hbm, ⟨16, _⟩ => ⟨S1x2048x768, .f32⟩
  | .hbm, ⟨17, _⟩ => ⟨S4x2048x768, .f32⟩
  | .hbm, ⟨18, _⟩ => ⟨S4x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel9.lean ====
abbrev S4096x8192 : Shape := ⟨2, ![4096, 8192]⟩
abbrev S4x2048x2048 : Shape := ⟨3, ![4, 2048, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S512x1024 : Shape := ⟨2, ![512, 1024]⟩
abbrev S4x2048x256 : Shape := ⟨3, ![4, 2048, 256]⟩
abbrev S512x2048 : Shape := ⟨2, ![512, 2048]⟩
abbrev S512x1 : Shape := ⟨2, ![512, 1]⟩
abbrev S1x2048x256 : Shape := ⟨3, ![1, 2048, 256]⟩
abbrev S2048x256 : Shape := ⟨2, ![2048, 256]⟩
abbrev S2048x1024 : Shape := ⟨2, ![2048, 1024]⟩
abbrev S128x2048 : Shape := ⟨2, ![128, 2048]⟩
abbrev S128x1 : Shape := ⟨2, ![128, 1]⟩
abbrev S128 : Shape := ⟨1, ![128]⟩

abbrev nBuf : Space → Nat
  | .hbm => 34
  | .vmem => 18
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .bf16⟩
  | .hbm, ⟨32, _⟩ => ⟨S1x2048, .f32⟩
  | .hbm, ⟨33, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S4x2048x256, .bf16⟩
  | .local _ .vmem, ⟨3, _⟩ => ⟨S4x2048x256, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x1, .f32⟩
  | .local _ .vmem, ⟨9, _⟩ => ⟨S512x1, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x2048, .f32⟩
  | .local _ .vmem, ⟨17, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_15 : BitVec 32 := 0#32
  let v21 : BitVec 1 := Scalar.cmpi .ne v20 c0_i32_15
  v21

def k0_cond3 (i : grid0.Coords) : BitVec 1 :=
  let arg0 : BitVec 32 := BitVec.ofNat 32 (i 0).val
  let c0_i32_16 : BitVec 32 := 0#32
  let v22 : BitVec 1 := Scalar.cmpi .eq arg0 c0_i32_16
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference9Ideal.lean ====
abbrev S4096x8192 : Shape := ⟨2, ![4096, 8192]⟩
abbrev S4x2048x2048 : Shape := ⟨3, ![4, 2048, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8x4x256 : Shape := ⟨4, ![4096, 8, 4, 256]⟩
abbrev S4096x4x8x256 : Shape := ⟨4, ![4096, 4, 8, 256]⟩

abbrev nBuf : Space → Nat
  | .hbm => 112
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S1x2048x2048, .bf16⟩
  | .hbm, ⟨46, _⟩ => ⟨S2048x2048, .bf16⟩
  | .hbm, ⟨47, _⟩ => ⟨S1x2048x2048, .bf16⟩
  | .hbm, ⟨48, _⟩ => ⟨S2048x2048, .bf16⟩
  | .hbm, ⟨49, _⟩ => ⟨S1x2048x2048, .bf16⟩
  | .hbm, ⟨50, _⟩ => ⟨S2048x2048, .bf16⟩
  | .hbm, ⟨51, _⟩ => ⟨S1x2048x2048, .bf16⟩
  | .hbm, ⟨52, _⟩ => ⟨S2048x2048, .bf16⟩
  | .hbm, ⟨53, _⟩ => ⟨S2048x8192, .bf16⟩
  | .hbm, ⟨54, _⟩ => ⟨S2048x8192, .f32⟩
  | .hbm, ⟨55, _⟩ => ⟨S4096x8192, .f32⟩
  | .hbm, ⟨56, _⟩ => ⟨S4096x8x4x256, .bf16⟩
  | .hbm, ⟨57, _⟩ => ⟨S4096x4x8x256, .bf16⟩
  | .hbm, ⟨58, _⟩ => ⟨S4096x8192, .bf16⟩
  | .hbm, ⟨59, _⟩ => ⟨S4096x8192, .f32⟩
  | .hbm, ⟨60, _⟩ => ⟨S4096x2048, .f32⟩
  | .hbm, ⟨61, _⟩ => ⟨S_, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S_, .f32⟩
  | .hbm, ⟨69, _⟩ => ⟨S2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S4096x2048, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x2048, .f32⟩
  | .hbm, ⟨83, _⟩ => ⟨S4096x2048, .f32⟩
  | .hbm, ⟨84, _⟩ => ⟨S4096x1, .f32⟩
  | .hbm, ⟨85, _⟩ => ⟨S4096x2048, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x2048, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x2048, .f32⟩
  | .hbm, ⟨108, _⟩ => ⟨S4096x2048, .f32⟩
  | .hbm, ⟨109, _⟩ => ⟨S4096x2048, .bf16⟩
  | .hbm, ⟨110, _⟩ => ⟨S1x2048, .f32⟩
  | .hbm, ⟨111, _⟩ => ⟨S1x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== Kernel10.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1024x256, .bf16⟩
  | .local _ .vmem, ⟨5, _⟩ => ⟨S4x1024x256, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x8192 : Shape := ⟨2, ![4096, 8192]⟩
abbrev S4096x8x4x256 : Shape := ⟨4, ![4096, 8, 4, 256]⟩
abbrev S4096x4x8x256 : Shape := ⟨4, ![4096, 4, 8, 256]⟩
abbrev S_ : Shape := ⟨0, ![]⟩
abbrev S2048x8192 : Shape := ⟨2, ![2048, 8192]⟩
abbrev S8192x2048 : Shape := ⟨2, ![8192, 2048]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x8x4x256, .bf16⟩
  | .hbm, ⟨3, _⟩ => ⟨S4096x4x8x256, .bf16⟩
  | .hbm, ⟨4, _⟩ => ⟨S4096x8192, .bf16⟩
  | .hbm, ⟨5, _⟩ => ⟨S_, .f32⟩
  | .hbm, ⟨6, _⟩ => ⟨S2048x8192, .f32⟩
  | .hbm, ⟨7, _⟩ => ⟨S4096x2048, .f32⟩
  | .hbm, ⟨8, _⟩ => ⟨S4096x8192, .f32⟩
  | .hbm, ⟨9, _⟩ => ⟨S4096x8192, .f32⟩
  | .hbm, ⟨10, _⟩ => ⟨S8192x2048, .f32⟩
  | .hbm, ⟨11, _⟩ => ⟨S2048x8192, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S4x2048x2048, .f32⟩
  | .hbm, ⟨21, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel11.lean ====
abbrev S4096x2048 : Shape := ⟨2, ![4096, 2048]⟩
abbrev S4x2048x2816 : Shape := ⟨3, ![4, 2048, 2816]⟩
abbrev S2x3x11264 : Shape := ⟨3, ![2, 3, 11264]⟩
abbrev S2x11264 : Shape := ⟨2, ![2, 11264]⟩
abbrev S1x4x2048x2816 : Shape := ⟨4, ![1, 4, 2048, 2816]⟩
abbrev S2x1x11264 : Shape := ⟨3, ![2, 1, 11264]⟩
abbrev S2x4096x5632 : Shape := ⟨3, ![2, 4096, 5632]⟩
abbrev S4096x5632 : Shape := ⟨2, ![4096, 5632]⟩
abbrev S1024x2048 : Shape := ⟨2, ![1024, 2048]⟩
abbrev S1x1x2048x256 : Shape := ⟨4, ![1, 1, 2048, 256]⟩
abbrev S1x3x256 : Shape := ⟨3, ![1, 3, 256]⟩
abbrev S1x1x256 : Shape := ⟨3, ![1, 1, 256]⟩
abbrev S2x1024x256 : Shape := ⟨3, ![2, 1024, 256]⟩
abbrev S1024x256 : Shape := ⟨2, ![1024, 256]⟩
abbrev S2x8x256 : Shape := ⟨3, ![2, 8, 256]⟩
abbrev S2048x256 : Shape := ⟨2, ![2048, 256]⟩
abbrev S1x8x256 : Shape := ⟨3, ![1, 8, 256]⟩
abbrev S8x256 : Shape := ⟨2, ![8, 256]⟩
abbrev S1032x256 : Shape := ⟨2, ![1032, 256]⟩
abbrev S3x256 : Shape := ⟨2, ![3, 256]⟩
abbrev S1x256 : Shape := ⟨2, ![1, 256]⟩
abbrev S1x1024x256 : Shape := ⟨3, ![1, 1024, 256]⟩

abbrev nBuf : Space → Nat
  | .hbm => 9
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S2x3x11264, .f32⟩
  | .hbm, ⟨3, _⟩ => ⟨S2x11264, .f32⟩
  | .hbm, ⟨4, _⟩ => ⟨S1x4x2048x2816, .bf16⟩
  | .hbm, ⟨5, _⟩ => ⟨S2x1x11264, .f32⟩
  | .hbm, ⟨6, _⟩ => ⟨S2x4096x5632, .bf16⟩
  | .hbm, ⟨7, _⟩ => ⟨S2x4096x5632, .bf16⟩
  | .hbm, ⟨8, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1x2048x256, .bf16⟩
  | .local _ .vmem, ⟨5, _⟩ => ⟨S1x1x2048x256, .bf16⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S2x1024x256, .bf16⟩
  | .local _ .vmem, ⟨15, _⟩ => ⟨S2x1024x256, .bf16⟩
  | .local _ .vmem, ⟨16, _⟩ => ⟨S2x1024x256, .bf16⟩
  | .local _ .vmem, ⟨17, _⟩ => ⟨S2x1024x256, .bf16⟩
  | .local _ .vmem, ⟨18, _⟩ => ⟨S1024x256, .bf16⟩
  | .local _ .vmem, ⟨19, _⟩ => ⟨S1024x256, .bf16⟩
  | .local _ .vmem, ⟨20, _⟩ => ⟨S2x8x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![22, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![c0_i32_10.toNat, v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference11Ideal.lean ====
abbrev S4096x2048 : Shape := ⟨2, ![4096, 2048]⟩
abbrev S4x2048x2816 : Shape := ⟨3, ![4, 2048, 2816]⟩
abbrev S2x3x11264 : Shape := ⟨3, ![2, 3, 11264]⟩
abbrev S2x11264 : Shape := ⟨2, ![2, 11264]⟩
abbrev S1x2048x2816 : Shape := ⟨3, ![1, 2048, 2816]⟩
abbrev S2048x2816 : Shape := ⟨2, ![2048, 2816]⟩
abbrev S2048x11264 : Shape := ⟨2, ![2048, 11264]⟩
abbrev S4096x11264 : Shape := ⟨2, ![4096, 11264]⟩
abbrev S1x4096x11264 : Shape := ⟨3, ![1, 4096, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x1x11264 : Shape := ⟨3, ![1, 1, 11264]⟩
abbrev S1x2x11264 : Shape := ⟨3, ![1, 2, 11264]⟩
abbrev S_ : Shape := ⟨0, ![]⟩
abbrev S1x4094x11264 : Shape := ⟨3, ![1, 4094, 11264]⟩
abbrev S1x4095x11264 : Shape := ⟨3, ![1, 4095, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S2x3x11264, .f32⟩
  | .hbm, ⟨3, _⟩ => ⟨S2x11264, .f32⟩
  | .hbm, ⟨4, _⟩ => ⟨S4096x2048, .f32⟩
  | .hbm, ⟨5, _⟩ => ⟨S1x2048x2816, .bf16⟩
  | .hbm, ⟨6, _⟩ => ⟨S2048x2816, .bf16⟩
  | .hbm, ⟨7, _⟩ => ⟨S1x2048x2816, .bf16⟩
  | .hbm, ⟨8, _⟩ => ⟨S2048x2816, .bf16⟩
  | .hbm, ⟨9, _⟩ => ⟨S1x2048x2816, .bf16⟩
  | .hbm, ⟨10, _⟩ => ⟨S2048x2816, .bf16⟩
  | .hbm, ⟨11, _⟩ => ⟨S1x2048x2816, .bf16⟩
  | .hbm, ⟨12, _⟩ => ⟨S2048x2816, .bf16⟩
  | .hbm, ⟨13, _⟩ => ⟨S2048x11264, .bf16⟩
  | .hbm, ⟨14, _⟩ => ⟨S2048x11264, .f32⟩
  | .hbm, ⟨15, _⟩ => ⟨S4096x11264, .f32⟩
  | .hbm, ⟨16, _⟩ => ⟨S1x4096x11264, .f32⟩
  | .hbm, ⟨17, _⟩ => ⟨S1x3x11264, .f32⟩
  | .hbm, ⟨18, _⟩ => ⟨S3x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S11264, .f32⟩
  | .hbm, ⟨23, _⟩ => ⟨S1x1x11264, .f32⟩
  | .hbm, ⟨24, _⟩ => ⟨S1x4096x11264, .f32⟩
  | .hbm, ⟨25, _⟩ => ⟨S1x4096x11264, .f32⟩
  | .hbm, ⟨26, _⟩ => ⟨S1x1x11264, .f32⟩
  | .hbm, ⟨27, _⟩ => ⟨S1x4096x11264, .f32⟩
  | .hbm, ⟨28, _⟩ => ⟨S1x4096x11264, .f32⟩
  | .hbm, ⟨29, _⟩ => ⟨S1x11264, .f32⟩
  | .hbm, ⟨30, _⟩ => ⟨S11264, .f32⟩
  | .hbm, ⟨31, _⟩ => ⟨S1x2x11264, .f32⟩
  | .hbm, ⟨32, _⟩ => ⟨S_, .f32⟩
  | .hbm, ⟨33, _⟩ => ⟨S1x2x11264, .f32⟩
  | .hbm, ⟨34, _⟩ => ⟨S1x4094x11264, .f32⟩
  | .hbm, ⟨35, _⟩ => ⟨S1x4096x11264, .f32⟩
  | .hbm, ⟨36, _⟩ => ⟨S1x1x11264, .f32⟩
  | .hbm, ⟨37, _⟩ => ⟨S1x4096x11264, .f32⟩
  | .hbm, ⟨38, _⟩ => ⟨S1x4096x11264, .f32⟩
  | .hbm, ⟨39, _⟩ => ⟨S1x4096x11264, .f32⟩
  | .hbm, ⟨40, _⟩ => ⟨S1x11264, .f32⟩
  | .hbm, ⟨41, _⟩ => ⟨S11264, .f32⟩
  | .hbm, ⟨42, _⟩ => ⟨S1x1x11264, .f32⟩
  | .hbm, ⟨43, _⟩ => ⟨S_, .f32⟩
  | .hbm, ⟨44, _⟩ => ⟨S1x1x11264, .f32⟩
  | .hbm, ⟨45, _⟩ => ⟨S1x4095x11264, .f32⟩
  | .hbm, ⟨46, _⟩ => ⟨S1x4096x11264, .f32⟩
  | .hbm, ⟨47, _⟩ => ⟨S1x1x11264, .f32⟩
  | .hbm, ⟨48, _⟩ => ⟨S1x4096x11264, .f32⟩
  | .hbm, ⟨49, _⟩ => ⟨S1x4096x11264, .f32⟩
  | .hbm, ⟨50, _⟩ => ⟨S1x4096x11264, .f32⟩
  | .hbm, ⟨51, _⟩ => ⟨S4096x11264, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S1x4096x5632, .f32⟩
  | .hbm, ⟨57, _⟩ => ⟨S1x4096x5632, .f32⟩
  | .hbm, ⟨58, _⟩ => ⟨S2x4096x5632, .f32⟩
  | .hbm, ⟨59, _⟩ => ⟨S2x4096x5632, .bf16⟩
  | .hbm, ⟨60, _⟩ => ⟨S4096x5632, .f32⟩
  | .hbm, ⟨61, _⟩ => ⟨S4096x5632, .f32⟩
  | .hbm, ⟨62, _⟩ => ⟨S1x4096x5632, .f32⟩
  | .hbm, ⟨63, _⟩ => ⟨S1x4096x5632, .f32⟩
  | .hbm, ⟨64, _⟩ => ⟨S2x4096x5632, .f32⟩
  | .hbm, ⟨65, _⟩ => ⟨S2x4096x5632, .bf16⟩
  | .hbm, ⟨66, _⟩ => ⟨S4096x5632, .f32⟩
  | .hbm, ⟨67, _⟩ => ⟨S4096x5632, .f32⟩
  | .hbm, ⟨68, _⟩ => ⟨S_, .f32⟩
  | .hbm, ⟨69, _⟩ => ⟨S4096x5632, .f32⟩
  | .hbm, ⟨70, _⟩ => ⟨S4096x5632, .f32⟩
  | .hbm, ⟨71, _⟩ => ⟨S_, .f32⟩
  | .hbm, ⟨72, _⟩ => ⟨S4096x5632, .f32⟩
  | .hbm, ⟨73, _⟩ => ⟨S4096x5632, .f32⟩
  | .hbm, ⟨74, _⟩ => ⟨S4096x5632, .f32⟩
  | .hbm, ⟨75, _⟩ => ⟨S4096x5632, .f32⟩
  | .hbm, ⟨76, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_0 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Kernel12.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S4x2048x256 : Shape := ⟨3, ![4, 2048, 256]⟩
abbrev S1024x1024 : Shape := ⟨2, ![1024, 1024]⟩
abbrev S1x2048x256 : Shape := ⟨3, ![1, 2048, 256]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S4x2048x256, .bf16⟩
  | .local _ .vmem, ⟨3, _⟩ => ⟨S4x2048x256, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8192 : Shape := ⟨2, ![4096, 8192]⟩
abbrev S4096x4x8x256 : Shape := ⟨4, ![4096, 4, 8, 256]⟩
abbrev S4096x8x4x256 : Shape := ⟨4, ![4096, 8, 4, 256]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S1x2048x2048, .bf16⟩
  | .hbm, ⟨4, _⟩ => ⟨S2048x2048, .bf16⟩
  | .hbm, ⟨5, _⟩ => ⟨S1x2048x2048, .bf16⟩
  | .hbm, ⟨6, _⟩ => ⟨S2048x2048, .bf16⟩
  | .hbm, ⟨7, _⟩ => ⟨S1x2048x2048, .bf16⟩
  | .hbm, ⟨8, _⟩ => ⟨S2048x2048, .bf16⟩
  | .hbm, ⟨9, _⟩ => ⟨S1x2048x2048, .bf16⟩
  | .hbm, ⟨10, _⟩ => ⟨S2048x2048, .bf16⟩
  | .hbm, ⟨11, _⟩ => ⟨S2048x8192, .bf16⟩
  | .hbm, ⟨12, _⟩ => ⟨S2048x8192, .f32⟩
  | .hbm, ⟨13, _⟩ => ⟨S4096x8192, .f32⟩
  | .hbm, ⟨14, _⟩ => ⟨S4096x4x8x256, .f32⟩
  | .hbm, ⟨15, _⟩ => ⟨S4096x8x4x256, .f32⟩
  | .hbm, ⟨16, _⟩ => ⟨S4096x8192, .f32⟩
  | .hbm, ⟨17, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel13.lean ====
abbrev S4096x2048 : Shape := ⟨2, ![4096, 2048]⟩
abbrev S4x2048x768 : Shape := ⟨3, ![4, 2048, 768]⟩
abbrev S4096x3072 : Shape := ⟨2, ![4096, 3072]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x768, .bf16⟩
  | .hbm, ⟨2, _⟩ => ⟨S4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x2048 : Shape := ⟨2, ![4096, 2048]⟩
abbrev S4x2048x768 : Shape := ⟨3, ![4, 2048, 768]⟩
abbrev S1x2048x768 : Shape := ⟨3, ![1, 2048, 768]⟩
abbrev S2048x768 : Shape := ⟨2, ![2048, 768]⟩
abbrev S2048x3072 : Shape := ⟨2, ![2048, 3072]⟩
abbrev S4096x3072 : Shape := ⟨2, ![4096, 3072]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x768, .bf16⟩
  | .hbm, ⟨2, _⟩ => ⟨S4096x2048, .f32⟩
  | .hbm, ⟨3, _⟩ => ⟨S1x2048x768, .bf16⟩
  | .hbm, ⟨4, _⟩ => ⟨S2048x768, .bf16⟩
  | .hbm, ⟨5, _⟩ => ⟨S1x2048x768, .bf16⟩
  | .hbm, ⟨6, _⟩ => ⟨S2048x768, .bf16⟩
  | .hbm, ⟨7, _⟩ => ⟨S1x2048x768, .bf16⟩
  | .hbm, ⟨8, _⟩ => ⟨S2048x768, .bf16⟩
  | .hbm, ⟨9, _⟩ => ⟨S1x2048x768, .bf16⟩
  | .hbm, ⟨10, _⟩ => ⟨S2048x768, .bf16⟩
  | .hbm, ⟨11, _⟩ => ⟨S2048x3072, .bf16⟩
  | .hbm, ⟨12, _⟩ => ⟨S2048x3072, .f32⟩
  | .hbm, ⟨13, _⟩ => ⟨S4096x3072, .f32⟩
  | .hbm, ⟨14, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel14.lean ====
abbrev S4096x5632 : Shape := ⟨2, ![4096, 5632]⟩
abbrev S5632x2048 : Shape := ⟨2, ![5632, 2048]⟩
abbrev S4096x2048 : Shape := ⟨2, ![4096, 2048]⟩
abbrev S2048 : Shape := ⟨1, ![2048]⟩
abbrev S1x5632x2048 : Shape := ⟨3, ![1, 5632, 2048]⟩
abbrev S1x2048 : Shape := ⟨2, ![1, 2048]⟩
abbrev S4096x1 : Shape := ⟨2, ![4096, 1]⟩
abbrev S512x1408 : Shape := ⟨2, ![512, 1408]⟩
abbrev S1x1408x2048 : Shape := ⟨3, ![1, 1408, 2048]⟩
abbrev S512x2048 : Shape := ⟨2, ![512, 2048]⟩
abbrev S512x1 : Shape := ⟨2, ![512, 1]⟩
abbrev S1408x2048 : Shape := ⟨2, ![1408, 2048]⟩
abbrev S128x2048 : Shape := ⟨2, ![128, 2048]⟩
abbrev S128 : Shape := ⟨1, ![128]⟩
abbrev S128x1 : Shape := ⟨2, ![128, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x5632x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .bf16⟩
  | .hbm, ⟨14, _⟩ => ⟨S4096x1, .f32⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x1, .f32⟩
  | .local _ .vmem, ⟨15, _⟩ => ⟨S512x1, .f32⟩
  | .local _ .vmem, ⟨16, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference14Ideal.lean ====
abbrev S4096x5632 : Shape := ⟨2, ![4096, 5632]⟩
abbrev S5632x2048 : Shape := ⟨2, ![5632, 2048]⟩
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x5632, .f32⟩
  | .hbm, ⟨17, _⟩ => ⟨S5632x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S1x2048, .f32⟩
  | .hbm, ⟨70, _⟩ => ⟨S4096x2048, .f32⟩
  | .hbm, ⟨71, _⟩ => ⟨S4096x2048, .f32⟩
  | .hbm, ⟨72, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S128x2048 : Shape := ⟨2, ![128, 2048]⟩
abbrev S128 : Shape := ⟨1, ![128]⟩
abbrev S128x1 : Shape := ⟨2, ![128, 1]⟩

abbrev nBuf : Space → Nat
  | .hbm => 14
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S4096x2048, .f32⟩
  | .hbm, ⟨12, _⟩ => ⟨S4096x2048, .bf16⟩
  | .hbm, ⟨13, _⟩ => ⟨S4096x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x1, .f32⟩
  | .local _ .vmem, ⟨14, _⟩ => ⟨S512x1, .f32⟩
  | .local _ .vmem, ⟨15, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference15Ideal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S2048x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S1x2048, .f32⟩
  | .hbm, ⟨70, _⟩ => ⟨S4096x2048, .f32⟩
  | .hbm, ⟨71, _⟩ => ⟨S4096x2048, .f32⟩
  | .hbm, ⟨72, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Proof.FfnMath.lean ====
module

public import Idealize.ShloMosaic.Lib.Pointwise

@[expose] public section

noncomputable section

open Idealize.ShloMosaic

namespace Cert.Ffn

variable (ct : Fin 4096 → Fin 2048 → EReal) (wd : Fin 5632 → Fin 2048 → EReal) (h : Fin 2 → Fin 4096 → Fin 5632 → EReal)
  (w : Fin 3 → Fin 11264 → EReal) (b : Fin 11264 → EReal)

/-- Column `q` of a half among the columns of both. -/
def col (p : Fin 2) (q : Fin 5632) : Fin 11264 := ⟨p * 5632 + q, by omega⟩

/-- `h` moved `s` rows down, zeros above. -/
def shifted (s : ℕ) (p : Fin 2) (r : Fin 4096) (q : Fin 5632) : EReal :=
  if _h : (r : ℕ) < s then 0 else h p ⟨r - s, by omega⟩ q

/-- The causal convolution of `h`. -/
def conv (p : Fin 2) (r : Fin 4096) (q : Fin 5632) : EReal :=
  ((b (col p q) + w 2 (col p q) * h p r q) + w 0 (col p q) * shifted h 2 p r q) + w 1 (col p q) * shifted h 1 p r q

/-- The cotangent of the gated product. -/
def df (r : Fin 4096) (q : Fin 5632) : EReal := ∑ d : Fin 2048, ct r d * wd q d

/-- The cotangent of the convolution's result: half 0 is the gate's, half 1 the value's. -/
def dconv (p : Fin 2) (r : Fin 4096) (q : Fin 5632) : EReal :=
  if (p : ℕ) < 1 then
    (df ct wd r q * conv h w b 1 r q) * (Ideal.logistic (conv h w b 0 r q)
      + (conv h w b 0 r q * Ideal.logistic (conv h w b 0 r q)) * (1 - Ideal.logistic (conv h w b 0 r q)))
  else df ct wd r q * (conv h w b 0 r q * Ideal.logistic (conv h w b 0 r q))

/-- The same at any row, zero after the last. -/
def dconvE (p : Fin 2) (n : ℕ) (q : Fin 5632) : EReal :=
  if hn : n < 4096 then dconv ct wd h w b p ⟨n, hn⟩ q else 0

/-- The gradient of `h`. -/
def dh (p : Fin 2) (r : Fin 4096) (q : Fin 5632) : EReal :=
  w 2 (col p q) * dconv ct wd h w b p r q + w 1 (col p q) * dconvE ct wd h w b p (r + 1) q
    + w 0 (col p q) * dconvE ct wd h w b p (r + 2) q

/-- The gradient of the taps. -/
def dw (p : Fin 2) (k : Fin 3) (q : Fin 5632) : EReal :=
  ∑ r : Fin 4096, dconvE ct wd h w b p (r + (2 - k)) q * h p r q

/-- The gradient of the bias. -/
def db (p : Fin 2) (q : Fin 5632) : EReal := ∑ r : Fin 4096, dconv ct wd h w b p r q

end Cert.Ffn
end
-- ==== Proof.BlockTerms.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn
open Cert.KernelIdeal Cert.KernelIdeal.Gen

variable (m : (ℓ : Loc nD τ sig) → Buf (Elt Ideal) ℓ)

/-- Stores that cover an index hide every earlier one there. -/
theorem canon_append_of_cover {S : Shape} {e : EltTy} {Val : EltTy → Type} [∀ e, Nonempty (Val e)] (L' : List (View.Piece Val S e)) :
    ∀ (L : List (View.Piece Val S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans ?_ (View.canon_cons_of_not_mem p L hm).symm)
      refine canon_append_of_cover L' L y ?_
      obtain ⟨q, hq, hyq⟩ := hy
      rcases List.mem_cons.mp hq with rfl | hq
      · exact absurd hyq hm
      · exact ⟨q, hq, hyq⟩

/-- The cotangent of the gated product, a row block against a column block. -/
def dF (X0 : FVec Ideal S512x2048 .bf16) (X1 : FVec Ideal S1x512x2048 .bf16) (r q : Fin 512) : EReal :=
  ∑ d : Fin 2048, X0 (ix2 r d) * X1 (ix3 0 q d)

/-- The cotangent of the convolution's output: half 0 is the gate's, half 1 the value's. -/
def dC (X0 : FVec Ideal S512x2048 .bf16) (X1 : FVec Ideal S1x512x2048 .bf16) (X3 : FVec Ideal S2x512x512 .bf16) (h : Fin 2) (r q : Fin 512) : EReal :=
  if (h : ℕ) < 1 then
    (dF X0 X1 r q * X3 (ix3 1 r q)) * (Ideal.logistic (X3 (ix3 0 r q))
      + (X3 (ix3 0 r q) * Ideal.logistic (X3 (ix3 0 r q))) * (1 - Ideal.logistic (X3 (ix3 0 r q))))
  else dF X0 X1 r q * (X3 (ix3 0 r q) * Ideal.logistic (X3 (ix3 0 r q)))

/-- The same with the eight rows after the block, read in the halo `E`. -/
def dE (X0 : FVec Ideal S512x2048 .bf16) (X1 : FVec Ideal S1x512x2048 .bf16) (X3 : FVec Ideal S2x512x512 .bf16) (E : Fin 2 → ℕ → Fin 512 → EReal) (h : Fin 2) (n : ℕ) (q : Fin 512) : EReal :=
  if hn : n < 512 then dC X0 X1 X3 h ⟨n, hn⟩ q else E h (n - 512) q

/-- The halo a scratch block holds. -/
def halo (Z : FVec Ideal S2x8x512 .f32) (h : Fin 2) (n : ℕ) (q : Fin 512) : EReal :=
  if hn : n < 8 then Z (ix3 h ⟨n, hn⟩ q) else 0

/-- The convolution's taps on a half's column block. -/
def tap (X4 X5 : FVec Ideal S1x3x512 .f32) (h : Fin 2) (k : Fin 3) (q : Fin 512) : EReal :=
  if (h : ℕ) < 1 then X4 (ix3 0 k q) else X5 (ix3 0 k q)

end Cert.KernelIdeal.Ffn
end
-- ==== Proof.Payloads.lean ====
module

public import proofs.«01_k».proof.Proof.BlockTerms
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn
open Cert.KernelIdeal Cert.KernelIdeal.Gen

variable (m : (ℓ : Loc nD τ sig) → Buf (Elt Ideal) ℓ)

/-- The product with the down projection at an entry. -/
theorem pay6_at (X0 : FVec Ideal S512x2048 .bf16) (X1 : FVec Ideal S1x512x2048 .bf16) (r q : Fin 512) :
    (k0_pay6 (F := Ideal) X0 X1 (ix2 r q) : EReal) = dF X0 X1 r q := by
  pointwise [k0_pay6, dF]

/-- The taps' gradient that this stored value adds up, at tap 0. -/
theorem pay20_0 (v21 v27 : FVec Ideal S512x256 .f32) (v30 v31 : FVec Ideal S520x256 .f32) (v43 : FVec Ideal S1x3x256 .f32) (q : Fin 256) :
    (k0_pay20 (F := Ideal) v21 v27 v30 v31 v43 (ix3 0 0 q) : EReal) = v43 (ix3 0 0 q) + ∑ r : Fin 512, v30 (ix2 ⟨r + 2, by omega⟩ q) * v27 (ix2 r q) := by
  have e2 : ∀ r : Fin 512, ((r : ℕ) + 520 - 518) % 520 = r + 2 := fun r => by omega
  pointwise [k0_pay20, k0_pay18, e2]

/-- The taps' gradient that this stored value adds up, at tap 1. -/
theorem pay20_1 (v21 v27 : FVec Ideal S512x256 .f32) (v30 v31 : FVec Ideal S520x256 .f32) (v43 : FVec Ideal S1x3x256 .f32) (q : Fin 256) :
    (k0_pay20 (F := Ideal) v21 v27 v30 v31 v43 (ix3 0 1 q) : EReal) = v43 (ix3 0 1 q) + ∑ r : Fin 512, v31 (ix2 ⟨r, by omega⟩ q) * v27 (ix2 r q) := by
  pointwise [k0_pay20, k0_pay17]

/-- The taps' gradient that this stored value adds up, at tap 2. -/
theorem pay20_2 (v21 v27 : FVec Ideal S512x256 .f32) (v30 v31 : FVec Ideal S520x256 .f32) (v43 : FVec Ideal S1x3x256 .f32) (q : Fin 256) :
    (k0_pay20 (F := Ideal) v21 v27 v30 v31 v43 (ix3 0 2 q) : EReal) = v43 (ix3 0 2 q) + ∑ r : Fin 512, v21 (ix2 r q) * v27 (ix2 r q) := by
  pointwise [k0_pay20]

/-- The taps' gradient that this stored value adds up, at tap 0. -/
theorem pay32_0 (d g s1 : FVec Ideal S512x256 .f32) (acc : FVec Ideal S3x256 .f32) (s2 : FVec Ideal S256 .f32) (q : Fin 256) :
    (k0_pay32 (F := Ideal) d g s1 acc s2 (ix3 0 0 q) : EReal) = acc (ix2 0 q) + s2 (ix1 q) := by
  pointwise [k0_pay32]

/-- The taps' gradient that this stored value adds up, at tap 1. -/
theorem pay32_1 (d g s1 : FVec Ideal S512x256 .f32) (acc : FVec Ideal S3x256 .f32) (s2 : FVec Ideal S256 .f32) (q : Fin 256) :
    (k0_pay32 (F := Ideal) d g s1 acc s2 (ix3 0 1 q) : EReal) = acc (ix2 1 q) + ∑ r : Fin 512, s1 (ix2 r q) * g (ix2 r q) := by
  pointwise [k0_pay32]

/-- The taps' gradient that this stored value adds up, at tap 2. -/
theorem pay32_2 (d g s1 : FVec Ideal S512x256 .f32) (acc : FVec Ideal S3x256 .f32) (s2 : FVec Ideal S256 .f32) (q : Fin 256) :
    (k0_pay32 (F := Ideal) d g s1 acc s2 (ix3 0 2 q) : EReal) = acc (ix2 2 q) + ∑ r : Fin 512, d (ix2 r q) * g (ix2 r q) := by
  pointwise [k0_pay32]

/-- The taps' gradient that this stored value adds up, at tap 0. -/
theorem pay51_0 (d g : FVec Ideal S512x256 .f32) (acc : FVec Ideal S3x256 .f32) (s2 s1 : FVec Ideal S1x256 .f32) (q : Fin 256) :
    (k0_pay51 (F := Ideal) d g acc s2 s1 (ix3 0 0 q) : EReal) = acc (ix2 0 q) + s2 (ix2 0 q) := by
  pointwise [k0_pay51]

/-- The taps' gradient that this stored value adds up, at tap 1. -/
theorem pay51_1 (d g : FVec Ideal S512x256 .f32) (acc : FVec Ideal S3x256 .f32) (s2 s1 : FVec Ideal S1x256 .f32) (q : Fin 256) :
    (k0_pay51 (F := Ideal) d g acc s2 s1 (ix3 0 1 q) : EReal) = acc (ix2 1 q) + s1 (ix2 0 q) := by
  pointwise [k0_pay51]

/-- The taps' gradient that this stored value adds up, at tap 2. -/
theorem pay51_2 (d g : FVec Ideal S512x256 .f32) (acc : FVec Ideal S3x256 .f32) (s2 s1 : FVec Ideal S1x256 .f32) (q : Fin 256) :
    (k0_pay51 (F := Ideal) d g acc s2 s1 (ix3 0 2 q) : EReal) = acc (ix2 2 q) + ∑ r : Fin 512, d (ix2 r q) * g (ix2 r q) := by
  pointwise [k0_pay51]

/-- The taps' gradient that this stored value adds up, at tap 0. -/
theorem pay60_0 (d g : FVec Ideal S512x256 .f32) (x : FVec Ideal S520x256 .f32) (s1 : FVec Ideal S512x256 .f32) (acc : FVec Ideal S1x3x256 .f32) (q : Fin 256) :
    (k0_pay60 (F := Ideal) d g x s1 acc (ix3 0 0 q) : EReal) = acc (ix3 0 0 q) + ∑ r : Fin 512, x (ix2 ⟨r + 2, by omega⟩ q) * g (ix2 r q) := by
  have e2 : ∀ r : Fin 512, ((r : ℕ) + 520 - 518) % 520 = r + 2 := fun r => by omega
  pointwise [k0_pay60, k0_pay58, e2]

/-- The taps' gradient that this stored value adds up, at tap 1. -/
theorem pay60_1 (d g : FVec Ideal S512x256 .f32) (x : FVec Ideal S520x256 .f32) (s1 : FVec Ideal S512x256 .f32) (acc : FVec Ideal S1x3x256 .f32) (q : Fin 256) :
    (k0_pay60 (F := Ideal) d g x s1 acc (ix3 0 1 q) : EReal) = acc (ix3 0 1 q) + ∑ r : Fin 512, s1 (ix2 r q) * g (ix2 r q) := by
  pointwise [k0_pay60]

/-- The taps' gradient that this stored value adds up, at tap 2. -/
theorem pay60_2 (d g : FVec Ideal S512x256 .f32) (x : FVec Ideal S520x256 .f32) (s1 : FVec Ideal S512x256 .f32) (acc : FVec Ideal S1x3x256 .f32) (q : Fin 256) :
    (k0_pay60 (F := Ideal) d g x s1 acc (ix3 0 2 q) : EReal) = acc (ix3 0 2 q) + ∑ r : Fin 512, d (ix2 r q) * g (ix2 r q) := by
  pointwise [k0_pay60]

end Cert.KernelIdeal.Ffn
end
-- ==== Proof.FirstPoint.lean ====
module

public import proofs.«01_k».proof.Proof.Payloads
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn
open Cert.KernelIdeal Cert.KernelIdeal.Gen

variable (m : (ℓ : Loc nD τ sig) → Buf (Elt Ideal) ℓ)

/-- The scratch buffer after the first point of a column block: the block's first rows. -/
theorem scratch_A (c : Dev nD) (t : Fin cfg0.N) (ht : t.val % 8 = 0) (y0 : Fin 2) (y1 : Fin 8) (y2 : Fin 512) :
    (outsAt0 m c t.val t.isLt).2.2.2 (ix3 y0 y1 y2) = dC (iblk m c 0 t) (iblk m c 1 t) (iblk m c 3 t) y0 ⟨y1, by omega⟩ y2 := by
  rw [outsAt0_A m c t ht]
  frame_out
  refine (canon_append_of_cover [_] [_, _, _, _] (ix3 y0 y1 y2) ?_).trans ?_
  · exact View.cover_of_tiledL (s := S2x8x512) _ S1x8x256.size (by sl_kernel_rfl) _
  canon_tiles x h
  all_goals
    idx_vars x
    try simp only [ix3_0, ix3_1, ix3_2] at h0 h1 h2
    open_payloads
    first
      | have e : (y0 : ℕ) = 0 := by omega
        obtain rfl : y0 = 0 := Fin.ext e
      | have e : (y0 : ℕ) = 1 := by omega
        obtain rfl : y0 = 1 := Fin.ext e
    clear h0
    obtain rfl : y1 = x1 := Fin.ext h1
    first
      | have e : (y2 : ℕ) = 256 + x2 := by omega
        obtain rfl : y2 = ⟨256 + x2, Nat.add_lt_add_left x2.isLt 256⟩ := Fin.ext e
      | have e : (y2 : ℕ) = x2 := by omega
        obtain rfl : y2 = ⟨x2, Nat.lt_of_lt_of_le x2.isLt (by decide)⟩ := Fin.ext e
    pointwise [dC, dF]

set_option maxHeartbeats 8000000 in
/-- The bias' gradient after the first point of a column block. -/
theorem out8_A (c : Dev nD) (t : Fin cfg0.N) (ht : t.val % 8 = 0) (y0 : Fin 2) (y1 : Fin 1) (y2 : Fin 512) :
    (outsAt0 m c t.val t.isLt).2.2.1 (ix3 y0 y1 y2)
      = 0 + ∑ r : Fin 512, dC (iblk m c 0 t) (iblk m c 1 t) (iblk m c 3 t) y0 r y2 := by
  rw [outsAt0_A m c t ht]
  frame_open
  (try simp (disch := decide) only [↓ View.readCov_skip, ↓ View.readCov_cons_toLoadRect, ↓ View.readCov_fill])
  frame_out
  try simp only [read_unread_whole]
  refine (canon_append_of_cover [_] [_, _, _, _] (ix3 y0 y1 y2) ?_).trans ?_
  · exact View.cover_of_tiledL (s := S2x1x512) _ S1x1x256.size (by sl_kernel_rfl) _
  canon_tiles x h
  all_goals
    idx_vars x
    try simp only [ix3_0, ix3_1, ix3_2] at h0 h1 h2
    open_payloads
    first
      | have e : (y0 : ℕ) = 0 := by omega
        obtain rfl : y0 = 0 := Fin.ext e
      | have e : (y0 : ℕ) = 1 := by omega
        obtain rfl : y0 = 1 := Fin.ext e
    clear h0
    obtain rfl : y1 = x1 := Fin.ext h1
    first
      | have e : (y2 : ℕ) = 256 + x2 := by omega
        obtain rfl : y2 = ⟨256 + x2, Nat.add_lt_add_left x2.isLt 256⟩ := Fin.ext e
      | have e : (y2 : ℕ) = x2 := by omega
        obtain rfl : y2 = ⟨x2, Nat.lt_of_lt_of_le x2.isLt (by decide)⟩ := Fin.ext e
    pointwise [k0_pay5, dC, dF]

set_option maxHeartbeats 8000000 in
/-- The block of the input's gradient at the first point of a column block. -/
theorem out6_A (c : Dev nD) (t : Fin cfg0.N) (ht : t.val % 8 = 0) (y0 : Fin 2) (y1 : Fin 512) (y2 : Fin 512) :
    (outsAt0 m c t.val t.isLt).1 (ix3 y0 y1 y2)
      = tap (iblk m c 4 t) (iblk m c 5 t) y0 2 y2 * dC (iblk m c 0 t) (iblk m c 1 t) (iblk m c 3 t) y0 y1 y2
        + tap (iblk m c 4 t) (iblk m c 5 t) y0 1 y2 * dE (iblk m c 0 t) (iblk m c 1 t) (iblk m c 3 t) (fun _ _ _ => 0) y0 (y1 + 1) y2
        + tap (iblk m c 4 t) (iblk m c 5 t) y0 0 y2 * dE (iblk m c 0 t) (iblk m c 1 t) (iblk m c 3 t) (fun _ _ _ => 0) y0 (y1 + 2) y2 := by
  rw [outsAt0_A m c t ht]
  frame_open
  (try simp (disch := decide) only [↓ View.readCov_skip, ↓ View.readCov_cons_toLoadRect, ↓ View.readCov_fill])
  frame_out
  try simp only [read_unread_whole]
  canon_tiles x h
  all_goals
    idx_vars x
    try simp only [ix3_0, ix3_1, ix3_2] at h0 h1 h2
    open_payloads
    first
      | have e : (y0 : ℕ) = 0 := by omega
        obtain rfl : y0 = 0 := Fin.ext e
      | have e : (y0 : ℕ) = 1 := by omega
        obtain rfl : y0 = 1 := Fin.ext e
    clear h0
    obtain rfl : y1 = x1 := Fin.ext h1
    first
      | have e : (y2 : ℕ) = 256 + x2 := by omega
        obtain rfl : y2 = ⟨256 + x2, Nat.add_lt_add_left x2.isLt 256⟩ := Fin.ext e
      | have e : (y2 : ℕ) = x2 := by omega
        obtain rfl : y2 = ⟨x2, Nat.lt_of_lt_of_le x2.isLt (by decide)⟩ := Fin.ext e
    have e1 : ((y1 : ℕ) + 520 - 519) % 520 = y1 + 1 := by omega
    have e2 : ((y1 : ℕ) + 520 - 518) % 520 = y1 + 2 := by omega
    pointwise [dC, dF, dE, halo, tap, e1, e2]

set_option maxHeartbeats 8000000 in
/-- The taps' gradient after the first point of a column block. -/
theorem out7_A (c : Dev nD) (t : Fin cfg0.N) (ht : t.val % 8 = 0) (y0 : Fin 2) (y1 : Fin 3) (y2 : Fin 512) :
    (outsAt0 m c t.val t.isLt).2.1 (ix3 y0 y1 y2)
      = 0 + ∑ r : Fin 512, dE (iblk m c 0 t) (iblk m c 1 t) (iblk m c 3 t) (fun _ _ _ => 0) y0 (r + (2 - y1)) y2 * iblk m c 2 t (ix3 y0 r y2) := by
  rw [outsAt0_A m c t ht]
  frame_open
  (try simp (disch := decide) only [↓ View.readCov_skip, ↓ View.readCov_cons_toLoadRect, ↓ View.readCov_fill])
  frame_out
  try simp only [read_unread_whole]
  refine (canon_append_of_cover [_] [_, _, _, _] (ix3 y0 y1 y2) ?_).trans ?_
  · exact View.cover_of_tiledL (s := S2x3x512) _ S1x3x256.size (by sl_kernel_rfl) _
  canon_tiles x h
  all_goals
    idx_vars x
    try simp only [ix3_0, ix3_1, ix3_2] at h0 h1 h2
    obtain rfl : x0 = 0 := Subsingleton.elim _ _
    first
      | have e : (y0 : ℕ) = 0 := by omega
        obtain rfl : y0 = 0 := Fin.ext e
      | have e : (y0 : ℕ) = 1 := by omega
        obtain rfl : y0 = 1 := Fin.ext e
    clear h0
    obtain rfl : y1 = x1 := Fin.ext h1
    first
      | have e : (y2 : ℕ) = 256 + x2 := by omega
        obtain rfl : y2 = ⟨256 + x2, Nat.add_lt_add_left x2.isLt 256⟩ := Fin.ext e
      | have e : (y2 : ℕ) = x2 := by omega
        obtain rfl : y2 = ⟨x2, Nat.lt_of_lt_of_le x2.isLt (by decide)⟩ := Fin.ext e
    have e1 : ∀ r : Fin 512, ((r : ℕ) + 520 - 519) % 520 = r + 1 := fun r => by omega
    have e2 : ∀ r : Fin 512, ((r : ℕ) + 520 - 518) % 520 = r + 2 := fun r => by omega
    have e3 : ∀ r : Fin 512, (r : ℕ) + 1 - 512 < 8 := fun r => by omega
    have e4 : ∀ r : Fin 512, (r : ℕ) + 2 - 512 < 8 := fun r => by omega
    have hy : (y1 : ℕ) = 0 ∨ (y1 : ℕ) = 1 ∨ (y1 : ℕ) = 2 := by omega
  case piece0 =>
    rcases hy with hy | hy | hy
    · obtain rfl : y1 = 0 := Fin.ext hy
      refine (pay60_0 _ _ _ _ _ x2).trans ?_
      pointwise [pay6_at, k0_pay35, k0_pay36, k0_pay38, k0_pay39, k0_pay41, k0_pay55, k0_pay56, k0_pay57, dC, dE, k0_pay3, k0_pay4, e1, e2, e3, e4]
    · obtain rfl : y1 = 1 := Fin.ext hy
      refine (pay60_1 _ _ _ _ _ x2).trans ?_
      pointwise [pay6_at, k0_pay35, k0_pay36, k0_pay38, k0_pay39, k0_pay41, k0_pay55, k0_pay56, k0_pay57, dC, dE, k0_pay3, k0_pay4, e1, e2, e3, e4]
    · obtain rfl : y1 = 2 := Fin.ext hy
      refine (pay60_2 _ _ _ _ _ x2).trans ?_
      pointwise [pay6_at, k0_pay35, k0_pay36, k0_pay38, k0_pay39, k0_pay41, k0_pay55, k0_pay56, k0_pay57, dC, dE, k0_pay3, k0_pay4, e1, e2, e3, e4]
  case piece1 =>
    rcases hy with hy | hy | hy
    · obtain rfl : y1 = 0 := Fin.ext hy
      refine (pay51_0 _ _ _ _ _ x2).trans ?_
      pointwise [pay6_at, k0_pay35, k0_pay36, k0_pay37, k0_pay38, k0_pay39, k0_pay40, k0_pay43, k0_pay44, k0_pay45, k0_pay46, k0_pay48, k0_pay49, k0_pay50, dC, dE, k0_pay3, k0_pay4, e1, e2, e3, e4]
    · obtain rfl : y1 = 1 := Fin.ext hy
      refine (pay51_1 _ _ _ _ _ x2).trans ?_
      pointwise [pay6_at, k0_pay35, k0_pay36, k0_pay37, k0_pay38, k0_pay39, k0_pay40, k0_pay43, k0_pay44, k0_pay45, k0_pay46, k0_pay48, k0_pay49, k0_pay50, dC, dE, k0_pay3, k0_pay4, e1, e2, e3, e4]
    · obtain rfl : y1 = 2 := Fin.ext hy
      refine (pay51_2 _ _ _ _ _ x2).trans ?_
      pointwise [pay6_at, k0_pay35, k0_pay36, k0_pay37, k0_pay38, k0_pay39, k0_pay40, k0_pay43, k0_pay44, k0_pay45, k0_pay46, k0_pay48, k0_pay49, k0_pay50, dC, dE, k0_pay3, k0_pay4, e1, e2, e3, e4]
  case piece2 =>
    rcases hy with hy | hy | hy
    · obtain rfl : y1 = 0 := Fin.ext hy
      refine (pay32_0 _ _ _ _ _ x2).trans ?_
      pointwise [pay6_at, k0_pay7, k0_pay8, k0_pay9, k0_pay10, k0_pay12, k0_pay25, k0_pay26, k0_pay27, k0_pay28, k0_pay30, k0_pay31, dC, dE, k0_pay3, k0_pay4, e1, e2, e3, e4]
    · obtain rfl : y1 = 1 := Fin.ext hy
      refine (pay32_1 _ _ _ _ _ x2).trans ?_
      pointwise [pay6_at, k0_pay7, k0_pay8, k0_pay9, k0_pay10, k0_pay12, k0_pay25, k0_pay26, k0_pay27, k0_pay28, k0_pay30, k0_pay31, dC, dE, k0_pay3, k0_pay4, e1, e2, e3, e4]
    · obtain rfl : y1 = 2 := Fin.ext hy
      refine (pay32_2 _ _ _ _ _ x2).trans ?_
      pointwise [pay6_at, k0_pay7, k0_pay8, k0_pay9, k0_pay10, k0_pay12, k0_pay25, k0_pay26, k0_pay27, k0_pay28, k0_pay30, k0_pay31, dC, dE, k0_pay3, k0_pay4, e1, e2, e3, e4]
  case piece3 =>
    rcases hy with hy | hy | hy
    · obtain rfl : y1 = 0 := Fin.ext hy
      refine (pay20_0 _ _ _ _ _ x2).trans ?_
      pointwise [pay6_at, k0_pay7, k0_pay8, k0_pay9, k0_pay10, k0_pay11, k0_pay14, k0_pay15, k0_pay16, dC, dE, k0_pay3, k0_pay4, e1, e2, e3, e4]
    · obtain rfl : y1 = 1 := Fin.ext hy
      refine (pay20_1 _ _ _ _ _ x2).trans ?_
      pointwise [pay6_at, k0_pay7, k0_pay8, k0_pay9, k0_pay10, k0_pay11, k0_pay14, k0_pay15, k0_pay16, dC, dE, k0_pay3, k0_pay4, e1, e2, e3, e4]
    · obtain rfl : y1 = 2 := Fin.ext hy
      refine (pay20_2 _ _ _ _ _ x2).trans ?_
      pointwise [pay6_at, k0_pay7, k0_pay8, k0_pay9, k0_pay10, k0_pay11, k0_pay14, k0_pay15, k0_pay16, dC, dE, k0_pay3, k0_pay4, e1, e2, e3, e4]

end Cert.KernelIdeal.Ffn
end
-- ==== Proof.LaterPoints.lean ====
module

public import proofs.«01_k».proof.Proof.Payloads
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn
open Cert.KernelIdeal Cert.KernelIdeal.Gen

variable (m : (ℓ : Loc nD τ sig) → Buf (Elt Ideal) ℓ)

/-- The scratch buffer after a later point: that point's first rows. -/
theorem scratch_B (c : Dev nD) (t : Fin cfg0.N) (ht : ¬ t.val % 8 = 0) (y0 : Fin 2) (y1 : Fin 8) (y2 : Fin 512) :
    (outsAt0 m c t.val t.isLt).2.2.2 (ix3 y0 y1 y2) = dC (iblk m c 0 t) (iblk m c 1 t) (iblk m c 3 t) y0 ⟨y1, by omega⟩ y2 := by
  rw [outsAt0_B m c t ht]
  frame_out
  canon_tiles x h
  all_goals
    idx_vars x
    try simp only [ix3_0, ix3_1, ix3_2] at h0 h1 h2
    open_payloads
    first
      | have e : (y0 : ℕ) = 0 := by omega
        obtain rfl : y0 = 0 := Fin.ext e
      | have e : (y0 : ℕ) = 1 := by omega
        obtain rfl : y0 = 1 := Fin.ext e
    clear h0
    obtain rfl : y1 = x1 := Fin.ext h1
    first
      | have e : (y2 : ℕ) = 256 + x2 := by omega
        obtain rfl : y2 = ⟨256 + x2, Nat.add_lt_add_left x2.isLt 256⟩ := Fin.ext e
      | have e : (y2 : ℕ) = x2 := by omega
        obtain rfl : y2 = ⟨x2, Nat.lt_of_lt_of_le x2.isLt (by decide)⟩ := Fin.ext e
    pointwise [dC, dF]

set_option maxHeartbeats 8000000 in
/-- The bias' gradient after a later point: the sum so far plus the point's rows. -/
theorem out8_B (c : Dev nD) (t : Fin cfg0.N) (ht : ¬ t.val % 8 = 0) (y0 : Fin 2) (y1 : Fin 1) (y2 : Fin 512) :
    (outsAt0 m c t.val t.isLt).2.2.1 (ix3 y0 y1 y2)
      = (outsAt0 m c (t.val - 1) (Nat.lt_of_le_of_lt (Nat.sub_le _ _) t.isLt)).2.2.1 (ix3 y0 y1 y2) + ∑ r : Fin 512, dC (iblk m c 0 t) (iblk m c 1 t) (iblk m c 3 t) y0 r y2 := by
  rw [outsAt0_B m c t ht]
  frame_open
  (try simp (disch := decide) only [↓ View.readCov_skip, ↓ View.readCov_cons_toLoadRect, ↓ View.readCov_fill])
  frame_out
  try simp only [read_unread_whole]
  canon_tiles x h
  all_goals
    idx_vars x
    try simp only [ix3_0, ix3_1, ix3_2] at h0 h1 h2
    open_payloads
    first
      | have e : (y0 : ℕ) = 0 := by omega
        obtain rfl : y0 = 0 := Fin.ext e
      | have e : (y0 : ℕ) = 1 := by omega
        obtain rfl : y0 = 1 := Fin.ext e
    clear h0
    obtain rfl : y1 = x1 := Fin.ext h1
    first
      | have e : (y2 : ℕ) = 256 + x2 := by omega
        obtain rfl : y2 = ⟨256 + x2, Nat.add_lt_add_left x2.isLt 256⟩ := Fin.ext e
      | have e : (y2 : ℕ) = x2 := by omega
        obtain rfl : y2 = ⟨x2, Nat.lt_of_lt_of_le x2.isLt (by decide)⟩ := Fin.ext e
    pointwise [dC, dF]
    obtain rfl : y1 = 0 := Subsingleton.elim _ _
    rfl

set_option maxHeartbeats 4000000 in
/-- The block of the input's gradient at a later point, whose last rows read the scratch buffer. -/
theorem out6_B (c : Dev nD) (t : Fin cfg0.N) (ht : ¬ t.val % 8 = 0) (y0 : Fin 2) (y1 : Fin 512) (y2 : Fin 512) :
    (outsAt0 m c t.val t.isLt).1 (ix3 y0 y1 y2)
      = tap (iblk m c 4 t) (iblk m c 5 t) y0 2 y2 * dC (iblk m c 0 t) (iblk m c 1 t) (iblk m c 3 t) y0 y1 y2
        + tap (iblk m c 4 t) (iblk m c 5 t) y0 1 y2 * dE (iblk m c 0 t) (iblk m c 1 t) (iblk m c 3 t) (halo (outsAt0 m c (t.val - 1) (Nat.lt_of_le_of_lt (Nat.sub_le _ _) t.isLt)).2.2.2) y0 (y1 + 1) y2
        + tap (iblk m c 4 t) (iblk m c 5 t) y0 0 y2 * dE (iblk m c 0 t) (iblk m c 1 t) (iblk m c 3 t) (halo (outsAt0 m c (t.val - 1) (Nat.lt_of_le_of_lt (Nat.sub_le _ _) t.isLt)).2.2.2) y0 (y1 + 2) y2 := by
  rw [outsAt0_B m c t ht]
  frame_open
  (try simp (disch := decide) only [↓ View.readCov_skip, ↓ View.readCov_cons_toLoadRect, ↓ View.readCov_fill])
  frame_out
  simp only [read_unread_whole]
  canon_tiles x h
  all_goals
    idx_vars x
    try simp only [ix3_0, ix3_1, ix3_2] at h0 h1 h2
    open_payloads
    first
      | have e : (y0 : ℕ) = 0 := by omega
        obtain rfl : y0 = 0 := Fin.ext e
      | have e : (y0 : ℕ) = 1 := by omega
        obtain rfl : y0 = 1 := Fin.ext e
    clear h0
    obtain rfl : y1 = x1 := Fin.ext h1
    first
      | have e : (y2 : ℕ) = 256 + x2 := by omega
        obtain rfl : y2 = ⟨256 + x2, Nat.add_lt_add_left x2.isLt 256⟩ := Fin.ext e
      | have e : (y2 : ℕ) = x2 := by omega
        obtain rfl : y2 = ⟨x2, Nat.lt_of_lt_of_le x2.isLt (by decide)⟩ := Fin.ext e
    have e1 : ((y1 : ℕ) + 520 - 519) % 520 = y1 + 1 := by omega
    have e2 : ((y1 : ℕ) + 520 - 518) % 520 = y1 + 2 := by omega
    have e3 : (y1 : ℕ) + 1 - 512 < 8 := by omega
    have e4 : (y1 : ℕ) + 2 - 512 < 8 := by omega
    pointwise [dC, dF, dE, halo, tap, e1, e2, e3, e4]

set_option maxHeartbeats 8000000 in
/-- The taps' gradient after a later point: the sums so far plus the point's rows. -/
theorem out7_B (c : Dev nD) (t : Fin cfg0.N) (ht : ¬ t.val % 8 = 0) (y0 : Fin 2) (y1 : Fin 3) (y2 : Fin 512) :
    (outsAt0 m c t.val t.isLt).2.1 (ix3 y0 y1 y2)
      = (outsAt0 m c (t.val - 1) (Nat.lt_of_le_of_lt (Nat.sub_le _ _) t.isLt)).2.1 (ix3 y0 y1 y2)
        + ∑ r : Fin 512, dE (iblk m c 0 t) (iblk m c 1 t) (iblk m c 3 t) (halo (outsAt0 m c (t.val - 1) (Nat.lt_of_le_of_lt (Nat.sub_le _ _) t.isLt)).2.2.2) y0 (r + (2 - y1)) y2 * iblk m c 2 t (ix3 y0 r y2) := by
  rw [outsAt0_B m c t ht]
  frame_open
  (try simp (disch := decide) only [↓ View.readCov_skip, ↓ View.readCov_cons_toLoadRect, ↓ View.readCov_fill])
  frame_out
  try simp only [read_unread_whole]
  canon_tiles x h
  all_goals
    idx_vars x
    try simp only [ix3_0, ix3_1, ix3_2] at h0 h1 h2
    obtain rfl : x0 = 0 := Subsingleton.elim _ _
    first
      | have e : (y0 : ℕ) = 0 := by omega
        obtain rfl : y0 = 0 := Fin.ext e
      | have e : (y0 : ℕ) = 1 := by omega
        obtain rfl : y0 = 1 := Fin.ext e
    clear h0
    obtain rfl : y1 = x1 := Fin.ext h1
    first
      | have e : (y2 : ℕ) = 256 + x2 := by omega
        obtain rfl : y2 = ⟨256 + x2, Nat.add_lt_add_left x2.isLt 256⟩ := Fin.ext e
      | have e : (y2 : ℕ) = x2 := by omega
        obtain rfl : y2 = ⟨x2, Nat.lt_of_lt_of_le x2.isLt (by decide)⟩ := Fin.ext e
    have e1 : ∀ r : Fin 512, ((r : ℕ) + 520 - 519) % 520 = r + 1 := fun r => by omega
    have e2 : ∀ r : Fin 512, ((r : ℕ) + 520 - 518) % 520 = r + 2 := fun r => by omega
    have e3 : ∀ r : Fin 512, (r : ℕ) + 1 - 512 < 8 := fun r => by omega
    have e4 : ∀ r : Fin 512, (r : ℕ) + 2 - 512 < 8 := fun r => by omega
    have hy : (y1 : ℕ) = 0 ∨ (y1 : ℕ) = 1 ∨ (y1 : ℕ) = 2 := by omega
  case piece0 =>
    rcases hy with hy | hy | hy
    · obtain rfl : y1 = 0 := Fin.ext hy
      refine (pay60_0 _ _ _ _ _ x2).trans ?_
      pointwise [pay6_at, k0_pay35, k0_pay36, k0_pay38, k0_pay39, k0_pay41, k0_pay55, k0_pay56, k0_pay57, dC, dE, halo, e1, e2, e3, e4]
    · obtain rfl : y1 = 1 := Fin.ext hy
      refine (pay60_1 _ _ _ _ _ x2).trans ?_
      pointwise [pay6_at, k0_pay35, k0_pay36, k0_pay38, k0_pay39, k0_pay41, k0_pay55, k0_pay56, k0_pay57, dC, dE, halo, e1, e2, e3, e4]
    · obtain rfl : y1 = 2 := Fin.ext hy
      refine (pay60_2 _ _ _ _ _ x2).trans ?_
      pointwise [pay6_at, k0_pay35, k0_pay36, k0_pay38, k0_pay39, k0_pay41, k0_pay55, k0_pay56, k0_pay57, dC, dE, halo, e1, e2, e3, e4]
  case piece1 =>
    rcases hy with hy | hy | hy
    · obtain rfl : y1 = 0 := Fin.ext hy
      refine (pay51_0 _ _ _ _ _ x2).trans ?_
      pointwise [pay6_at, k0_pay35, k0_pay36, k0_pay37, k0_pay38, k0_pay39, k0_pay40, k0_pay43, k0_pay44, k0_pay45, k0_pay46, k0_pay48, k0_pay49, k0_pay50, dC, dE, halo, e1, e2, e3, e4]
    · obtain rfl : y1 = 1 := Fin.ext hy
      refine (pay51_1 _ _ _ _ _ x2).trans ?_
      pointwise [pay6_at, k0_pay35, k0_pay36, k0_pay37, k0_pay38, k0_pay39, k0_pay40, k0_pay43, k0_pay44, k0_pay45, k0_pay46, k0_pay48, k0_pay49, k0_pay50, dC, dE, halo, e1, e2, e3, e4]
    · obtain rfl : y1 = 2 := Fin.ext hy
      refine (pay51_2 _ _ _ _ _ x2).trans ?_
      pointwise [pay6_at, k0_pay35, k0_pay36, k0_pay37, k0_pay38, k0_pay39, k0_pay40, k0_pay43, k0_pay44, k0_pay45, k0_pay46, k0_pay48, k0_pay49, k0_pay50, dC, dE, halo, e1, e2, e3, e4]
  case piece2 =>
    rcases hy with hy | hy | hy
    · obtain rfl : y1 = 0 := Fin.ext hy
      refine (pay32_0 _ _ _ _ _ x2).trans ?_
      pointwise [pay6_at, k0_pay7, k0_pay8, k0_pay9, k0_pay10, k0_pay12, k0_pay25, k0_pay26, k0_pay27, k0_pay28, k0_pay30, k0_pay31, dC, dE, halo, e1, e2, e3, e4]
    · obtain rfl : y1 = 1 := Fin.ext hy
      refine (pay32_1 _ _ _ _ _ x2).trans ?_
      pointwise [pay6_at, k0_pay7, k0_pay8, k0_pay9, k0_pay10, k0_pay12, k0_pay25, k0_pay26, k0_pay27, k0_pay28, k0_pay30, k0_pay31, dC, dE, halo, e1, e2, e3, e4]
    · obtain rfl : y1 = 2 := Fin.ext hy
      refine (pay32_2 _ _ _ _ _ x2).trans ?_
      pointwise [pay6_at, k0_pay7, k0_pay8, k0_pay9, k0_pay10, k0_pay12, k0_pay25, k0_pay26, k0_pay27, k0_pay28, k0_pay30, k0_pay31, dC, dE, halo, e1, e2, e3, e4]
  case piece3 =>
    rcases hy with hy | hy | hy
    · obtain rfl : y1 = 0 := Fin.ext hy
      refine (pay20_0 _ _ _ _ _ x2).trans ?_
      pointwise [pay6_at, k0_pay7, k0_pay8, k0_pay9, k0_pay10, k0_pay11, k0_pay14, k0_pay15, k0_pay16, dC, dE, halo, e1, e2, e3, e4]
    · obtain rfl : y1 = 1 := Fin.ext hy
      refine (pay20_1 _ _ _ _ _ x2).trans ?_
      pointwise [pay6_at, k0_pay7, k0_pay8, k0_pay9, k0_pay10, k0_pay11, k0_pay14, k0_pay15, k0_pay16, dC, dE, halo, e1, e2, e3, e4]
    · obtain rfl : y1 = 2 := Fin.ext hy
      refine (pay20_2 _ _ _ _ _ x2).trans ?_
      pointwise [pay6_at, k0_pay7, k0_pay8, k0_pay9, k0_pay10, k0_pay11, k0_pay14, k0_pay15, k0_pay16, dC, dE, halo, e1, e2, e3, e4]

end Cert.KernelIdeal.Ffn
end
-- ==== Proof.KernelValue.lean ====
module

public import proofs.«01_k».proof.Proof.FfnMath
public import proofs.«01_k».proof.Proof.FirstPoint
public import proofs.«01_k».proof.Proof.LaterPoints
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn
open Cert.KernelIdeal Cert.KernelIdeal.Gen Cert.Ffn

variable (m : (ℓ : Loc nD τ sig) → Buf (Elt Ideal) ℓ)

/-- The gradient at the FFN's output. -/
def ctK (c : Dev nD) (r : Fin 4096) (d : Fin 2048) : EReal := m ((c : Thread nD τ).loc main_arg0) (ix2 r d)
/-- The down projection. -/
def wdK (c : Dev nD) (q : Fin 5632) (d : Fin 2048) : EReal := m ((c : Thread nD τ).loc main_arg1) (ix2 q d)
/-- The convolution's input, in two halves. -/
def hK (c : Dev nD) (p : Fin 2) (r : Fin 4096) (q : Fin 5632) : EReal := m ((c : Thread nD τ).loc main_arg2) (ix3 p r q)
/-- The layer's taps. -/
def wK (c : Dev nD) (k : Fin 3) (q : Fin 11264) : EReal := m ((c : Thread nD τ).loc main_arg3) (ix3 1 k q)
/-- The layer's bias. -/
def bK (c : Dev nD) (q : Fin 11264) : EReal := m ((c : Thread nD τ).loc main_arg4) (ix2 1 q)

/-- The blocks that a point reads and writes. -/
theorem idx : ∀ t : Fin cfg0.N, win0_0.index t = ![7 - t.val % 8, 0] ∧ win0_1.index t = ![0, t.val / 8, 0]
    ∧ win0_2.index t = ![0, 7 - t.val % 8, t.val / 8] ∧ win0_3.index t = ![0, 7 - t.val % 8, t.val / 8]
    ∧ win0_4.index t = ![1, 0, t.val / 8] ∧ win0_5.index t = ![1, 0, 11 + t.val / 8]
    ∧ win0_6.index t = ![0, 7 - t.val % 8, t.val / 8] ∧ win0_7.index t = ![0, 0, t.val / 8]
    ∧ win0_8.index t = ![0, 0, t.val / 8] := (by decide +kernel : ∀ t : Fin grid0.N, _)

/-- A row of the point's row block. -/
def row (t : Fin cfg0.N) (r : Fin 512) : Fin 4096 := ⟨512 * (7 - t.val % 8) + r, by omega⟩
/-- A column of the point's column block. -/
def cln (t : Fin cfg0.N) (q : Fin 512) : Fin 5632 := ⟨512 * (t.val / 8) + q, by have := t.isLt.trans_eq N_0; omega⟩

/-- The output's gradient's block at an entry. -/
theorem ct_at (c : Dev nD) (t : Fin cfg0.N) (r : Fin 512) (d : Fin 2048) : iblk m c 0 t (ix2 r d) = ctK m c (row t r) d := by
  unfold ctK row
  blk_ext [iblk, V, idx t]

/-- The down projection's block at an entry. -/
theorem wd_at (c : Dev nD) (t : Fin cfg0.N) (q : Fin 512) (d : Fin 2048) : iblk m c 1 t (ix3 0 q d) = wdK m c (cln t q) d := by
  unfold wdK cln
  blk_ext! [iblk, V, idx t]

/-- The convolution's input's block at an entry. -/
theorem h_at (c : Dev nD) (t : Fin cfg0.N) (p : Fin 2) (r q : Fin 512) : iblk m c 2 t (ix3 p r q) = hK m c p (row t r) (cln t q) := by
  unfold hK row cln
  blk_ext [iblk, V, idx t]

/-- The taps' block at an entry. -/
theorem tap_at (c : Dev nD) (t : Fin cfg0.N) (p : Fin 2) (k : Fin 3) (q : Fin 512) :
    tap (iblk m c 4 t) (iblk m c 5 t) p k q = wK m c k (col p (cln t q)) := by
  have hp : p = 0 ∨ p = 1 := by omega
  unfold tap wK col cln
  rcases hp with rfl | rfl
  · rw [if_pos (by decide)]
    blk_ext [iblk, V, idx t]
  · rw [if_neg (by decide)]
    blk_ext [iblk, V, idx t]

/-- The saved convolution's output at an entry. -/
theorem conv_host (c : Dev nD) (p : Fin 2) (r : Fin 4096) (q : Fin 5632) :
    (StableHlo.after (hostOps0 (F := Ideal)) (fun b => m (c, b)) (Proc.tc.devRef main_v32) (ix3 p r q) : EReal)
      = conv (hK m c) (wK m c) (bK m c) p r q := by
  entry_read
  pointwise [conv, shifted, hK, wK, bK, col]

/-- Its block at an entry. -/
theorem conv_at (c : Dev nD) (t : Fin cfg0.N) (p : Fin 2) (r q : Fin 512) :
    iblk m c 3 t (ix3 p r q) = conv (hK m c) (wK m c) (bK m c) p (row t r) (cln t q) := by
  refine Eq.trans ?_ (conv_host m c p (row t r) (cln t q))
  unfold row cln
  blk_ext [iblk, V, idx t]

/-- A point's product with the down projection at an entry. -/
theorem df_at (c : Dev nD) (t : Fin cfg0.N) (r q : Fin 512) :
    dF (iblk m c 0 t) (iblk m c 1 t) r q = df (ctK m c) (wdK m c) (row t r) (cln t q) := by
  unfold dF df
  exact Finset.sum_congr rfl fun d _ => by rw [ct_at, wd_at]

/-- A point's gradient at the convolution's output at an entry. -/
theorem dC_at (c : Dev nD) (t : Fin cfg0.N) (p : Fin 2) (r q : Fin 512) :
    dC (iblk m c 0 t) (iblk m c 1 t) (iblk m c 3 t) p r q
      = dconv (ctK m c) (wdK m c) (hK m c) (wK m c) (bK m c) p (row t r) (cln t q) := by
  unfold dC dconv
  rw [df_at, conv_at, conv_at]

/-- What a point keeps of the rows it did. -/
theorem scratch_at (c : Dev nD) (t : Fin cfg0.N) (p : Fin 2) (n : Fin 8) (q : Fin 512) :
    (outsAt0 m c t.val t.isLt).2.2.2 (ix3 p n q)
      = dconv (ctK m c) (wdK m c) (hK m c) (wK m c) (bK m c) p (row t ⟨n, by omega⟩) (cln t q) := by
  by_cases ht : t.val % 8 = 0
  · rw [scratch_A m c t ht, dC_at]
  · rw [scratch_B m c t ht, dC_at]

/-- The rows that a later point reads: its own, then the buffer's. -/
theorem dE_at_B (c : Dev nD) (t : Fin cfg0.N) (ht : ¬ t.val % 8 = 0) (p : Fin 2) (n : ℕ) (hn : n < 520) (q : Fin 512) :
    dE (iblk m c 0 t) (iblk m c 1 t) (iblk m c 3 t) (halo (outsAt0 m c (t.val - 1) (Nat.lt_of_le_of_lt (Nat.sub_le _ _) t.isLt)).2.2.2) p n q
      = dconvE (ctK m c) (wdK m c) (hK m c) (wK m c) (bK m c) p (512 * (7 - t.val % 8) + n) (cln t q) := by
  unfold dE dconvE
  split
  · rename_i h
    rw [dif_pos (by omega), dC_at]
    rfl
  · rename_i h
    unfold halo
    have hN := t.isLt.trans_eq N_0
    rw [dif_pos (by omega), dif_pos (by omega), scratch_at m c ⟨t.val - 1, Nat.lt_of_le_of_lt (Nat.sub_le _ _) t.isLt⟩]
    have e1 : row ⟨t.val - 1, Nat.lt_of_le_of_lt (Nat.sub_le _ _) t.isLt⟩ ⟨n - 512, by omega⟩ = ⟨512 * (7 - t.val % 8) + n, by omega⟩ :=
      Fin.ext (by show 512 * (7 - (t.val - 1) % 8) + (n - 512) = 512 * (7 - t.val % 8) + n; omega)
    have e2 : cln ⟨t.val - 1, Nat.lt_of_le_of_lt (Nat.sub_le _ _) t.isLt⟩ q = cln t q :=
      Fin.ext (by show 512 * ((t.val - 1) / 8) + (q : ℕ) = 512 * (t.val / 8) + q; omega)
    rw [e1, e2]

/-- The rows that the first point reads: its own, then zeros. -/
theorem dE_at_A (c : Dev nD) (t : Fin cfg0.N) (ht : t.val % 8 = 0) (p : Fin 2) (n : ℕ) (hn : n < 520) (q : Fin 512) :
    dE (iblk m c 0 t) (iblk m c 1 t) (iblk m c 3 t) (fun _ _ _ => 0) p n q
      = dconvE (ctK m c) (wdK m c) (hK m c) (wK m c) (bK m c) p (512 * (7 - t.val % 8) + n) (cln t q) := by
  unfold dE dconvE
  split
  · rename_i h
    rw [dif_pos (by omega), dC_at]
    rfl
  · rename_i h
    rw [dif_neg (by omega)]

/-- A point's block of the input's gradient. -/
theorem out6_at (c : Dev nD) (t : Fin cfg0.N) (p : Fin 2) (r q : Fin 512) :
    (outsAt0 m c t.val t.isLt).1 (ix3 p r q)
      = dh (ctK m c) (wdK m c) (hK m c) (wK m c) (bK m c) p (row t r) (cln t q) := by
  by_cases ht : t.val % 8 = 0
  · rw [out6_A m c t ht, dE_at_A m c t ht p _ (by omega), dE_at_A m c t ht p _ (by omega), dC_at, tap_at, tap_at, tap_at]
    rfl
  · rw [out6_B m c t ht, dE_at_B m c t ht p _ (by omega), dE_at_B m c t ht p _ (by omega), dC_at, tap_at, tap_at, tap_at]
    rfl

/-- What a point adds to the taps' gradient. -/
def term7 (c : Dev nD) (t : Fin cfg0.N) (i : S2x3x512.Idx) : EReal :=
  ∑ r : Fin 512, dconvE (ctK m c) (wdK m c) (hK m c) (wK m c) (bK m c) (i 0) (512 * (7 - t.val % 8) + (r + (2 - (i 1 : ℕ)))) (cln t (i 2))
    * hK m c (i 0) (row t r) (cln t (i 2))

/-- What a point adds to the bias's gradient. -/
def term8 (c : Dev nD) (t : Fin cfg0.N) (i : S2x1x512.Idx) : EReal :=
  ∑ r : Fin 512, dconv (ctK m c) (wdK m c) (hK m c) (wK m c) (bK m c) (i 0) (row t r) (cln t (i 2))

/-- The first point starts the taps' gradient. -/
theorem out7_reset (c : Dev nD) (t : Fin cfg0.N) (ht : t.val % 8 = 0) (i : S2x3x512.Idx) :
    (outsAt0 m c t.val t.isLt).2.1 i = 0 + term7 m c t i := by
  idx_vars i
  rw [out7_A m c t ht]
  refine congrArg (0 + ·) (Finset.sum_congr rfl fun r _ => ?_)
  rw [dE_at_A m c t ht _ _ (by omega), h_at]
  rfl

/-- A later point adds to it. -/
theorem out7_step (c : Dev nD) (t : Fin cfg0.N) (ht : ¬ t.val % 8 = 0) (i : S2x3x512.Idx) :
    (outsAt0 m c t.val t.isLt).2.1 i
      = (outsAt0 m c (t.val - 1) (Nat.lt_of_le_of_lt (Nat.sub_le _ _) t.isLt)).2.1 i + term7 m c t i := by
  idx_vars i
  rw [out7_B m c t ht]
  refine congrArg (_ + ·) (Finset.sum_congr rfl fun r _ => ?_)
  rw [dE_at_B m c t ht _ _ (by omega), h_at]
  rfl

/-- The first point starts the bias' gradient. -/
theorem out8_reset (c : Dev nD) (t : Fin cfg0.N) (ht : t.val % 8 = 0) (i : S2x1x512.Idx) :
    (outsAt0 m c t.val t.isLt).2.2.1 i = 0 + term8 m c t i := by
  idx_vars i
  rw [out8_A m c t ht]
  refine congrArg (0 + ·) (Finset.sum_congr rfl fun r _ => ?_)
  rw [dC_at]
  rfl

/-- A later point adds to it. -/
theorem out8_step (c : Dev nD) (t : Fin cfg0.N) (ht : ¬ t.val % 8 = 0) (i : S2x1x512.Idx) :
    (outsAt0 m c t.val t.isLt).2.2.1 i
      = (outsAt0 m c (t.val - 1) (Nat.lt_of_le_of_lt (Nat.sub_le _ _) t.isLt)).2.2.1 i + term8 m c t i := by
  idx_vars i
  rw [out8_B m c t ht]
  refine congrArg (_ + ·) (Finset.sum_congr rfl fun r _ => ?_)
  rw [dC_at]
  rfl

/-- The input's gradient, as the call writes it. -/
theorem final6 (c : Dev nD) (p : Fin 2) (r : Fin 4096) (q : Fin 5632) :
    (dats m 0 c).arrAt 6 cfg0.N (ix3 p r q) = dh (ctK m c) (wdK m c) (hK m c) (wK m c) (bK m c) p r q := by
  have := (dats m 0 c).arrAt_eq_of_covers 6 (fun i : S2x4096x5632.Idx => dh (ctK m c) (wdK m c) (hK m c) (wK m c) (bK m c) (i 0) (i 1) (i 2))
    (by decide +kernel) fun t hf y => by
      idx_vars y
      blk_simp
      rw [after0_6]
      refine (out6_at m c t _ _ _).trans ?_
      have e : (win0_6.blk t).view.emb (ix3 y0 y1 y2) = ix3 y0 (row t y1) (cln t y2) := by
        unfold row cln
        blk_ext [idx t]
      rw [e]
      rfl
  exact congrFun this (ix3 p r q)

/-- Sums over the points' rows, one after the other, are the sum over all rows. -/
theorem rows_sum (t : Fin cfg0.N) (ht : t.val % 8 = 7) (F : Fin cfg0.N → EReal) (f : Fin 4096 → EReal)
    (h : ∀ s : Fin cfg0.N, s.val / 8 = t.val / 8 → F s = ∑ r : Fin 512, f (row s r)) :
    ∑ s : Fin 8, F ⟨8 * (t.val / 8) + s.val, Pipeline.run_point_lt_of_flush t ht s⟩ = ∑ r : Fin 4096, f r := by
  refine Eq.trans ?_ (Fin.sum_mul_add_congr (S := 8) (n := 512) (F := fun s k => f ⟨s.val * 512 + k.val, by omega⟩) (fun s k _ => rfl))
  refine Eq.trans ?_ (Equiv.sum_comp Fin.revPerm _)
  refine Finset.sum_congr rfl fun s _ => ?_
  rw [h _ (by show (8 * (t.val / 8) + s.val) / 8 = t.val / 8; omega)]
  refine Finset.sum_congr rfl fun r _ => congrArg f (Fin.ext ?_)
  show 512 * (7 - (8 * (t.val / 8) + s.val) % 8) + r.val = (8 - (s.val + 1)) * 512 + r.val
  omega

/-- The points of a column block have the same columns. -/
theorem cln_congr (s t : Fin cfg0.N) (h : s.val / 8 = t.val / 8) (q : Fin 512) : cln s q = cln t q :=
  Fin.ext (by show 512 * (s.val / 8) + q.val = 512 * (t.val / 8) + q.val; rw [h])

/-- The taps' gradient, as the call writes it. -/
theorem final7 (c : Dev nD) (p : Fin 2) (k : Fin 3) (q : Fin 5632) :
    (dats m 0 c).arrAt 7 cfg0.N (ix3 p k q) = dw (ctK m c) (wdK m c) (hK m c) (wK m c) (bK m c) p k q := by
  have := (dats m 0 c).arrAt_eq_of_covers 7 (fun i : S2x3x5632.Idx => dw (ctK m c) (wdK m c) (hK m c) (wK m c) (bK m c) (i 0) (i 1) (i 2))
    (by decide +kernel) fun t hf y => by
      idx_vars y
      blk_simp
      rw [after0_7]
      refine (Pipeline.eq_sum_fin_of_reset_step_apply_of_flush (fun n h => (outsAt0 m c n h).2.1) 8 (fun _ => 0) (term7 m c)
        (out7_reset m c) (out7_step m c) t ((flush0_7 t).mp hf) _).trans ?_
      rw [zero_add]
      have e : (win0_7.blk t).view.emb (ix3 y0 y1 y2) = ix3 y0 y1 (cln t y2) := by
        unfold cln
        blk_ext [idx t]
      rw [e]
      refine rows_sum t ((flush0_7 t).mp hf) (fun s => term7 m c s (ix3 y0 y1 y2)) _ fun s hs => ?_
      refine Finset.sum_congr rfl fun r _ => ?_
      show dconvE _ _ _ _ _ y0 (512 * (7 - s.val % 8) + (r + (2 - (y1 : ℕ)))) (cln s y2) * hK m c y0 (row s r) (cln s y2) = dconvE _ _ _ _ _ y0 (512 * (7 - s.val % 8) + r + (2 - (y1 : ℕ))) (cln t y2) * _
      rw [cln_congr s t hs, Nat.add_assoc]
      rfl
  exact congrFun this (ix3 p k q)

/-- The bias' gradient, as the call writes it. -/
theorem final8 (c : Dev nD) (p : Fin 2) (q : Fin 5632) :
    (dats m 0 c).arrAt 8 cfg0.N (ix3 p 0 q) = db (ctK m c) (wdK m c) (hK m c) (wK m c) (bK m c) p q := by
  have := (dats m 0 c).arrAt_eq_of_covers 8 (fun i : S2x1x5632.Idx => db (ctK m c) (wdK m c) (hK m c) (wK m c) (bK m c) (i 0) (i 2))
    (by decide +kernel) fun t hf y => by
      idx_vars y
      blk_simp
      rw [after0_8]
      refine (Pipeline.eq_sum_fin_of_reset_step_apply_of_flush (fun n h => (outsAt0 m c n h).2.2.1) 8 (fun _ => 0) (term8 m c)
        (out8_reset m c) (out8_step m c) t ((flush0_8 t).mp hf) _).trans ?_
      rw [zero_add]
      have e : (win0_8.blk t).view.emb (ix3 y0 y1 y2) = ix3 y0 y1 (cln t y2) := by
        unfold cln
        blk_ext [idx t]
      rw [e]
      refine rows_sum t ((flush0_8 t).mp hf) (fun s => term8 m c s (ix3 y0 y1 y2)) _ fun s hs => ?_
      refine Finset.sum_congr rfl fun r _ => ?_
      show dconv _ _ _ _ _ y0 (row s r) (cln s y2) = dconv _ _ _ _ _ y0 (row s r) (cln t y2)
      rw [cln_congr s t hs]
  exact congrFun this (ix3 p 0 q)

end Cert.KernelIdeal.Ffn
end
-- ==== Proof.Numbers.lean ====
module

public import proofs.«01_k».proof.Proof.FfnMath
public import Idealize.ShloMosaic.Lib.Pointwise

@[expose] public section

noncomputable section

open Idealize.ShloMosaic

namespace Cert.Ffn

/-- A number, neither of the infinities. -/
def IsNum (x : EReal) : Prop := ∃ r : ℝ, x = r

/-- Zero is a number. -/
theorem IsNum.zero : IsNum 0 := ⟨0, rfl⟩

/-- A sum of two numbers is one. -/
theorem IsNum.add {x y : EReal} : IsNum x → IsNum y → IsNum (x + y) := by
  rintro ⟨a, rfl⟩ ⟨b, rfl⟩
  exact ⟨a + b, (EReal.coe_add a b).symm⟩

/-- A product of two numbers is one. -/
theorem IsNum.mul {x y : EReal} : IsNum x → IsNum y → IsNum (x * y) := by
  rintro ⟨a, rfl⟩ ⟨b, rfl⟩
  exact ⟨a * b, (EReal.coe_mul a b).symm⟩

/-- A finite sum of numbers is one. -/
theorem IsNum.sum {ι : Type} (s : Finset ι) (f : ι → EReal) (h : ∀ i, IsNum (f i)) : IsNum (∑ i ∈ s, f i) := by
  classical
  induction s using Finset.induction_on with
  | empty => exact ⟨0, rfl⟩
  | insert i s hi ih => rw [Finset.sum_insert hi]; exact (h i).add ih

/-- A value whose size is below the infinity is a number. -/
theorem isNum_of_abs_lt {x : EReal} (h : max x (-x) < ⊤) : IsNum x := by
  induction x using EReal.rec with
  | bot => simp at h
  | coe r => exact ⟨r, rfl⟩
  | top => simp at h

/-- Where the gate and the value are numbers, the derivative of `a * logistic a` may be factored. -/
theorem gate_law {X a : EReal} (hX : IsNum X) (ha : IsNum a) :
    X * Ideal.logistic a + (a * X) * (Ideal.logistic a * (1 - Ideal.logistic a))
      = X * (Ideal.logistic a + (a * Ideal.logistic a) * (1 - Ideal.logistic a)) := by
  obtain ⟨X, rfl⟩ := hX
  obtain ⟨a, rfl⟩ := ha
  rw [Ideal.logistic_coe]
  generalize ((1 + Real.exp (-a))⁻¹ : ℝ) = s
  rw [← EReal.coe_one]
  simp only [← EReal.coe_mul, ← EReal.coe_add, ← EReal.coe_sub]
  exact congrArg _ (by ring)

/-- Moving one factor `s` rows down is moving the other `s` rows up. -/
theorem sum_shift (n s : ℕ) (hs : s ≤ n) (f g : Fin n → EReal) :
    ∑ r : Fin n, f r * (if _h : (r : ℕ) < s then 0 else g ⟨r - s, by omega⟩)
      = ∑ r : Fin n, (if h : r + s < n then f ⟨r + s, h⟩ else 0) * g r := by
  obtain ⟨k, rfl⟩ := Nat.exists_eq_add_of_le hs
  let F : ℕ → EReal := fun i => if h : i < s + k then f ⟨i, h⟩ else 0
  let G : ℕ → EReal := fun i => if h : i < s + k then g ⟨i, h⟩ else 0
  have hL : ∑ r : Fin (s + k), f r * (if _h : (r : ℕ) < s then 0 else g ⟨r - s, by omega⟩)
      = ∑ i ∈ Finset.range (s + k), F i * (if i < s then 0 else G (i - s)) := by
    rw [← Fin.sum_univ_eq_sum_range (fun i => F i * (if i < s then 0 else G (i - s)))]
    refine Finset.sum_congr rfl fun r _ => ?_
    simp only [F, G, dif_pos r.isLt, dif_pos (show (r : ℕ) - s < s + k by omega)]
    rfl
  have hR : ∑ r : Fin (s + k), (if h : r + s < s + k then f ⟨r + s, h⟩ else 0) * g r
      = ∑ i ∈ Finset.range (s + k), F (i + s) * G i := by
    rw [← Fin.sum_univ_eq_sum_range (fun i => F (i + s) * G i)]
    refine Finset.sum_congr rfl fun r _ => ?_
    simp only [F, G, dif_pos r.isLt]
  rw [hL, hR, Finset.sum_range_add, Nat.add_comm s k, Finset.sum_range_add]
  rw [Finset.sum_eq_zero (s := Finset.range s) (fun i hi => by rw [if_pos (Finset.mem_range.mp hi), mul_zero]), zero_add]
  rw [Finset.sum_eq_zero (s := Finset.range s) (f := fun i => F (k + i + s) * G (k + i))
    (fun i _ => by simp only [F]; rw [dif_neg (by omega), zero_mul]), add_zero]
  refine Finset.sum_congr rfl fun i _ => ?_
  rw [if_neg (by omega), Nat.add_sub_cancel_left, Nat.add_comm s i]

variable {ct : Fin 4096 → Fin 2048 → EReal} {wd : Fin 5632 → Fin 2048 → EReal} {h : Fin 2 → Fin 4096 → Fin 5632 → EReal}
  {w : Fin 3 → Fin 11264 → EReal} {b : Fin 11264 → EReal}

/-- A shifted array of numbers holds numbers. -/
theorem shifted_num (hh : ∀ p r q, IsNum (h p r q)) (s : ℕ) (p : Fin 2) (r : Fin 4096) (q : Fin 5632) : IsNum (shifted h s p r q) := by
  unfold shifted
  split
  · exact IsNum.zero
  · exact hh _ _ _

/-- The convolution of numbers holds numbers. -/
theorem conv_num (hh : ∀ p r q, IsNum (h p r q)) (hw : ∀ k q, IsNum (w k q)) (hb : ∀ q, IsNum (b q)) (p : Fin 2) (r : Fin 4096)
    (q : Fin 5632) : IsNum (conv h w b p r q) :=
  (((hb _).add ((hw _ _).mul (hh _ _ _))).add ((hw _ _).mul (shifted_num hh 2 p r q))).add ((hw _ _).mul (shifted_num hh 1 p r q))

/-- The down projection's gradient of numbers holds numbers. -/
theorem df_num (hct : ∀ r d, IsNum (ct r d)) (hwd : ∀ q d, IsNum (wd q d)) (r : Fin 4096) (q : Fin 5632) : IsNum (df ct wd r q) :=
  IsNum.sum _ _ fun d => (hct r d).mul (hwd q d)

end Cert.Ffn
end
-- ==== Proof.ReferenceValue.lean ====
module

public import proofs.«01_k».proof.Proof.Numbers
public import proofs.«01_k».proof.Proof.Gen.ReferenceIdeal.Run
public import Idealize.ShloMosaic.Lib.Pipeline.ValueKit
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem Idealize.ShloMosaic.StableHlo

namespace Cert.ReferenceIdeal.Ffn
open Cert.ReferenceIdeal Cert.ReferenceIdeal.Gen Cert.ReferenceIdeal.Value Cert.Ffn

variable (V0 : Valuation τ sig (Elt Ideal))

/-- The gradient at the FFN's output. -/
def ctR (r : Fin 4096) (d : Fin 2048) : EReal := V0 (Proc.devRef .tc main_arg0) (ix2 r d)
/-- The down projection. -/
def wdR (q : Fin 5632) (d : Fin 2048) : EReal := V0 (Proc.devRef .tc main_arg1) (ix2 q d)
/-- The convolution's input, in two halves. -/
def hR (p : Fin 2) (r : Fin 4096) (q : Fin 5632) : EReal := V0 (Proc.devRef .tc main_arg2) (ix3 p r q)
/-- The layer's taps. -/
def wR (k : Fin 3) (q : Fin 11264) : EReal := V0 (Proc.devRef .tc main_arg3) (ix3 1 k q)
/-- The layer's bias. -/
def bR (q : Fin 11264) : EReal := V0 (Proc.devRef .tc main_arg4) (ix2 1 q)

/-- The convolution's input, the halves side by side. -/
theorem v6_at (p : Fin 2) (r : Fin 4096) (q : Fin 5632) : (res_main_v6 V0 (ix3 0 r (col p q)) : EReal) = hR V0 p r q := by
  unfold res_main_v6 hR col
  clean_types
  match p with
  | 0 => pointwise
  | 1 => pointwise

/-- The input shifted by two rows. -/
theorem v25_at (p : Fin 2) (r : Fin 4096) (q : Fin 5632) :
    (res_main_v25 V0 (ix3 0 r (col p q)) : EReal) = shifted (hR V0) 2 p r q := by
  unfold res_main_v25 shifted
  simp only [← v6_at]
  clean_types
  pointwise

/-- The input shifted by one row. -/
theorem v36_at (p : Fin 2) (r : Fin 4096) (q : Fin 5632) :
    (res_main_v36 V0 (ix3 0 r (col p q)) : EReal) = shifted (hR V0) 1 p r q := by
  unfold res_main_v36 shifted
  simp only [← v6_at]
  clean_types
  pointwise

/-- The last tap. -/
theorem v14_at (j : Fin 11264) : (res_main_v14 V0 (ix3 0 0 j) : EReal) = wR V0 2 j := by
  unfold res_main_v14 res_main_v8 wR
  clean_types
  pointwise

/-- The first tap. -/
theorem v27_at (j : Fin 11264) : (res_main_v27 V0 (ix3 0 0 j) : EReal) = wR V0 0 j := by
  unfold res_main_v27 res_main_v8 wR
  clean_types
  pointwise

/-- The middle tap. -/
theorem v38_at (j : Fin 11264) : (res_main_v38 V0 (ix3 0 0 j) : EReal) = wR V0 1 j := by
  unfold res_main_v38 res_main_v8 wR
  clean_types
  pointwise

/-- The convolution's output. -/
theorem v41_at (p : Fin 2) (r : Fin 4096) (q : Fin 5632) :
    (res_main_v41 V0 (ix3 0 r (col p q)) : EReal) = conv (hR V0) (wR V0) (bR V0) p r q := by
  unfold res_main_v41 conv bR
  simp only [← v6_at, ← v25_at, ← v36_at, ← v14_at, ← v27_at, ← v38_at]
  clean_types
  pointwise

/-- Its gate half. -/
theorem v42_at (r : Fin 4096) (q : Fin 5632) :
    (res_main_v42 V0 (ix3 0 r q) : EReal) = conv (hR V0) (wR V0) (bR V0) 0 r q := by
  unfold res_main_v42
  rw [← v41_at]
  unfold col
  clean_types
  pointwise

/-- The gate's sigmoid. -/
theorem v43_at (r : Fin 4096) (q : Fin 5632) :
    (res_main_v43 V0 (ix3 0 r q) : EReal) = conv (hR V0) (wR V0) (bR V0) 1 r q := by
  unfold res_main_v43
  rw [← v41_at]
  unfold col
  clean_types
  pointwise

/-- The gate. -/
theorem v44_at (r : Fin 4096) (q : Fin 5632) :
    (res_main_v44_2 V0 (ix3 0 r q) : EReal) = Ideal.logistic (conv (hR V0) (wR V0) (bR V0) 0 r q) := by
  unfold res_main_v44_2
  rw [← v42_at]
  unfold Ideal.logistic
  clean_types
  pointwise

/-- The gradient through the down projection. -/
theorem v49_at (r : Fin 4096) (q : Fin 5632) :
    (res_main_v49 V0 (ix3 0 r q) : EReal) = df (ctR V0) (wdR V0) r q := by
  unfold res_main_v49 res_main_v11 df ctR wdR
  clean_types
  pointwise

/-- The gate's cotangent as the reference writes it. -/
def dgate (r : Fin 4096) (q : Fin 5632) : EReal :=
  (df (ctR V0) (wdR V0) r q * conv (hR V0) (wR V0) (bR V0) 1 r q) * Ideal.logistic (conv (hR V0) (wR V0) (bR V0) 0 r q)
    + (conv (hR V0) (wR V0) (bR V0) 0 r q * (df (ctR V0) (wdR V0) r q * conv (hR V0) (wR V0) (bR V0) 1 r q))
      * (Ideal.logistic (conv (hR V0) (wR V0) (bR V0) 0 r q) * (1 - Ideal.logistic (conv (hR V0) (wR V0) (bR V0) 0 r q)))

/-- The gradient at the convolution's output, gate half. -/
theorem v53_gate (r : Fin 4096) (q : Fin 5632) : (res_main_v53 V0 (ix3 0 r (col 0 q)) : EReal) = dgate V0 r q := by
  unfold res_main_v53 res_main_v51 dgate col
  rw [← v44_at, ← v42_at, ← v43_at, ← v49_at]
  clean_types
  pointwise

/-- The gradient at the convolution's output, value half. -/
theorem v53_value (r : Fin 4096) (q : Fin 5632) : (res_main_v53 V0 (ix3 0 r (col 1 q)) : EReal)
    = df (ctR V0) (wdR V0) r q * (conv (hR V0) (wR V0) (bR V0) 0 r q * Ideal.logistic (conv (hR V0) (wR V0) (bR V0) 0 r q)) := by
  unfold res_main_v53 res_main_v44_0 col
  rw [← v44_at, ← v42_at, ← v49_at]
  clean_types
  pointwise
  exact mul_comm _ _

/-- The cotangent of the convolution's result as the reference writes it. -/
def dcR (p : Fin 2) (r : Fin 4096) (q : Fin 5632) : EReal := res_main_v53 V0 (ix3 0 r (col p q))

/-- The same at any row, zero after the last. -/
def dcRE (p : Fin 2) (n : ℕ) (q : Fin 5632) : EReal := if hn : n < 4096 then dcR V0 p ⟨n, hn⟩ q else 0

/-- The gradient at the convolution's input. -/
theorem v92_at (p : Fin 2) (r : Fin 4096) (q : Fin 5632) : (res_main_v92 V0 (ix2 r (col p q)) : EReal)
    = wR V0 2 (col p q) * dcR V0 p r q + wR V0 1 (col p q) * dcRE V0 p (r + 1) q + wR V0 0 (col p q) * dcRE V0 p (r + 2) q := by
  unfold res_main_v92 res_main_v55 res_main_v66 dcRE dcR
  simp only [← v14_at, ← v27_at, ← v38_at]
  clean_types
  pointwise
  rw [add_comm (_ + _), ← add_assoc]
  refine congrArg₂ (· + ·) (congrArg₂ (· + ·) rfl ?_) ?_
  · by_cases h : (r : ℕ) < 4095
    · rw [dif_pos h, dif_pos (by omega)]
      exact congrArg _ (congrArg (fun r => res_main_v53 V0 (ix3 0 r (col p q))) (Fin.ext (Nat.add_comm _ _)))
    · rw [dif_neg h, dif_neg (by omega), mul_zero]
  · by_cases h : (r : ℕ) < 4094
    · rw [dif_pos h, dif_pos (by omega)]
      exact congrArg _ (congrArg (fun r => res_main_v53 V0 (ix3 0 r (col p q))) (Fin.ext (Nat.add_comm _ _)))
    · rw [dif_neg h, dif_neg (by omega), mul_zero]

/-- A sum along two axes of one element each is the element. -/
theorem reduce_units (h : S1x1x11264.ReducesTo [0, 1] S11264) (v : S1x1x11264.Idx → EReal) (init : EReal) (j : Fin 11264) :
    Ideal.hostReduceAdd h v init (ix1 j) = init + v (ix3 0 0 j) := by
  unfold Ideal.hostReduceAdd
  refine congrArg (init + ·) ((Finset.sum_eq_single_of_mem (ix3 0 0 j) ?_ ?_))
  · refine Finset.mem_filter.mpr ⟨Finset.mem_univ _, funext fun b => Fin.ext ?_⟩
    match b with
    | ⟨0, _⟩ => rfl
  · intro i hi hne
    refine absurd ?_ hne
    have e := (Finset.mem_filter.mp hi).2
    funext a
    apply Fin.ext
    match a with
    | ⟨0, _⟩ => exact Nat.lt_one_iff.mp (i 0).isLt
    | ⟨1, _⟩ => exact Nat.lt_one_iff.mp (i 1).isLt
    | ⟨2, _⟩ =>
      have e0 : (h.drop i ⟨0, Nat.zero_lt_one⟩ : ℕ) = (ix1 j : S11264.Idx) ⟨0, Nat.zero_lt_one⟩ := congrArg Fin.val (congrFun e _)
      exact e0

/-- The elements of a vector of rows at a column. -/
def at3 (x : FVec Ideal S1x4096x11264 .f32) (r : Fin 4096) (j : Fin 11264) : EReal := x (ix3 0 r j)

/-- The bias' gradient as a sum over rows. -/
theorem v103_at (j : Fin 11264) : (res_main_v103 V0 (ix2 0 j) : EReal) = ∑ r : Fin 4096, at3 (res_main_v53 V0) r j := by
  unfold res_main_v103 at3
  clean_types
  pointwise [reduce_units]

/-- The first tap's gradient. -/
theorem v90_at0 (j : Fin 11264) : (res_main_v90 V0 (ix2 0 j) : EReal)
    = ∑ r : Fin 4096, at3 (res_main_v53 V0) r j * at3 (res_main_v25 V0) r j := by
  unfold res_main_v90 at3
  clean_types
  pointwise [reduce_units]

/-- The middle tap's gradient. -/
theorem v90_at1 (j : Fin 11264) : (res_main_v90 V0 (ix2 1 j) : EReal)
    = ∑ r : Fin 4096, at3 (res_main_v53 V0) r j * at3 (res_main_v36 V0) r j := by
  unfold res_main_v90 at3
  clean_types
  pointwise [reduce_units]

/-- The last tap's gradient. -/
theorem v90_at2 (j : Fin 11264) : (res_main_v90 V0 (ix2 2 j) : EReal)
    = ∑ r : Fin 4096, at3 (res_main_v53 V0) r j * at3 (res_main_v6 V0) r j := by
  unfold res_main_v90 at3
  clean_types
  pointwise [reduce_units]

/-- Every argument is a number at every index. -/
structure Nums : Prop where
  ct : ∀ r d, IsNum (ctR V0 r d)
  wd : ∀ q d, IsNum (wdR V0 q d)
  h : ∀ p r q, IsNum (hR V0 p r q)
  w : ∀ k q, IsNum (wR V0 k q)
  b : ∀ q, IsNum (bR V0 q)

variable {V0} in
/-- On numbers the gradient at the convolution's output is the common form. -/
theorem dcR_eq (n : Nums V0) (p : Fin 2) (r : Fin 4096) (q : Fin 5632) :
    dcR V0 p r q = dconv (ctR V0) (wdR V0) (hR V0) (wR V0) (bR V0) p r q := by
  unfold dconv dcR
  have hp : p = 0 ∨ p = 1 := by omega
  rcases hp with rfl | rfl
  · rw [if_pos (by decide), v53_gate]
    exact gate_law ((df_num n.ct n.wd r q).mul (conv_num n.h n.w n.b 1 r q)) (conv_num n.h n.w n.b 0 r q)
  · rw [if_neg (by decide), v53_value]

variable {V0} in
/-- The same on rows past the end, where both are zero. -/
theorem dcRE_eq (n : Nums V0) (p : Fin 2) (i : ℕ) (q : Fin 5632) :
    dcRE V0 p i q = dconvE (ctR V0) (wdR V0) (hR V0) (wR V0) (bR V0) p i q := by
  unfold dcRE dconvE
  split
  · exact dcR_eq n _ _ _
  · rfl

variable {V0} in
/-- The input's gradient in the common form. -/
theorem dh_ref (n : Nums V0) (p : Fin 2) (r : Fin 4096) (q : Fin 5632) :
    (res_main_v92 V0 (ix2 r (col p q)) : EReal) = dh (ctR V0) (wdR V0) (hR V0) (wR V0) (bR V0) p r q := by
  rw [v92_at, dcR_eq n, dcRE_eq n, dcRE_eq n]
  rfl

variable {V0} in
/-- The bias' gradient in the common form. -/
theorem db_ref (n : Nums V0) (p : Fin 2) (q : Fin 5632) :
    (res_main_v103 V0 (ix2 0 (col p q)) : EReal) = db (ctR V0) (wdR V0) (hR V0) (wR V0) (bR V0) p q := by
  rw [v103_at]
  exact Eq.trans (α := EReal) (Finset.sum_congr rfl fun r _ => dcR_eq n p r q) rfl

variable {V0} in
/-- A tap's gradient, with the shift moved to the other factor. -/
theorem dw_shift (n : Nums V0) (s : ℕ) (hs : s ≤ 4096) (p : Fin 2) (q : Fin 5632) :
    ∑ r : Fin 4096, dcR V0 p r q * shifted (hR V0) s p r q
      = ∑ r : Fin 4096, dconvE (ctR V0) (wdR V0) (hR V0) (wR V0) (bR V0) p (r + s) q * hR V0 p r q := by
  refine (sum_shift 4096 s hs (fun r => dcR V0 p r q) (fun r => hR V0 p r q)).trans ?_
  exact Finset.sum_congr rfl fun r _ => congrArg (· * hR V0 p r q) (dcRE_eq n p (r + s) q)

variable {V0} in
/-- The taps' gradient in the common form. -/
theorem dw_ref (n : Nums V0) (p : Fin 2) (k : Fin 3) (q : Fin 5632) :
    (res_main_v90 V0 (ix2 k (col p q)) : EReal) = dw (ctR V0) (wdR V0) (hR V0) (wR V0) (bR V0) p k q := by
  have hk : k = 0 ∨ k = 1 ∨ k = 2 := by omega
  rcases hk with rfl | rfl | rfl
  · rw [v90_at0]
    refine Eq.trans (α := EReal) ?_ (dw_shift n 2 (by decide) p q)
    exact Finset.sum_congr rfl fun r _ => congrArg (_ * ·) (v25_at V0 p r q)
  · rw [v90_at1]
    refine Eq.trans (α := EReal) ?_ (dw_shift n 1 (by decide) p q)
    exact Finset.sum_congr rfl fun r _ => congrArg (_ * ·) (v36_at V0 p r q)
  · rw [v90_at2]
    refine Eq.trans (α := EReal) ?_ (dw_shift n 0 (by decide) p q)
    exact Finset.sum_congr rfl fun r _ => congrArg (_ * ·) (v6_at V0 p r q)

/-- Splitting the input's gradient into halves. -/
theorem halves_dh (x : FVec Ideal S4096x11264 .bf16) (p : Fin 2) (r : Fin 4096) (q : Fin 5632) :
    (concatenate S2x4096x5632 0 [⟨S1x4096x5632, (broadcastInDim S1x4096x5632 ![1, 2] bcast_S4096x5632_S1x4096x5632_1_2 (extractStridedSlice S4096x5632 ![0, 0] x slices_S4096x11264_S4096x5632_0_0))⟩, ⟨S1x4096x5632, (broadcastInDim S1x4096x5632 ![1, 2] bcast_S4096x5632_S1x4096x5632_1_2 (extractStridedSlice S4096x5632 ![0, 5632] x slices_S4096x11264_S4096x5632_0_5632))⟩] concatenates_S1x4096x5632_S1x4096x5632_S2x4096x5632_d0 (ix3 p r q) : EReal)
      = x (ix2 r (col p q)) := by
  unfold col
  match p with
  | 0 => pointwise
  | 1 => pointwise

/-- Splitting the taps' gradient into halves. -/
theorem halves_dw (x : FVec Ideal S3x11264 .f32) (p : Fin 2) (k : Fin 3) (q : Fin 5632) :
    (concatenate S2x3x5632 0 [⟨S1x3x5632, (broadcastInDim S1x3x5632 ![1, 2] bcast_S3x5632_S1x3x5632_1_2 (extractStridedSlice S3x5632 ![0, 0] x slices_S3x11264_S3x5632_0_0))⟩, ⟨S1x3x5632, (broadcastInDim S1x3x5632 ![1, 2] bcast_S3x5632_S1x3x5632_1_2 (extractStridedSlice S3x5632 ![0, 5632] x slices_S3x11264_S3x5632_0_5632))⟩] concatenates_S1x3x5632_S1x3x5632_S2x3x5632_d0 (ix3 p k q) : EReal)
      = x (ix2 k (col p q)) := by
  unfold col
  match p with
  | 0 => pointwise
  | 1 => pointwise

/-- Splitting the bias' gradient into halves. -/
theorem halves_db (x : FVec Ideal S1x11264 .f32) (p : Fin 2) (q : Fin 5632) :
    (concatenate S2x1x5632 0 [⟨S1x1x5632, (broadcastInDim S1x1x5632 ![1, 2] bcast_S1x5632_S1x1x5632_1_2 (extractStridedSlice S1x5632 ![0, 0] x slices_S1x11264_S1x5632_0_0))⟩, ⟨S1x1x5632, (broadcastInDim S1x1x5632 ![1, 2] bcast_S1x5632_S1x1x5632_1_2 (extractStridedSlice S1x5632 ![0, 5632] x slices_S1x11264_S1x5632_0_5632))⟩] concatenates_S1x1x5632_S1x1x5632_S2x1x5632_d0 (ix3 p 0 q) : EReal)
      = x (ix2 0 (col p q)) := by
  unfold col
  match p with
  | 0 => pointwise
  | 1 => pointwise

end Cert.ReferenceIdeal.Ffn
end
-- ==== Proof.Finite.lean ====
module

public import proofs.«01_k».proof.Defs
public import proofs.«01_k».proof.Proof.Numbers
public import proofs.«01_k».proof.Proof.Gen.Pre_all_finite
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Pre_all_finite
open Cert.Pre_all_finite Cert.Pre_all_finite.Gen Cert.Ffn

variable (x0 : FVec Ideal S4096x2048 .bf16) (x1 : FVec Ideal S5632x2048 .bf16) (x2 : FVec Ideal S2x4096x5632 .bf16)
  (x3 : FVec Ideal S2x3x11264 .f32) (x4 : FVec Ideal S2x11264 .f32)

/-- What the comparison says of one element. -/
theorem num_of_cmp {x : EReal} (e : BitVec.ofBool (decide (FloatOps.absf (F := Ideal) (φ := .f32) x < Ideal.ofBits .f32 0x7F800000#32)) = 1#1) :
    IsNum x := by
  have ht : Ideal.ofBits .f32 0x7F800000#32 = ⊤ := by simp [Ideal.ofBits, Ideal.ieee]
  rw [ht] at e
  refine isNum_of_abs_lt ?_
  by_contra hn
  rw [show decide (FloatOps.absf (F := Ideal) (φ := .f32) x < (⊤ : EReal)) = false from decide_eq_false hn] at e
  exact absurd e (by decide)

/-- The output's gradient holds numbers. -/
theorem num0 (h : (fn (F := Ideal) x0 x1 x2 x3 x4).1 = fun _ => 1#1) (r : Fin 4096) (d : Fin 2048) : IsNum (x0 (ix2 r d)) := by
  have e := congrFun h (ix2 r d)
  unfold fn fn_part1 at e
  pointwise at e
  exact num_of_cmp e

/-- The down projection holds numbers. -/
theorem num1 (h : (fn (F := Ideal) x0 x1 x2 x3 x4).2.1 = fun _ => 1#1) (q : Fin 5632) (d : Fin 2048) : IsNum (x1 (ix2 q d)) := by
  have e := congrFun h (ix2 q d)
  unfold fn fn_part1 at e
  pointwise at e
  exact num_of_cmp e

/-- The convolution's input holds numbers. -/
theorem num2 (h : (fn (F := Ideal) x0 x1 x2 x3 x4).2.2.1 = fun _ => 1#1) (p : Fin 2) (r : Fin 4096) (q : Fin 5632) :
    IsNum (x2 (ix3 p r q)) := by
  have e := congrFun h (ix3 p r q)
  unfold fn fn_part1 at e
  pointwise at e
  exact num_of_cmp e

/-- The layer's taps hold numbers. -/
theorem num3 (h : (fn (F := Ideal) x0 x1 x2 x3 x4).2.2.2.1 = fun _ => 1#1) (k : Fin 3) (q : Fin 11264) : IsNum (x3 (ix3 1 k q)) := by
  have e := congrFun h (ix2 k q)
  unfold fn fn_part1 at e
  pointwise at e
  exact num_of_cmp e

/-- The layer's bias holds numbers. -/
theorem num4 (h : (fn (F := Ideal) x0 x1 x2 x3 x4).2.2.2.2 = fun _ => 1#1) (q : Fin 11264) : IsNum (x4 (ix2 1 q)) := by
  have e := congrFun h (ix1 q)
  unfold fn fn_part1 at e
  pointwise at e
  exact num_of_cmp e

end Cert.Pre_all_finite
end
-- ==== Proof.FfnClaims.lean ====
module

public import proofs.«01_k».proof.Defs
public import proofs.«01_k».proof.Proof.Gen.Kernel.Frame
public import proofs.«01_k».proof.Proof.Gen.KernelIdeal.Value
public import proofs.«01_k».proof.Proof.KernelValue
public import proofs.«01_k».proof.Proof.ReferenceValue
public import proofs.«01_k».proof.Proof.Finite
public import Idealize.ShloMosaic.Adequacy
public import Idealize.ShloMosaic.Init

@[expose] public section

set_option maxRecDepth 16384

noncomputable section

namespace Cert.Proof.Ffn

open Idealize.ShloMosaic Idealize.SL.Sem

/-- The kernel's frame on bit patterns. -/
theorem frame_kernel : Cert.quiescent_Kernel := fun m ρ _ => Cert.Kernel.Gen.frame m ρ

/-- The kernel's frame over the extended reals. -/
theorem frame_ideal : Cert.quiescent_KernelIdeal := fun m ρ _ => Cert.KernelIdeal.Gen.frame m ρ

/-- The same from finite arguments. -/
theorem frame_ideal_finite : Cert.quiescent_KernelIdeal_pre_all_finite := fun m ρ _ => Cert.KernelIdeal.Gen.frame m ρ

/-- The reference's frame: its run keeps the arguments, and it has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same from finite arguments. -/
theorem frame_reference_finite : Cert.quiescent_ReferenceIdeal_pre_all_finite := fun m ρ _ => frame_reference m ρ trivial

/-- Finite arguments, as the reference reads them. -/
theorem nums (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_all_finite m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Ffn.Nums (Idealize.ShloMosaic.StableHlo.launchContents m' c) := by
  obtain ⟨e0, e1, e2, e3, e4⟩ := hag
  obtain ⟨p0, p1, p2, p3, p4⟩ := hpre c
  rw [← e0, ← e1, ← e2, ← e3, ← e4] at p0 p1 p2 p3 p4
  exact
    { ct := Cert.Pre_all_finite.num0 _ _ _ _ _ p0
      wd := Cert.Pre_all_finite.num1 _ _ _ _ _ p1
      h := Cert.Pre_all_finite.num2 _ _ _ _ _ p2
      w := Cert.Pre_all_finite.num3 _ _ _ _ _ p3
      b := Cert.Pre_all_finite.num4 _ _ _ _ _ p4 }

/-- The gradients the kernel writes are the reference's. -/
theorem algebraic : Cert.algebraic_KernelIdeal_ReferenceIdeal_pre_all_finite := by
  intro m g m' g' hpre hag
  have hn := fun c => nums m m' hpre c (hag c)
  have a0 : ∀ c, Cert.ReferenceIdeal.Ffn.ctR (Idealize.ShloMosaic.StableHlo.launchContents m' c) = Cert.KernelIdeal.Ffn.ctK m c :=
    fun c => funext fun r => funext fun d => congrFun (hag c).1 (ix2 r d)
  have a1 : ∀ c, Cert.ReferenceIdeal.Ffn.wdR (Idealize.ShloMosaic.StableHlo.launchContents m' c) = Cert.KernelIdeal.Ffn.wdK m c :=
    fun c => funext fun r => funext fun d => congrFun (hag c).2.1 (ix2 r d)
  have a2 : ∀ c, Cert.ReferenceIdeal.Ffn.hR (Idealize.ShloMosaic.StableHlo.launchContents m' c) = Cert.KernelIdeal.Ffn.hK m c :=
    fun c => funext fun p => funext fun r => funext fun d => congrFun (hag c).2.2.1 (ix3 p r d)
  have a3 : ∀ c, Cert.ReferenceIdeal.Ffn.wR (Idealize.ShloMosaic.StableHlo.launchContents m' c) = Cert.KernelIdeal.Ffn.wK m c :=
    fun c => funext fun k => funext fun q => congrFun (hag c).2.2.2.1 (ix3 1 k q)
  have a4 : ∀ c, Cert.ReferenceIdeal.Ffn.bR (Idealize.ShloMosaic.StableHlo.launchContents m' c) = Cert.KernelIdeal.Ffn.bK m c :=
    fun c => funext fun q => congrFun (hag c).2.2.2.2 (ix2 1 q)
  refine ⟨_, _, _, Cert.KernelIdeal.Value.run_blocks (F := Ideal) m g, ?_⟩
  refine (θ_run Cert.ReferenceIdeal.defs _ _).mono (fun r h c => ?_) (Cert.ReferenceIdeal.Value.run (F := Ideal) m' g')
  obtain ⟨h0, h1, h2, hk⟩ := h c
  refine ⟨h0.trans ?_, h1.trans ?_, h2.trans ?_, hk⟩
  · funext i
    idx_vars i
    refine (Cert.ReferenceIdeal.Ffn.halves_dh _ i0 i1 i2).trans ((Cert.ReferenceIdeal.Ffn.dh_ref (hn c) i0 i1 i2).trans ?_)
    rw [a0, a1, a2, a3, a4]
    exact (Cert.KernelIdeal.Ffn.final6 m c i0 i1 i2).symm
  · funext i
    idx_vars i
    refine (Cert.ReferenceIdeal.Ffn.halves_dw _ i0 i1 i2).trans ((Cert.ReferenceIdeal.Ffn.dw_ref (hn c) i0 i1 i2).trans ?_)
    rw [a0, a1, a2, a3, a4]
    exact (Cert.KernelIdeal.Ffn.final7 m c i0 i1 i2).symm
  · funext i
    idx_vars i
    obtain rfl : i1 = 0 := Subsingleton.elim _ _
    refine (Cert.ReferenceIdeal.Ffn.halves_db _ i0 i2).trans ((Cert.ReferenceIdeal.Ffn.db_ref (hn c) i0 i2).trans ?_)
    rw [a0, a1, a2, a3, a4]
    exact (Cert.KernelIdeal.Ffn.final8 m c i0 i2).symm

end Cert.Proof.Ffn

end
-- ==== Proof.HalfSums.lean ====
module

public import Idealize.ShloMosaic.Lib.Pipeline.ValueKit
public import Idealize.ShloMosaic.Lib.Pointwise

@[expose] public section

noncomputable section

open Idealize.ShloMosaic Idealize.ShloMosaic.TcCoe

namespace Cert.Halves

/-- An accumulator that starts at zero on every `S`-th point and adds, at every point, the sum over one of `S` parts
    of `n` indices each holds, at the last of the `S` points, the sum over all indices. -/
theorem sum_of_parts {N : ℕ} {ι : Type} (f : (n : ℕ) → n < N → ι → EReal) (term : Fin N → ι → EReal) (S n : ℕ) [NeZero S]
    (h0 : ∀ t : Fin N, t.val % S = 0 → ∀ i, f t.val t.isLt i = 0 + term t i)
    (hs : ∀ t : Fin N, ¬ t.val % S = 0 → ∀ i,
      f t.val t.isLt i = f (t.val - 1) (Nat.lt_of_le_of_lt (Nat.sub_le _ _) t.isLt) i + term t i)
    (t : Fin N) (ht : t.val % S = S - 1) (i : ι) (F : ℕ → EReal)
    (hF : ∀ s : Fin N, s.val / S = t.val / S → term s i = ∑ r : Fin n, F (n * (s.val % S) + r)) :
    f t.val t.isLt i = ∑ r : Fin (S * n), F r := by
  refine (Pipeline.eq_sum_fin_of_reset_step_apply_of_flush f S (fun _ => 0) term h0 hs t ht i).trans ?_
  rw [zero_add]
  refine Eq.trans ?_ (Fin.sum_mul_add_congr (S := S) (n := n) (F := fun s r => F (s.val * n + r.val)) (fun s r _ => rfl))
  refine Finset.sum_congr rfl fun s _ => ?_
  have e1 : (S * (t.val / S) + s.val) / S = t.val / S := by
    rw [Nat.mul_add_div (Nat.pos_of_ne_zero (NeZero.ne S)), Nat.div_eq_of_lt s.isLt, Nat.add_zero]
  have e2 : (S * (t.val / S) + s.val) % S = s.val := by
    rw [Nat.mul_add_mod, Nat.mod_eq_of_lt s.isLt]
  rw [hF _ e1]
  refine Finset.sum_congr rfl fun r _ => congrArg F ?_
  show n * ((S * (t.val / S) + s.val) % S) + r.val = s.val * n + r.val
  rw [e2, Nat.mul_comm]

/-- A function of the first `n` indices, zero beyond. -/
def upto {n : ℕ} (F : Fin n → EReal) (j : ℕ) : EReal := if h : j < n then F ⟨j, h⟩ else 0

/-- It is the function at an index. -/
theorem upto_of_lt {n : ℕ} (F : Fin n → EReal) (j : ℕ) (h : j < n) : upto F j = F ⟨j, h⟩ := dif_pos h

/-- The same for two parts of 2048 times each. -/
theorem sum_of_halves {N : ℕ} {ι : Type} (f : (n : ℕ) → n < N → ι → EReal) (term : Fin N → ι → EReal)
    (h0 : ∀ t : Fin N, t.val % 2 = 0 → ∀ i, f t.val t.isLt i = 0 + term t i)
    (hs : ∀ t : Fin N, ¬ t.val % 2 = 0 → ∀ i,
      f t.val t.isLt i = f (t.val - 1) (Nat.lt_of_le_of_lt (Nat.sub_le _ _) t.isLt) i + term t i)
    (t : Fin N) (ht : t.val % 2 = 1) (i : ι) (F : Fin 4096 → EReal)
    (hF : ∀ s : Fin N, s.val / 2 = t.val / 2 → term s i = ∑ r : Fin 2048, F ⟨2048 * (s.val % 2) + r, by omega⟩) :
    f t.val t.isLt i = ∑ r : Fin 4096, F r :=
  (sum_of_parts f term 2 2048 h0 hs t ht i (upto F) fun s h => (hF s h).trans
    (Finset.sum_congr rfl fun r _ => (upto_of_lt F _ (by omega)).symm)).trans
    (Finset.sum_congr rfl fun r _ => upto_of_lt F _ r.isLt)

/-- A sum over 512 rows, 128 at a time. -/
theorem sum_slabs (F : Fin 512 → EReal) : ∑ r, F r = ∑ r : Fin 128, F ⟨r, by omega⟩ + ∑ r : Fin 128, F ⟨128 + r, by omega⟩
    + ∑ r : Fin 128, F ⟨256 + r, by omega⟩ + ∑ r : Fin 128, F ⟨384 + r, by omega⟩ := by
  refine (Fin.sum_univ_add (a := 384) (b := 128) F).trans (congrArg (· + _) ?_)
  refine (Fin.sum_univ_add (a := 256) (b := 128) fun i => F (i.castAdd 128)).trans (congrArg (· + _) ?_)
  exact Fin.sum_univ_add (a := 128) (b := 128) fun i => F ((i.castAdd 128).castAdd 128)

/-- A row of a point's block, eight points to a block of 512 rows. -/
def row {N : ℕ} (hN64 : N = 64) (t : Fin N) (r : Fin 512) : Fin 4096 := ⟨512 * (t.val / 8) + r, by have := t.isLt.trans_eq hN64; omega⟩

/-- A value that starts at the first row block's last point and grows at each later one is a sum over all rows. -/
theorem sum_rows {N : ℕ} (hN64 : N = 64) (f : (n : ℕ) → n < N → EReal) (F : Fin 4096 → EReal)
    (h0 : ∀ t : Fin N, t.val % 8 = 7 → t.val < 8 → f t.val t.isLt = 0 + ∑ r : Fin 512, F (row hN64 t r))
    (hs : ∀ t : Fin N, t.val % 8 = 7 → ¬ t.val < 8 →
      f t.val t.isLt = f (t.val - 1) (Nat.lt_of_le_of_lt (Nat.sub_le _ _) t.isLt) + ∑ r : Fin 512, F (row hN64 t r))
    (hk : ∀ n, n % 8 = 7 → ∀ h : n + 7 < N, f (n + 7) h = f n (Nat.lt_of_le_of_lt (Nat.le_add_right _ _) h))
    (t : Fin N) (ht : t.val = 63) : f t.val t.isLt = ∑ r : Fin 4096, F r := by
  have hN : ∀ n, n < 8 → 8 * n + 7 < N := fun n h => lt_of_lt_of_eq (show 8 * n + 7 < 64 by omega) hN64.symm
  have e : ∀ s : Fin 8, (⟨8 * s.val + 7, hN s s.isLt⟩ : Fin N).val / 8 = s.val := fun s => by show (8 * s.val + 7) / 8 = _; omega
  have key := Cert.Halves.sum_of_parts (N := 8) (ι := Unit) (fun n h _ => f (8 * n + 7) (hN n h))
    (fun s _ => ∑ r : Fin 512, F (row hN64 ⟨8 * s.val + 7, hN s s.isLt⟩ r)) 8 512
    (fun s hs0 _ => h0 ⟨8 * s.val + 7, hN s s.isLt⟩ (by show (8 * s.val + 7) % 8 = 7; omega) (by show 8 * s.val + 7 < 8; omega))
    (fun s hs0 _ => (hs ⟨8 * s.val + 7, hN s s.isLt⟩ (by show (8 * s.val + 7) % 8 = 7; omega) (by show ¬ 8 * s.val + 7 < 8; omega)).trans
      (congrArg (· + _) ?_)) 7 rfl () (Cert.Halves.upto F) (fun s _ => ?_)
  · obtain ⟨t, h⟩ := t
    obtain rfl : t = 63 := ht
    exact key.trans (Finset.sum_congr rfl fun k _ => Cert.Halves.upto_of_lt _ _ k.isLt)
  · obtain ⟨s, hsl⟩ := s
    match s, hsl with
    | 0, _ => exact absurd rfl hs0
    | s + 1, hsl => exact hk (8 * s + 7) (by omega) (Nat.lt_of_succ_lt (hN (s + 1) hsl))
  · refine Finset.sum_congr rfl fun r _ => ?_
    have hs8 : s.val % 8 = s.val := Nat.mod_eq_of_lt s.isLt
    refine Eq.trans ?_ (Cert.Halves.upto_of_lt F (512 * (s.val % 8) + r.val) (by omega)).symm
    refine congrArg F (Fin.ext ?_)
    show 512 * ((8 * s.val + 7) / 8) + r.val = 512 * (s.val % 8) + r.val
    omega

end Cert.Halves
end
-- ==== Proof.RowNorm.lean ====
module

public import proofs.«01_k».proof.Proof.Numbers
public import Idealize.ShloMosaic.Lib.Pointwise

@[expose] public section

noncomputable section

open Idealize.ShloMosaic

namespace Cert.Norm
open Cert.Ffn (IsNum)

/-- The constant the residual is scaled by. -/
def alpha : EReal := FloatOps.ofBits (F := Ideal) .f32 0x3FB504F3#32
/-- The number of entries of a row. -/
def width : EReal := FloatOps.ofBits (F := Ideal) .f32 0x45000000#32
/-- What is added to a row's variance. -/
def eps : EReal := FloatOps.ofBits (F := Ideal) .f32 0x3727C5AC#32
/-- The constant two. -/
def two : EReal := FloatOps.ofBits (F := Ideal) .f32 0x40000000#32
/-- The constant minus a half. -/
def mhalf : EReal := FloatOps.ofBits (F := Ideal) .f32 0xBF000000#32

/-- A row's mean. -/
def mean (r : Fin 2048 → EReal) : EReal := Ideal.div (∑ k, r k) width
/-- A row less its mean. -/
def centred (r : Fin 2048 → EReal) (j : Fin 2048) : EReal := r j - mean r
/-- A row's variance, with the small constant. -/
def spread (r : Fin 2048 → EReal) : EReal := mean (fun k => centred r k * centred r k) + eps
/-- A row's inverse deviation. -/
def rstd (r : Fin 2048 → EReal) : EReal := Ideal.rsqrt (spread r)
/-- The normed row. -/
def normed (r : Fin 2048 → EReal) (j : Fin 2048) : EReal := centred r j * rstd r

/-- The gradient through a layer norm of a row: `d` is the gradient at the norm's output, `x` the normed row, `s` the
    inverse deviation and `g` the gain. -/
def lnb (d x : Fin 2048 → EReal) (s : EReal) (g : Fin 2048 → EReal) (j : Fin 2048) : EReal :=
  s * (d j * g j - Ideal.div (∑ k, d k * g k) width - x j * Ideal.div (∑ k, d k * g k * x k) width)

/-- The variance's share of the gradient: how much the row's gradient takes from each centred entry, twice. -/
def varShare (d r g : Fin 2048 → EReal) : EReal :=
  Ideal.div ((∑ k, centred r k * (d k * g k)) * (mhalf * Ideal.div (rstd r) (spread r))) width

/-- The same gradient as differentiation makes it: through the quotient, the variance and the mean one after the other. -/
def chain (d r g : Fin 2048 → EReal) (j : Fin 2048) : EReal :=
  d j * g j * rstd r + varShare d r g * (two * centred r j)
    + Ideal.div ((∑ k, -(d k * g k * rstd r)) + ∑ k, -(varShare d r g * (two * centred r k))) width

/-- The row's length as a real number. -/
theorem width_eq : width = ((2048 : ℝ) : EReal) := by
  show Ideal.ofBits .f32 0x45000000#32 = _
  simp [Ideal.ofBits, Ideal.ieee, ← EReal.coe_mul, ← EReal.coe_neg]
  norm_num [← EReal.coe_mul, ← EReal.coe_neg]

/-- The constant two as a real number. -/
theorem two_eq : two = ((2 : ℝ) : EReal) := by
  show Ideal.ofBits .f32 0x40000000#32 = _
  simp [Ideal.ofBits, Ideal.ieee, ← EReal.coe_mul, ← EReal.coe_neg]
  norm_num [← EReal.coe_mul, ← EReal.coe_neg]

/-- The constant minus a half as a real number. -/
theorem mhalf_eq : mhalf = ((-(1 / 2) : ℝ) : EReal) := by
  show Ideal.ofBits .f32 0xBF000000#32 = _
  simp [Ideal.ofBits, Ideal.ieee, ← EReal.coe_mul, ← EReal.coe_neg]
  norm_num [← EReal.coe_mul, ← EReal.coe_neg]

/-- The small constant is a positive real number. -/
theorem eps_eq : ∃ e : ℝ, 0 < e ∧ eps = e := by
  refine ⟨_, ?_, show Ideal.ofBits .f32 0x3727C5AC#32 = _ by simp only [Ideal.ofBits, Ideal.ieee]; simp; rfl⟩
  positivity

/-- The scale is a number. -/
theorem alpha_num : IsNum alpha := ⟨_, show Ideal.ofBits .f32 0x3FB504F3#32 = _ by simp only [Ideal.ofBits, Ideal.ieee]; simp; rfl⟩

/-- A sum of reals, read in the extended reals. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- The two forms of the gradient over the reals. -/
theorem chain_real {n : ℕ} (C U : Fin n → ℝ) (N s v : ℝ) (hC : ∑ k, C k = 0) (hv : v ≠ 0) (hs : s * s * v = 1) (j : Fin n) :
    U j * s + (∑ k, C k * U k) * (-(1 / 2) * (s * (1 / v))) * (1 / N) * (2 * C j)
      + ((∑ k, -(U k * s)) + ∑ k, -((∑ k, C k * U k) * (-(1 / 2) * (s * (1 / v))) * (1 / N) * (2 * C k))) * (1 / N)
      = s * (U j - (∑ k, U k) * (1 / N) - C j * s * ((∑ k, U k * (C k * s)) * (1 / N))) := by
  have e0 : 1 / v = s * s := by field_simp; linarith
  have e1 : ∑ k, -((∑ k, C k * U k) * (-(1 / 2) * (s * (1 / v))) * (1 / N) * (2 * C k)) = 0 := by
    rw [Finset.sum_neg_distrib, ← Finset.mul_sum, ← Finset.mul_sum, hC]
    simp
  have e2 : ∑ k, -(U k * s) = -((∑ k, U k) * s) := by rw [Finset.sum_neg_distrib, Finset.sum_mul]
  have e3 : ∑ k, U k * (C k * s) = (∑ k, C k * U k) * s := by
    rw [Finset.sum_mul]
    exact Finset.sum_congr rfl fun k _ => by ring
  rw [e1, e2, e3, e0]
  ring

/-- Where the gradient, the row and the gain are numbers the two forms agree. -/
theorem chain_eq {d r g : Fin 2048 → EReal} (hd : ∀ k, IsNum (d k)) (hr : ∀ k, IsNum (r k)) (hg : ∀ k, IsNum (g k)) (j : Fin 2048) :
    chain d r g j = lnb d (normed r) (rstd r) g j := by
  choose D hD using hd
  choose R hR using hr
  choose G hG using hg
  obtain rfl : d = fun k => (D k : EReal) := funext hD
  obtain rfl : r = fun k => (R k : EReal) := funext hR
  obtain rfl : g = fun k => (G k : EReal) := funext hG
  obtain ⟨e, he, hE⟩ := eps_eq
  have hN : (2048 : ℝ) ≠ 0 := by norm_num
  have hmean : ∀ f : Fin 2048 → ℝ, mean (fun k => (f k : EReal)) = (((∑ k, f k) * (1 / 2048) : ℝ) : EReal) := fun f => by
    unfold mean
    rw [width_eq, coe_sum, Ideal.div_coe hN, ← EReal.coe_mul]
  let C : Fin 2048 → ℝ := fun k => R k - (∑ k, R k) * (1 / 2048)
  have hc : ∀ k, centred (fun k => (R k : EReal)) k = (C k : EReal) := fun k => by
    unfold centred
    rw [hmean, ← EReal.coe_sub]
  let v : ℝ := (∑ k, C k * C k) * (1 / 2048) + e
  have hsp : spread (fun k => (R k : EReal)) = (v : EReal) := by
    unfold spread
    simp only [hc, ← EReal.coe_mul]
    rw [hmean, hE, ← EReal.coe_add]
  have hv : 0 < v := by
    have : 0 ≤ ∑ k, C k * C k := Finset.sum_nonneg fun k _ => mul_self_nonneg _
    show 0 < (∑ k, C k * C k) * (1 / 2048) + e
    positivity
  let s : ℝ := (Real.sqrt v)⁻¹
  have hs : rstd (fun k => (R k : EReal)) = (s : EReal) := by
    unfold rstd
    rw [hsp, Ideal.rsqrt_coe, if_neg (not_lt.mpr hv.le), if_neg hv.ne']
  have hss : s * s * v = 1 := by
    have h1 : Real.sqrt v ≠ 0 := (Real.sqrt_pos.mpr hv).ne'
    have h2 : Real.sqrt v * Real.sqrt v = v := Real.mul_self_sqrt hv.le
    show (Real.sqrt v)⁻¹ * (Real.sqrt v)⁻¹ * v = 1
    rw [← mul_inv, h2, inv_mul_cancel₀ hv.ne']
  have hC : ∑ k, C k = 0 := by
    show ∑ k, (R k - (∑ k, R k) * (1 / 2048)) = 0
    rw [Finset.sum_sub_distrib, Finset.sum_const, Finset.card_univ, Fintype.card_fin]
    simp
    ring
  have key := chain_real C (fun k => D k * G k) 2048 s v hC hv.ne' hss j
  unfold chain lnb varShare normed
  simp only [hc, hs, hsp, width_eq, two_eq, mhalf_eq, Ideal.div_coe hN, Ideal.div_coe hv.ne', ← EReal.coe_mul, coe_sum, ← EReal.coe_sub,
    ← EReal.coe_neg, ← EReal.coe_add]
  exact congrArg _ key

end Cert.Norm
end
-- ==== Proof.FfnInKernel.lean ====
module

public import proofs.«01_k».proof.Defs
public import proofs.«01_k».proof.Proof.HalfSums
public import proofs.«01_k».proof.Proof.RowNorm
public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.FfnIn
open Cert.Kernel2Ideal Cert.Kernel2Ideal.Gen
open Cert.Norm (alpha width eps mean centred spread rstd normed lnb)

variable (m : (ℓ : Loc nD τ sig) → Buf (Elt Ideal) ℓ)

/-- The gradient at the product, its two halves side by side. -/
def dhK (c : Dev nD) (t : Fin 4096) (k : Fin 11264) : EReal :=
  m ((c : Thread nD τ).loc main_arg0) (ix3 ⟨k.val / 5632, by omega⟩ t ⟨k.val % 5632, by omega⟩)
/-- The up projection, its four parts side by side. -/
def wK (c : Dev nD) (d : Fin 2048) (k : Fin 11264) : EReal :=
  m ((c : Thread nD τ).loc main_arg1) (ix3 ⟨k.val / 2816, by omega⟩ d ⟨k.val % 2816, by omega⟩)
/-- The gradient that comes past the FFN. -/
def resK (c : Dev nD) (t : Fin 4096) (d : Fin 2048) : EReal := m ((c : Thread nD τ).loc main_arg2) (ix2 t d)
/-- The norm's input. -/
def rK (c : Dev nD) (t : Fin 4096) (d : Fin 2048) : EReal := m ((c : Thread nD τ).loc main_arg3) (ix2 t d)
/-- The norm's gain. -/
def gK (c : Dev nD) (d : Fin 2048) : EReal := m ((c : Thread nD τ).loc main_arg4) (ix1 d)

/-- The blocks a point reads and the rows it works for. -/
theorem idx : ∀ t : Fin cfg0.N, win0_0.index t = ![t.val % 8 / 4, t.val / 8, t.val % 4] ∧ win0_1.index t = ![0, t.val % 8 / 2, 0, t.val % 2]
    ∧ win0_2.index t = ![t.val / 8, 0] ∧ win0_3.index t = ![t.val / 8, 0] ∧ win0_4.index t = ![t.val / 8, 0] ∧ win0_5.index t = ![0, 0]
    ∧ win0_6.index t = ![t.val / 8, 0] ∧ win0_7.index t = ![t.val / 8, 0] ∧ win0_8.index t = ![0, 0] ∧ win0_9.index t = ![0, 0] :=
  (by decide +kernel : ∀ t : Fin grid0.N, _)

/-- A row of the point's block. -/
def row (t : Fin cfg0.N) (r : Fin 512) : Fin 4096 := ⟨512 * (t.val / 8) + r, by have := t.isLt.trans_eq N_0; omega⟩
/-- A column of the point's part. -/
def cln (t : Fin cfg0.N) (k : Fin 1408) : Fin 11264 := ⟨1408 * (t.val % 8) + k, by omega⟩

/-- The rows are counted as in the sums over all rows. -/
theorem row_eq (t : Fin cfg0.N) (r : Fin 512) : Cert.Halves.row N_0 t r = row t r := rfl

/-- The points of a row block have the same rows. -/
theorem row_same (s t : Fin cfg0.N) (h : s.val / 8 = t.val / 8) (r : Fin 512) : row s r = row t r :=
  Fin.ext (by show 512 * (s.val / 8) + r.val = 512 * (t.val / 8) + r.val; rw [h])

/-- The product's gradient's block at an entry. -/
theorem dh_at (c : Dev nD) (t : Fin cfg0.N) (r : Fin 512) (k : Fin 1408) : iblk m c 0 t (ix3 0 r k) = dhK m c (row t r) (cln t k) := by
  have e1 : (cln t k).val / 5632 = t.val % 8 / 4 := by show (1408 * (t.val % 8) + k.val) / 5632 = _; omega
  have e2 : (cln t k).val % 5632 = 1408 * (t.val % 4) + k := by show (1408 * (t.val % 8) + k.val) % 5632 = _; omega
  unfold dhK row
  simp only [e1, e2]
  blk_ext [iblk, V, idx t]

/-- The up projection as the call reads it, at an entry. -/
theorem w_host (c : Dev nD) (p : Fin 4) (d : Fin 2048) (k : Fin 2816) :
    (StableHlo.after (hostOps0 (F := Ideal)) (fun b => m (c, b)) (Proc.tc.devRef main_v14) (ix4 0 p d k) : EReal)
      = m ((c : Thread nD τ).loc main_arg1) (ix3 p d k) := by
  entry_read
  pointwise

/-- The normed rows as the call reads them, at an entry. -/
theorem x_host (c : Dev nD) (t : Fin 4096) (d : Fin 2048) :
    (StableHlo.after (hostOps0 (F := Ideal)) (fun b => m (c, b)) (Proc.tc.devRef main_v18) (ix2 t d) : EReal) = normed (rK m c t) d := by
  entry_read
  pointwise [normed, centred, rstd, spread, mean, eps, width, rK]

/-- The inverse deviations as the call reads them, at an entry. -/
theorem s_host (c : Dev nD) (t : Fin 4096) :
    (StableHlo.after (hostOps0 (F := Ideal)) (fun b => m (c, b)) (Proc.tc.devRef main_v13) (ix2 t 0) : EReal) = rstd (rK m c t) := by
  entry_read
  pointwise [centred, rstd, spread, mean, eps, width, rK]

/-- The gain as the call reads it, at an entry. -/
theorem g_host (c : Dev nD) (d : Fin 2048) :
    (StableHlo.after (hostOps0 (F := Ideal)) (fun b => m (c, b)) (Proc.tc.devRef main_v19) (ix2 0 d) : EReal) = gK m c d := by
  entry_read
  pointwise [gK]

/-- The up projection's block at an entry. -/
theorem w_at (c : Dev nD) (t : Fin cfg0.N) (d : Fin 2048) (k : Fin 1408) : iblk m c 1 t (ix4 0 0 d k) = wK m c d (cln t k) := by
  have e1 : (cln t k).val / 2816 = t.val % 8 / 2 := by show (1408 * (t.val % 8) + k.val) / 2816 = _; omega
  have e2 : (cln t k).val % 2816 = 1408 * (t.val % 2) + k := by show (1408 * (t.val % 8) + k.val) % 2816 = _; omega
  unfold wK
  refine Eq.trans ?_ (w_host m c _ d _)
  simp only [e1, e2]
  blk_ext [iblk, V, idx t]

/-- The other gradient's block at an entry. -/
theorem res_at (c : Dev nD) (t : Fin cfg0.N) (r : Fin 512) (d : Fin 2048) : iblk m c 2 t (ix2 r d) = resK m c (row t r) d := by
  unfold resK row
  blk_ext [iblk, V, idx t]

/-- The normed rows' block at an entry. -/
theorem x_at (c : Dev nD) (t : Fin cfg0.N) (r : Fin 512) (d : Fin 2048) : iblk m c 3 t (ix2 r d) = normed (rK m c (row t r)) d := by
  refine Eq.trans ?_ (x_host m c (row t r) d)
  unfold row
  blk_ext [iblk, V, idx t]

/-- The inverse deviations' block at an entry. -/
theorem s_at (c : Dev nD) (t : Fin cfg0.N) (r : Fin 512) : iblk m c 4 t (ix2 r 0) = rstd (rK m c (row t r)) := by
  refine Eq.trans ?_ (s_host m c (row t r))
  unfold row
  blk_ext [iblk, V, idx t]

/-- The gain's block at an entry. -/
theorem g_at (c : Dev nD) (t : Fin cfg0.N) (d : Fin 2048) : iblk m c 5 t (ix2 0 d) = gK m c d := by
  refine Eq.trans ?_ (g_host m c d)
  blk_ext [iblk, V, idx t]

/-- What a point adds to its rows: the product over its part of the columns. -/
def term (c : Dev nD) (t : Fin cfg0.N) (i : S512x2048.Idx) : EReal :=
  ∑ k : Fin 1408, dhK m c (row t (i 0)) (cln t k) * wK m c (i 1) (cln t k)

/-- The first point of a row block starts from zero. -/
theorem reset (c : Dev nD) (t : Fin cfg0.N) (ht : t.val % 8 = 0) (i : S512x2048.Idx) :
    (outsAt0 m c t.val t.isLt).2.2.2.2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, dh_at, w_at]

/-- A later point adds to what the point before left. -/
theorem step (c : Dev nD) (t : Fin cfg0.N) (ht : ¬ t.val % 8 = 0) (i : S512x2048.Idx) :
    (outsAt0 m c t.val t.isLt).2.2.2.2 i
      = (outsAt0 m c (t.val - 1) (Nat.lt_of_le_of_lt (Nat.sub_le _ _) t.isLt)).2.2.2.2 i + term m c t i := by
  idx_vars i
  by_cases h : t.val % 8 = 7
  · rcases lt_or_ge t.val 8 with h2 | h2
    on_goal 1 => rw [outsAt0_C m c t ht h h2]
    on_goal 2 => rw [outsAt0_D m c t ht h (by omega)]
    all_goals
      frame_out
      simp only [read_unread_whole]
      pointwise [k0_pay2, term, dh_at, w_at]
  · rw [outsAt0_B m c t ht h]
    frame_out
    simp only [read_unread_whole]
    pointwise [k0_pay2, term, dh_at, w_at]

/-- What a point holds in its accumulator. -/
def acc (c : Dev nD) (t : Fin cfg0.N) (r : Fin 512) (j : Fin 2048) : EReal := (outsAt0 m c t.val t.isLt).2.2.2.2 (ix2 r j)

/-- What a point's last step reads as the gradient at the norm's output: the scaled residual's and the product's. -/
def dout (c : Dev nD) (t : Fin cfg0.N) (r : Fin 512) (j : Fin 2048) : EReal := alpha * iblk m c 2 t (ix2 r j) + acc m c t r j

/-- The gradient through the norm that the last point of a row block works out. -/
def lnbAt (c : Dev nD) (t : Fin cfg0.N) (r : Fin 512) (j : Fin 2048) : EReal :=
  lnb (dout m c t r) (fun k => iblk m c 3 t (ix2 r k)) (iblk m c 4 t (ix2 r 0)) (fun k => iblk m c 5 t (ix2 0 k)) j

/-- The last point of a row block writes the gradient through the norm, in both precisions. -/
theorem dr_at (c : Dev nD) (t : Fin cfg0.N) (ht : t.val % 8 = 7) (r : Fin 512) (j : Fin 2048) :
    (outsAt0 m c t.val t.isLt).1 (ix2 r j) = lnbAt m c t r j
    ∧ (outsAt0 m c t.val t.isLt).2.1 (ix2 r j) = lnbAt m c t r j := by
  unfold lnbAt dout acc
  rcases lt_or_ge t.val 8 with h | h
  on_goal 1 => rw [outsAt0_C m c t (by omega) ht h]
  on_goal 2 => rw [outsAt0_D m c t (by omega) ht (by omega)]
  all_goals
    constructor
    all_goals
      frame_open
      (try simp (disch := decide) only [↓ View.readCov_skip, ↓ View.readCov_cons_toLoadRect, ↓ View.readCov_fill])
      frame_out
      try simp only [read_unread_whole]
      canon_tiles x h
      all_goals
        idx_vars x
        (try simp only [ix2_0, ix2_1] at h0 h1)
        obtain rfl : j = x1 := Fin.ext h1
        obtain ⟨r, hr⟩ := r
        obtain rfl : r = _ := h0
        pointwise [k0_pay9, k0_pay7, k0_pay8, k0_pay12, k0_pay15, k0_pay16, k0_pay17, k0_pay18, k0_pay19, k0_pay20, k0_pay21, k0_pay22, k0_pay23, k0_pay26, k0_pay27, k0_pay28, k0_pay29, k0_pay30, k0_pay33, k0_pay34, k0_pay35, k0_pay38, alpha, width, lnb]

/-- The first row block's last point starts the gradients of gain and offset. -/
theorem sums_first (c : Dev nD) (t : Fin cfg0.N) (ht : t.val % 8 = 7) (h : t.val < 8) (j : Fin 2048) :
    (outsAt0 m c t.val t.isLt).2.2.1 (ix2 0 j) = 0 + ∑ r : Fin 512, dout m c t r j * iblk m c 3 t (ix2 r j)
    ∧ (outsAt0 m c t.val t.isLt).2.2.2.1 (ix2 0 j) = 0 + ∑ r : Fin 512, dout m c t r j := by
  unfold dout acc
  rw [outsAt0_C m c t (by omega) ht h]
  constructor
  all_goals
    frame_open
    (try simp (disch := decide) only [↓ View.readCov_skip, ↓ View.readCov_cons_toLoadRect, ↓ View.readCov_fill])
    frame_out
    try simp only [read_unread_whole]
    rw [Cert.Halves.sum_slabs]
    simp only [← add_assoc]
    pointwise [k0_pay3, k0_pay4, k0_pay36, k0_pay37, k0_pay31, k0_pay32, k0_pay24, k0_pay25, k0_pay13, k0_pay14, k0_pay10, k0_pay11, k0_pay5, k0_pay6, k0_pay7, k0_pay8, k0_pay15, k0_pay16, k0_pay26, k0_pay27, k0_pay33, k0_pay34, alpha]

/-- A later row block's last point adds to the gradients of gain and offset. -/
theorem sums_next (c : Dev nD) (t : Fin cfg0.N) (ht : t.val % 8 = 7) (h : ¬ t.val < 8) (j : Fin 2048) :
    (outsAt0 m c t.val t.isLt).2.2.1 (ix2 0 j) = (outsAt0 m c (t.val - 1) (Nat.lt_of_le_of_lt (Nat.sub_le _ _) t.isLt)).2.2.1 (ix2 0 j)
      + ∑ r : Fin 512, dout m c t r j * iblk m c 3 t (ix2 r j)
    ∧ (outsAt0 m c t.val t.isLt).2.2.2.1 (ix2 0 j) = (outsAt0 m c (t.val - 1) (Nat.lt_of_le_of_lt (Nat.sub_le _ _) t.isLt)).2.2.2.1 (ix2 0 j)
      + ∑ r : Fin 512, dout m c t r j := by
  unfold dout acc
  rw [outsAt0_D m c t (by omega) ht h]
  constructor
  all_goals
    frame_open
    (try simp (disch := decide) only [↓ View.readCov_skip, ↓ View.readCov_cons_toLoadRect, ↓ View.readCov_fill])
    frame_out
    try simp only [read_unread_whole]
    rw [Cert.Halves.sum_slabs]
    simp only [← add_assoc]
    pointwise [k0_pay3, k0_pay4, k0_pay36, k0_pay37, k0_pay31, k0_pay32, k0_pay24, k0_pay25, k0_pay13, k0_pay14, k0_pay10, k0_pay11, k0_pay5, k0_pay6, k0_pay7, k0_pay8, k0_pay15, k0_pay16, k0_pay26, k0_pay27, k0_pay33, k0_pay34, alpha]

/-- The gradients of gain and offset that a point holds. -/
def held (c : Dev nD) (n : ℕ) (h : n < cfg0.N) (j : Fin 2048) : EReal × EReal :=
  ((outsAt0 m c n h).2.2.1 (ix2 0 j), (outsAt0 m c n h).2.2.2.1 (ix2 0 j))

/-- A point that is not the last of its row block keeps them. -/
theorem held_keep (c : Dev nD) (n : ℕ) (h : n + 1 < cfg0.N) (h7 : ¬ (n + 1) % 8 = 7) (j : Fin 2048) :
    held m c (n + 1) h j = held m c n (Nat.lt_of_succ_lt h) j := by
  unfold held
  by_cases h0 : (n + 1) % 8 = 0
  · rw [outsAt0_A m c ⟨n + 1, h⟩ h0 h7]
    rfl
  · rw [outsAt0_B m c ⟨n + 1, h⟩ h0 h7]
    rfl

/-- So the points after a row block's last keep them up to the next block's last. -/
theorem held_back (c : Dev nD) (n : ℕ) (hn : n % 8 = 7) (j : Fin 2048) (k : ℕ) (hk : k < 8) (h : n + k < cfg0.N) :
    held m c (n + k) h j = held m c n (Nat.lt_of_le_of_lt (Nat.le_add_right _ _) h) j := by
  induction k with
  | zero => rfl
  | succ k ih =>
    exact (held_keep m c (n + k) h (by omega) j).trans (ih (by omega) (Nat.lt_of_succ_lt h))

/-- The gradient at the norm's output: the scaled gradient past the FFN, plus the gradient through the up projection. -/
def dK (c : Dev nD) (t : Fin 4096) (d : Fin 2048) : EReal := alpha * resK m c t d + ∑ k : Fin 11264, dhK m c t k * wK m c d k

/-- A row block's last point holds that gradient. -/
theorem dout_eq (c : Dev nD) (t : Fin cfg0.N) (ht : t.val % 8 = 7) (r : Fin 512) (d : Fin 2048) : dout m c t r d = dK m c (row t r) d := by
  unfold dout dK acc
  rw [res_at]
  refine congrArg (alpha * resK m c (row t r) d + ·) ?_
  refine (Cert.Halves.sum_of_parts (fun n h => (outsAt0 m c n h).2.2.2.2) (term m c) 8 1408 (reset m c) (step m c) t ht _
    (Cert.Halves.upto fun k : Fin 11264 => dhK m c (row t r) k * wK m c d k) fun s h => ?_).trans
    (Finset.sum_congr rfl fun k _ => Cert.Halves.upto_of_lt _ _ k.isLt)
  refine Eq.trans ?_ (Finset.sum_congr rfl fun (k : Fin 1408) _ => (Cert.Halves.upto_of_lt (fun k : Fin 11264 => dhK m c (row t r) k * wK m c d k) (1408 * (s.val % 8) + k.val) (by omega)).symm)
  show ∑ k : Fin 1408, dhK m c (row s r) (cln s k) * wK m c d (cln s k) = _
  rw [row_same s t h]
  rfl

/-- The gradient at the norm's input. -/
def back (c : Dev nD) (t : Fin 4096) (d : Fin 2048) : EReal := lnb (dK m c t) (normed (rK m c t)) (rstd (rK m c t)) (gK m c) d
/-- The gradient of the gain. -/
def gain (c : Dev nD) (d : Fin 2048) : EReal := ∑ t : Fin 4096, dK m c t d * normed (rK m c t) d
/-- The gradient of the offset. -/
def offs (c : Dev nD) (d : Fin 2048) : EReal := ∑ t : Fin 4096, dK m c t d

/-- A row block's last point works out the gradient at the norm's input. -/
theorem lnbAt_eq (c : Dev nD) (t : Fin cfg0.N) (ht : t.val % 8 = 7) (r : Fin 512) (d : Fin 2048) :
    lnbAt m c t r d = back m c (row t r) d := by
  unfold lnbAt back
  rw [s_at, show dout m c t r = dK m c (row t r) from funext (dout_eq m c t ht r),
    show (fun k => iblk m c 3 t (ix2 r k)) = normed (rK m c (row t r)) from funext (x_at m c t r),
    show (fun k => iblk m c 5 t (ix2 0 k)) = gK m c from funext (g_at m c t)]

/-- The gradient at the norm's input, as the call writes it. -/
theorem final_dr (c : Dev nD) (t : Fin 4096) (d : Fin 2048) : (dats m 0 c).arrAt 6 cfg0.N (ix2 t d) = back m c t d := by
  have := (dats m 0 c).arrAt_eq_of_covers 6 (fun i : S4096x2048.Idx => back m c (i 0) (i 1))
    (by decide +kernel) fun t hf y => by
      have ht := (flush0_6 t).mp hf
      idx_vars y
      blk_simp
      rw [after0_6]
      refine ((dr_at m c t ht y0 y1).1.trans (lnbAt_eq m c t ht y0 y1)).trans ?_
      have e : (win0_6.blk t).view.emb (ix2 y0 y1) = ix2 (row t y0) y1 := by
        unfold row
        blk_ext [idx t]
      rw [e]
      rfl
  exact congrFun this (ix2 t d)

/-- The same in the half precision. -/
theorem final_drb (c : Dev nD) (t : Fin 4096) (d : Fin 2048) : (dats m 0 c).arrAt 7 cfg0.N (ix2 t d) = back m c t d := by
  have := (dats m 0 c).arrAt_eq_of_covers 7 (fun i : S4096x2048.Idx => back m c (i 0) (i 1))
    (by decide +kernel) fun t hf y => by
      have ht := (flush0_7 t).mp hf
      idx_vars y
      blk_simp
      rw [after0_7]
      refine ((dr_at m c t ht y0 y1).2.trans (lnbAt_eq m c t ht y0 y1)).trans ?_
      have e : (win0_7.blk t).view.emb (ix2 y0 y1) = ix2 (row t y0) y1 := by
        unfold row
        blk_ext [idx t]
      rw [e]
      rfl
  exact congrFun this (ix2 t d)

/-- The gain's gradient, as the call writes it. -/
theorem final_dg (c : Dev nD) (d : Fin 2048) : (dats m 0 c).arrAt 8 cfg0.N (ix2 0 d) = gain m c d := by
  have := (dats m 0 c).arrAt_eq_of_covers 8 (fun i : S1x2048.Idx => gain m c (i 1))
    (by decide +kernel) fun t hf y => by
      have ht := (flush0_8 t).mp hf
      have hN := t.isLt.trans_eq N_0
      idx_vars y
      blk_simp
      rw [after0_8]
      obtain rfl : y0 = 0 := Subsingleton.elim _ _
      have e : (win0_8.blk t).view.emb (ix2 0 y1) = ix2 0 y1 := by
        blk_ext [idx t]
      rw [e]
      refine Cert.Halves.sum_rows N_0 (fun n h => (held m c n h y1).1) (fun t => dK m c t y1 * normed (rK m c t) y1) (fun t h7 h => ?_) (fun t h7 h => ?_)
        (fun n hn h => congrArg Prod.fst (held_back m c n hn y1 7 (by omega) h)) t (by omega)
      · simp only [row_eq, ← dout_eq m c t h7, ← x_at]
        exact (sums_first m c t h7 h y1).1
      · simp only [row_eq, ← dout_eq m c t h7, ← x_at]
        exact (sums_next m c t h7 h y1).1
  exact congrFun this (ix2 0 d)

/-- The offset's gradient, as the call writes it. -/
theorem final_db (c : Dev nD) (d : Fin 2048) : (dats m 0 c).arrAt 9 cfg0.N (ix2 0 d) = offs m c d := by
  have := (dats m 0 c).arrAt_eq_of_covers 9 (fun i : S1x2048.Idx => offs m c (i 1))
    (by decide +kernel) fun t hf y => by
      have ht := (flush0_9 t).mp hf
      have hN := t.isLt.trans_eq N_0
      idx_vars y
      blk_simp
      rw [after0_9]
      obtain rfl : y0 = 0 := Subsingleton.elim _ _
      have e : (win0_9.blk t).view.emb (ix2 0 y1) = ix2 0 y1 := by
        blk_ext [idx t]
      rw [e]
      refine Cert.Halves.sum_rows N_0 (fun n h => (held m c n h y1).2) (fun t => dK m c t y1) (fun t h7 h => ?_) (fun t h7 h => ?_)
        (fun n hn h => congrArg Prod.snd (held_back m c n hn y1 7 (by omega) h)) t (by omega)
      · simp only [row_eq, ← dout_eq m c t h7]
        exact (sums_first m c t h7 h y1).2
      · simp only [row_eq, ← dout_eq m c t h7]
        exact (sums_next m c t h7 h y1).2
  exact congrFun this (ix2 0 d)

end Cert.Kernel2Ideal.FfnIn
end
-- ==== Proof.FfnInReference.lean ====
module

public import proofs.«01_k».proof.Proof.RowNorm
public import proofs.«01_k».proof.Proof.Gen.Reference2Ideal.Run
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem Idealize.ShloMosaic.StableHlo

namespace Cert.Reference2Ideal.FfnIn
open Cert.Reference2Ideal Cert.Reference2Ideal.Gen Cert.Norm

/-- The up projection's four parts side by side. -/
def whole (W : FVec Ideal S4x2048x2816 .bf16) : FVec Ideal S2048x11264 .bf16 :=
  concatenate S2048x11264 1 [⟨S2048x2816, (shapeCast _ (extractStridedSlice S1x2048x2816 ![0, 0, 0] W slices_S4x2048x2816_S1x2048x2816_0_0_0) shapeCasts_S1x2048x2816_S2048x2816)⟩, ⟨S2048x2816, (shapeCast _ (extractStridedSlice S1x2048x2816 ![1, 0, 0] W slices_S4x2048x2816_S1x2048x2816_1_0_0) shapeCasts_S1x2048x2816_S2048x2816)⟩, ⟨S2048x2816, (shapeCast _ (extractStridedSlice S1x2048x2816 ![2, 0, 0] W slices_S4x2048x2816_S1x2048x2816_2_0_0) shapeCasts_S1x2048x2816_S2048x2816)⟩, ⟨S2048x2816, (shapeCast _ (extractStridedSlice S1x2048x2816 ![3, 0, 0] W slices_S4x2048x2816_S1x2048x2816_3_0_0) shapeCasts_S1x2048x2816_S2048x2816)⟩] concatenates_S2048x2816_S2048x2816_S2048x2816_S2048x2816_S2048x11264_d1

/-- The parts side by side at an entry. -/
theorem whole_at (W : FVec Ideal S4x2048x2816 .bf16) (d : Fin 2048) (k : Fin 11264) :
    (whole W (ix2 d k) : EReal) = W (ix3 ⟨k.val / 2816, by omega⟩ d ⟨k.val % 2816, by omega⟩) := by
  obtain ⟨p, q, rfl⟩ : ∃ (p : Fin 4) (q : Fin 2816), k = ⟨2816 * p + q, by omega⟩ :=
    ⟨⟨k.val / 2816, by omega⟩, ⟨k.val % 2816, by omega⟩, Fin.ext (Nat.div_add_mod k.val 2816).symm⟩
  have e1 : (2816 * p.val + q.val) / 2816 = p := by omega
  have e2 : (2816 * p.val + q.val) % 2816 = q := by omega
  simp only [e1, e2]
  match p with
  | 0 => pointwise [whole]
  | 1 => pointwise [whole]
  | 2 =>
    have f1 : ¬ 5632 + q.val < 2816 := by omega
    have f2 : ¬ 5632 + q.val - 2816 < 2816 := by omega
    have f3 : 5632 + q.val - 2816 - 2816 = q := by omega
    pointwise [whole, f1, f2, f3]
  | 3 =>
    have f1 : ¬ 8448 + q.val < 2816 := by omega
    have f2 : ¬ 8448 + q.val - 2816 < 2816 := by omega
    have f3 : ¬ 8448 + q.val - 2816 - 2816 < 2816 := by omega
    have f4 : 8448 + q.val - 2816 - 2816 - 2816 = q := by omega
    pointwise [whole, f1, f2, f3, f4]

/-- The two halves of the gradient at the hidden layer side by side. -/
def both (H : FVec Ideal S2x4096x5632 .bf16) : FVec Ideal S4096x11264 .bf16 :=
  concatenate S4096x11264 1 [⟨S4096x5632, (shapeCast _ (extractStridedSlice S1x4096x5632 ![0, 0, 0] H slices_S2x4096x5632_S1x4096x5632_0_0_0) shapeCasts_S1x4096x5632_S4096x5632)⟩, ⟨S4096x5632, (shapeCast _ (extractStridedSlice S1x4096x5632 ![1, 0, 0] H slices_S2x4096x5632_S1x4096x5632_1_0_0) shapeCasts_S1x4096x5632_S4096x5632)⟩] concatenates_S4096x5632_S4096x5632_S4096x11264_d1

/-- The halves side by side at an entry. -/
theorem both_at (H : FVec Ideal S2x4096x5632 .bf16) (t : Fin 4096) (k : Fin 11264) :
    (both H (ix2 t k) : EReal) = H (ix3 ⟨k.val / 5632, by omega⟩ t ⟨k.val % 5632, by omega⟩) := by
  obtain ⟨p, q, rfl⟩ : ∃ (p : Fin 2) (q : Fin 5632), k = ⟨5632 * p + q, by omega⟩ :=
    ⟨⟨k.val / 5632, by omega⟩, ⟨k.val % 5632, by omega⟩, Fin.ext (Nat.div_add_mod k.val 5632).symm⟩
  have e1 : (5632 * p.val + q.val) / 5632 = p := by omega
  have e2 : (5632 * p.val + q.val) % 5632 = q := by omega
  simp only [e1, e2]
  match p with
  | 0 => pointwise [both]
  | 1 => pointwise [both]

/-- The gradient at the norm's output. -/
def out (H : FVec Ideal S2x4096x5632 .bf16) (W : FVec Ideal S4x2048x2816 .bf16) (A : FVec Ideal S4096x2048 .f32) : FVec Ideal S4096x2048 .f32 :=
  addf (Host.dotGeneral dot_S4096x11264_S2048x11264_S4096x2048_1_1_0_0_n_n none (extf .f32 (both H) bitsLt_bf16_f32) (extf .f32 (whole W) bitsLt_bf16_f32))
    (mulf (broadcastInDim S4096x2048 ![] bcast_S_S4096x2048 (constant S_ .f32 0x3FB504F3#32)) A)

/-- The gradient at the norm's output, at an entry. -/
theorem out_at (H : FVec Ideal S2x4096x5632 .bf16) (W : FVec Ideal S4x2048x2816 .bf16) (A : FVec Ideal S4096x2048 .f32) (t : Fin 4096) (d : Fin 2048) :
    (out H W A (ix2 t d) : EReal) = alpha * A (ix2 t d)
      + ∑ k : Fin 11264, H (ix3 ⟨k.val / 5632, by omega⟩ t ⟨k.val % 5632, by omega⟩) * W (ix3 ⟨k.val / 2816, by omega⟩ d ⟨k.val % 2816, by omega⟩) := by
  simp only [← whole_at, ← both_at]
  rw [add_comm]
  pointwise [out, alpha]

variable (D R : FVec Ideal S4096x2048 .f32) (g : FVec Ideal S2048 .f32)

/-- The sum of each row. -/
def sums (A : FVec Ideal S4096x2048 .f32) : FVec Ideal S4096 .f32 :=
  Host.reduceAdd A (constant S_ .f32 0x00000000#32) reducesTo_S4096x2048_S4096_d1 h_S_
/-- Each row's mean, as a column. -/
def mu : FVec Ideal S4096x1 .f32 :=
  Host.divf (broadcastInDim S4096x1 ![0] bcast_S4096_S4096x1_0 (sums R)) (broadcastInDim S4096x1 ![] bcast_S_S4096x1 (constant S_ .f32 0x45000000#32))
/-- The rows less their means. -/
def cen : FVec Ideal S4096x2048 .f32 := subf R (broadcastInDim S4096x2048 ![0, 1] bcast_S4096x1_S4096x2048_0_1 (mu R))
/-- The variances and the small constant. -/
def var : FVec Ideal S4096x1 .f32 :=
  addf (mu (mulf (cen R) (cen R))) (broadcastInDim S4096x1 ![] bcast_S_S4096x1 (constant S_ .f32 0x3727C5AC#32))
/-- The inverse deviations. -/
def inv : FVec Ideal S4096x1 .f32 := Host.rsqrt (var R)
/-- The normed rows. -/
def nrm : FVec Ideal S4096x2048 .f32 := mulf (cen R) (broadcastInDim S4096x2048 ![0, 1] bcast_S4096x1_S4096x2048_0_1 (inv R))
/-- The gradient times the gain. -/
def scaled : FVec Ideal S4096x2048 .f32 :=
  mulf D (broadcastInDim S4096x2048 ![0, 1] bcast_S1x2048_S4096x2048_0_1 (broadcastInDim S1x2048 ![1] bcast_S2048_S1x2048_1 g))
/-- That, past the variance. -/
def direct : FVec Ideal S4096x2048 .f32 := mulf (scaled D g) (broadcastInDim S4096x2048 ![0, 1] bcast_S4096x1_S4096x2048_0_1 (inv R))
/-- The variances' shares. -/
def share : FVec Ideal S4096x1 .f32 :=
  Host.divf (mulf (shapeCast _ (sums (mulf (cen R) (scaled D g))) shapeCasts_S4096_S4096x1)
    (mulf (broadcastInDim S4096x1 ![] bcast_S_S4096x1 (constant S_ .f32 0xBF000000#32)) (Host.divf (inv R) (var R))))
    (broadcastInDim S4096x1 ![] bcast_S_S4096x1 (constant S_ .f32 0x45000000#32))
/-- A column along the rows. -/
def along (C : FVec Ideal S4096x1 .f32) : FVec Ideal S4096x2048 .f32 :=
  broadcastInDim S4096x2048 ![0] bcast_S4096_S4096x2048_0 (Host.reduceAdd C (constant S_ .f32 0x00000000#32) reducesTo_S4096x1_S4096_d1 h_S_)
/-- The gradient through the variance. -/
def through : FVec Ideal S4096x2048 .f32 :=
  mulf (along (share D R g)) (mulf (broadcastInDim S4096x2048 ![] bcast_S_S4096x2048 (constant S_ .f32 0x40000000#32)) (cen R))
/-- The gradient at the norm's input. -/
def grad : FVec Ideal S4096x2048 .f32 :=
  addf (addf (direct D R g) (through D R g))
    (along (Host.divf (addf (shapeCast _ (sums (Host.negf (direct D R g))) shapeCasts_S4096_S4096x1) (shapeCast _ (sums (Host.negf (through D R g))) shapeCasts_S4096_S4096x1))
      (broadcastInDim S4096x1 ![] bcast_S_S4096x1 (constant S_ .f32 0x45000000#32))))
/-- The sum of each column, as one row. -/
def cols (A : FVec Ideal S4096x2048 .f32) : FVec Ideal S1x2048 .f32 :=
  broadcastInDim S1x2048 ![1] bcast_S2048_S1x2048_1 (Host.reduceAdd (shapeCast _ (Host.reduceAdd A (constant S_ .f32 0x00000000#32) reducesTo_S4096x2048_S2048_d0 h_S_) shapeCasts_S2048_S1x2048) (constant S_ .f32 0x00000000#32) reducesTo_S1x2048_S2048_d0 h_S_)

/-- A row of an array. -/
def row (A : FVec Ideal S4096x2048 .f32) (t : Fin 4096) (j : Fin 2048) : EReal := A (ix2 t j)
/-- The gain's entries. -/
def ent (j : Fin 2048) : EReal := g (ix1 j)

/-- A row's sum. -/
theorem sums_at (A : FVec Ideal S4096x2048 .f32) (t : Fin 4096) : (sums A (ix1 t) : EReal) = ∑ k, row A t k := by
  unfold row
  pointwise [sums]
/-- A row's mean. -/
theorem mu_at (t : Fin 4096) : (mu R (ix2 t 0) : EReal) = mean (row R t) := by
  unfold mean
  rw [← sums_at]
  pointwise [mu, width]
/-- A row less its mean, at an entry. -/
theorem cen_at (t : Fin 4096) (j : Fin 2048) : (cen R (ix2 t j) : EReal) = centred (row R t) j := by
  unfold centred
  rw [← mu_at]
  pointwise [cen, row]
/-- A row's variance and the small constant. -/
theorem var_at (t : Fin 4096) : (var R (ix2 t 0) : EReal) = spread (row R t) := by
  have e : row (mulf (cen R) (cen R)) t = fun k => centred (row R t) k * centred (row R t) k := by
    funext k
    rw [← cen_at]
    rfl
  unfold spread
  rw [← e, ← mu_at]
  pointwise [var, eps]
/-- A row's inverse deviation. -/
theorem inv_at (t : Fin 4096) : (inv R (ix2 t 0) : EReal) = rstd (row R t) := by
  unfold rstd
  rw [← var_at]
  rfl
/-- The normed row at an entry. -/
theorem nrm_at (t : Fin 4096) (j : Fin 2048) : (nrm R (ix2 t j) : EReal) = normed (row R t) j := by
  unfold normed
  rw [← inv_at, ← cen_at]
  pointwise [nrm]
/-- The gradient times the gain at an entry. -/
theorem scaled_at (t : Fin 4096) (j : Fin 2048) : (scaled D g (ix2 t j) : EReal) = row D t j * ent g j := by
  unfold row ent
  pointwise [scaled]
/-- The part past the variance at an entry. -/
theorem direct_at (t : Fin 4096) (j : Fin 2048) : (direct D R g (ix2 t j) : EReal) = row D t j * ent g j * rstd (row R t) := by
  rw [← scaled_at, ← inv_at]
  pointwise [direct]
/-- A row's share through its variance. -/
theorem share_at (t : Fin 4096) : (share D R g (ix2 t 0) : EReal) = varShare (row D t) (row R t) (ent g) := by
  have e : ∑ k, centred (row R t) k * (row D t k * ent g k) = sums (mulf (cen R) (scaled D g)) (ix1 t) := by
    rw [sums_at]
    refine Finset.sum_congr rfl fun k _ => ?_
    rw [← cen_at, ← scaled_at]
    rfl
  unfold varShare
  rw [e, ← inv_at, ← var_at]
  pointwise [share, width, mhalf]
/-- A column along the rows, at an entry, is the column's. -/
theorem along_at (C : FVec Ideal S4096x1 .f32) (t : Fin 4096) (j : Fin 2048) : (along C (ix2 t j) : EReal) = C (ix2 t 0) := by
  pointwise [along]
  exact Fin.sum_univ_one _
/-- The part through the variance at an entry. -/
theorem through_at (t : Fin 4096) (j : Fin 2048) :
    (through D R g (ix2 t j) : EReal) = varShare (row D t) (row R t) (ent g) * (two * centred (row R t) j) := by
  rw [← share_at, ← cen_at, ← along_at (share D R g) t j]
  pointwise [through, two]
/-- The gradient at the norm's input, at an entry. -/
theorem grad_at (t : Fin 4096) (j : Fin 2048) : (grad D R g (ix2 t j) : EReal) = chain (row D t) (row R t) (ent g) j := by
  have e1 : ∑ k, -(row D t k * ent g k * rstd (row R t)) = sums (Host.negf (direct D R g)) (ix1 t) := by
    rw [sums_at]
    refine Finset.sum_congr rfl fun k _ => ?_
    rw [← direct_at]
    rfl
  have e2 : ∑ k, -(varShare (row D t) (row R t) (ent g) * (two * centred (row R t) k)) = sums (Host.negf (through D R g)) (ix1 t) := by
    rw [sums_at]
    refine Finset.sum_congr rfl fun k _ => ?_
    rw [← through_at]
    rfl
  unfold chain
  rw [e1, e2, ← through_at, ← direct_at]
  pointwise [grad, along_at, width]
/-- A column's sum. -/
theorem cols_at (A : FVec Ideal S4096x2048 .f32) (j : Fin 2048) : (cols A (ix2 0 j) : EReal) = ∑ t : Fin 4096, row A t j := by
  unfold row
  pointwise [cols]
  exact Fin.sum_univ_one _

end Cert.Reference2Ideal.FfnIn
end
-- ==== Proof.FfnInFinite.lean ====
module

public import proofs.«01_k».proof.Proof.Finite
public import proofs.«01_k».proof.Proof.Gen.Pre_all_finite2

@[expose] public section

set_option maxRecDepth 16384

noncomputable section

open Idealize.ShloMosaic Idealize.ShloMosaic.TcCoe Idealize.SL.Sem

namespace Cert.Pre_all_finite2
open Cert.Pre_all_finite2 Cert.Pre_all_finite2.Gen Cert.Ffn
open Cert.Pre_all_finite (num_of_cmp)

variable (x0 : FVec Ideal S2x4096x5632 .bf16) (x1 : FVec Ideal S4x2048x2816 .bf16) (x2 x3 : FVec Ideal S4096x2048 .f32)
  (x4 x5 : FVec Ideal S2048 .f32)

/-- The gradient at the hidden layer holds numbers. -/
theorem num0 (h : (fn (F := Ideal) x0 x1 x2 x3 x4 x5).1 = fun _ => 1#1) (p : Fin 2) (t : Fin 4096) (q : Fin 5632) : IsNum (x0 (ix3 p t q)) := by
  have e := congrFun h (ix3 p t q)
  unfold fn at e
  pointwise at e
  exact num_of_cmp e

/-- The up projection holds numbers. -/
theorem num1 (h : (fn (F := Ideal) x0 x1 x2 x3 x4 x5).2.1 = fun _ => 1#1) (p : Fin 4) (d : Fin 2048) (q : Fin 2816) : IsNum (x1 (ix3 p d q)) := by
  have e := congrFun h (ix3 p d q)
  unfold fn at e
  pointwise at e
  exact num_of_cmp e

/-- The gradient past the FFN holds numbers. -/
theorem num2 (h : (fn (F := Ideal) x0 x1 x2 x3 x4 x5).2.2.1 = fun _ => 1#1) (t : Fin 4096) (d : Fin 2048) : IsNum (x2 (ix2 t d)) := by
  have e := congrFun h (ix2 t d)
  unfold fn at e
  pointwise at e
  exact num_of_cmp e

/-- The norm's input holds numbers. -/
theorem num3 (h : (fn (F := Ideal) x0 x1 x2 x3 x4 x5).2.2.2.1 = fun _ => 1#1) (t : Fin 4096) (d : Fin 2048) : IsNum (x3 (ix2 t d)) := by
  have e := congrFun h (ix2 t d)
  unfold fn at e
  pointwise at e
  exact num_of_cmp e

/-- The gain holds numbers. -/
theorem num4 (h : (fn (F := Ideal) x0 x1 x2 x3 x4 x5).2.2.2.2 = fun _ => 1#1) (d : Fin 2048) : IsNum (x4 (ix1 d)) := by
  have e := congrFun h (ix1 d)
  unfold fn at e
  pointwise at e
  exact num_of_cmp e

end Cert.Pre_all_finite2
end
-- ==== Proof.FfnIn.lean ====
module

public import proofs.«01_k».proof.Defs
public import proofs.«01_k».proof.Proof.Gen.Kernel2.Frame
public import proofs.«01_k».proof.Proof.Gen.Kernel2Ideal.Value
public import proofs.«01_k».proof.Proof.FfnInKernel
public import proofs.«01_k».proof.Proof.FfnInReference
public import proofs.«01_k».proof.Proof.FfnInFinite
public import Idealize.ShloMosaic.Adequacy
public import Idealize.ShloMosaic.Init

@[expose] public section

set_option maxRecDepth 16384

noncomputable section

namespace Cert.Proof.FfnIn

open Idealize.ShloMosaic Idealize.SL.Sem

/-- The frame of the norm's kernel on bit patterns. -/
theorem frame_kernel : Cert.quiescent_Kernel2 := fun m ρ _ => Cert.Kernel2.Gen.frame m ρ

/-- Its frame over the extended reals. -/
theorem frame_ideal : Cert.quiescent_Kernel2Ideal := fun m ρ _ => Cert.Kernel2Ideal.Gen.frame m ρ

/-- The same from finite arguments. -/
theorem frame_ideal_finite : Cert.quiescent_Kernel2Ideal_pre_all_finite2 := fun m ρ _ => Cert.Kernel2Ideal.Gen.frame m ρ

/-- The reference's frame: its run keeps the arguments, and it has no semaphore. -/
theorem frame_reference : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The same from finite arguments. -/
theorem frame_reference_finite : Cert.quiescent_Reference2Ideal_pre_all_finite2 := fun m ρ _ => frame_reference m ρ trivial

variable (m : (ℓ : Loc Cert.Kernel2Ideal.nD Cert.Kernel2Ideal.τ Cert.Kernel2Ideal.sig) → Buf (Elt Ideal) ℓ)

/-- The gradient at the norm's output is the same in both. -/
theorem out_row (c : Dev Cert.Kernel2Ideal.nD) (t : Fin 4096) :
    Cert.Reference2Ideal.FfnIn.row (Cert.Reference2Ideal.FfnIn.out (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) t = Cert.Kernel2Ideal.FfnIn.dK m c t :=
  funext fun d => Cert.Reference2Ideal.FfnIn.out_at _ _ _ t d

/-- From finite arguments it holds numbers. -/
theorem out_num (hpre : Cert.Pre_Kernel2Ideal_all_finite2 m) (c : Dev Cert.Kernel2Ideal.nD) (t : Fin 4096) (d : Fin 2048) :
    Cert.Ffn.IsNum (Cert.Kernel2Ideal.FfnIn.dK m c t d) :=
  (Cert.Norm.alpha_num.mul (Cert.Pre_all_finite2.num2 _ _ _ _ _ _ (hpre c).2.2.1 t d)).add
    (.sum _ _ fun _ => (Cert.Pre_all_finite2.num0 _ _ _ _ _ _ (hpre c).1 _ _ _).mul (Cert.Pre_all_finite2.num1 _ _ _ _ _ _ (hpre c).2.1 _ _ _))

/-- From finite arguments the two forms of the norm's gradient are one. -/
theorem back_eq (hpre : Cert.Pre_Kernel2Ideal_all_finite2 m) (c : Dev Cert.Kernel2Ideal.nD) (t : Fin 4096) (d : Fin 2048) :
    Cert.Norm.chain (Cert.Kernel2Ideal.FfnIn.dK m c t) (Cert.Kernel2Ideal.FfnIn.rK m c t) (Cert.Kernel2Ideal.FfnIn.gK m c) d
      = Cert.Kernel2Ideal.FfnIn.back m c t d :=
  Cert.Norm.chain_eq (out_num m hpre c t) (fun k => Cert.Pre_all_finite2.num3 _ _ _ _ _ _ (hpre c).2.2.2.1 t k)
    (fun k => Cert.Pre_all_finite2.num4 _ _ _ _ _ _ (hpre c).2.2.2.2 k) d

/-- The gradients the kernel writes are the reference's. -/
theorem algebraic : Cert.algebraic_Kernel2Ideal_Reference2Ideal_pre_all_finite2 := by
  intro m g m' g' hpre hag
  refine ⟨_, _, _, _, Cert.Kernel2Ideal.Value.run_blocks (F := Ideal) m g, ?_⟩
  refine (θ_run Cert.Reference2Ideal.defs _ _).mono (fun r h c => ?_) (Cert.Reference2Ideal.Value.run (F := Ideal) m' g')
  obtain ⟨h0, h1, h2, h3, hk⟩ := h c
  obtain ⟨a0, a1, a2, a3, a4, a5⟩ := hag c
  have key : ∀ (t : Fin 4096) (d : Fin 2048),
      (Cert.Reference2Ideal.FfnIn.grad (Cert.Reference2Ideal.FfnIn.out (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (ix2 t d) : EReal) = Cert.Kernel2Ideal.FfnIn.back m c t d := fun t d => by
    rw [a0, a1, a2, a3, a4, Cert.Reference2Ideal.FfnIn.grad_at, out_row m c t]
    exact back_eq m hpre c t d
  refine ⟨h0.trans ?_, h1.trans ?_, h2.trans ?_, h3.trans ?_, hk⟩
  · funext i
    idx_vars i
    exact Eq.trans (α := EReal) (key i0 i1) (Cert.Kernel2Ideal.FfnIn.final_dr m c i0 i1).symm
  · funext i
    idx_vars i
    exact Eq.trans (α := EReal) (key i0 i1) (Cert.Kernel2Ideal.FfnIn.final_drb m c i0 i1).symm
  · funext i
    idx_vars i
    obtain rfl : i0 = 0 := Subsingleton.elim _ _
    refine (Cert.Reference2Ideal.FfnIn.cols_at (mulf (Cert.Reference2Ideal.FfnIn.nrm (m' ((c.tc : Thread Cert.Reference2Ideal.nD Cert.Reference2Ideal.τ).loc Cert.Reference2Ideal.main_arg3))) (Cert.Reference2Ideal.FfnIn.out (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)))) i1).trans
      (Eq.trans (α := EReal) ?_ (Cert.Kernel2Ideal.FfnIn.final_dg m c i1).symm)
    rw [a0, a1, a2, a3]
    refine Finset.sum_congr rfl fun t _ => ?_
    rw [← out_row m c t, mul_comm]
    exact congrArg (· * _) (Cert.Reference2Ideal.FfnIn.nrm_at _ t i1)
  · funext i
    idx_vars i
    obtain rfl : i0 = 0 := Subsingleton.elim _ _
    refine (Cert.Reference2Ideal.FfnIn.cols_at (Cert.Reference2Ideal.FfnIn.out (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) i1).trans
      (Eq.trans (α := EReal) ?_ (Cert.Kernel2Ideal.FfnIn.final_db m c i1).symm)
    rw [a0, a1, a2]
    exact Finset.sum_congr rfl fun t _ => congrFun (out_row m c t) i1

end Cert.Proof.FfnIn

end
-- ==== Proof.FfnUp.lean ====
module

public import proofs.«01_k».proof.Defs
public import proofs.«01_k».proof.Proof.HalfSums
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel3Ideal.FfnUp
open Cert.Kernel3Ideal Cert.Kernel3Ideal.Gen

variable (m : (ℓ : Loc nD τ sig) → Buf (Elt Ideal) ℓ)

/-- The mixed rows, the product's left side forward. -/
def xK (c : Dev nD) (t : Fin 4096) (k : Fin 2048) : EReal := m ((c : Thread nD τ).loc main_arg0) (ix2 t k)
/-- The gradient at the product's rows, its two halves side by side. -/
def gK (c : Dev nD) (t : Fin 4096) (n : Fin 11264) : EReal :=
  m ((c : Thread nD τ).loc main_arg1) (ix3 ⟨n.val / 5632, by omega⟩ t ⟨n.val % 5632, by omega⟩)

/-- The blocks a point reads and the tile it works for. -/
theorem idx : ∀ t : Fin cfg0.N, win0_0.index t = ![t.val % 2, t.val / 16] ∧ win0_1.index t = ![t.val / 2 % 8 / 4, t.val % 2, t.val / 2 % 8 % 4]
    ∧ win0_2.index t = ![t.val / 2 % 8 / 2, t.val / 16, t.val / 2 % 8 % 2] := (by decide +kernel : ∀ t : Fin grid0.N, _)

/-- A time of the point's half of the rows. -/
def tim (t : Fin cfg0.N) (r : Fin 2048) : Fin 4096 := ⟨2048 * (t.val % 2) + r, by omega⟩
/-- A row of the point's tile. -/
def row (t : Fin cfg0.N) (k : Fin 1024) : Fin 2048 := ⟨1024 * (t.val / 16) + k, by have := t.isLt.trans_eq N_0; omega⟩
/-- A column of the point's tile. -/
def cln (t : Fin cfg0.N) (n : Fin 1408) : Fin 11264 := ⟨1408 * (t.val / 2 % 8) + n, by omega⟩

/-- The two points of a tile have the same rows. -/
theorem row_same (s t : Fin cfg0.N) (h : s.val / 2 = t.val / 2) (k : Fin 1024) : row s k = row t k :=
  Fin.ext (by show 1024 * (s.val / 16) + k.val = 1024 * (t.val / 16) + k.val; omega)

/-- The two points of a tile have the same columns. -/
theorem cln_same (s t : Fin cfg0.N) (h : s.val / 2 = t.val / 2) (n : Fin 1408) : cln s n = cln t n :=
  Fin.ext (by show 1408 * (s.val / 2 % 8) + n.val = 1408 * (t.val / 2 % 8) + n.val; omega)

/-- The first input's block at an entry. -/
theorem x_at (c : Dev nD) (t : Fin cfg0.N) (r : Fin 2048) (k : Fin 1024) : iblk m c 0 t (ix2 r k) = xK m c (tim t r) (row t k) := by
  unfold xK tim row
  blk_ext [iblk, V, idx t]

/-- The second input's block at an entry. -/
theorem g_at (c : Dev nD) (t : Fin cfg0.N) (r : Fin 2048) (n : Fin 1408) : iblk m c 1 t (ix3 0 r n) = gK m c (tim t r) (cln t n) := by
  have e1 : (cln t n).val / 5632 = t.val / 2 % 8 / 4 := by show (1408 * (t.val / 2 % 8) + n.val) / 5632 = _; omega
  have e2 : (cln t n).val % 5632 = 1408 * (t.val / 2 % 8 % 4) + n := by show (1408 * (t.val / 2 % 8) + n.val) % 5632 = _; omega
  unfold gK tim
  simp only [e1, e2]
  blk_ext [iblk, V, idx t]

/-- What a point adds to its tile: the product over its half of the times. -/
def term (c : Dev nD) (t : Fin cfg0.N) (i : S1024x1408.Idx) : EReal :=
  ∑ r : Fin 2048, xK m c (tim t r) (row t (i 0)) * gK m c (tim t r) (cln t (i 1))

/-- The first point of a tile starts from zero. -/
theorem reset (c : Dev nD) (t : Fin cfg0.N) (ht : t.val % 2 = 0) (i : S1024x1408.Idx) :
    (outsAt0 m c t.val t.isLt).2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, x_at, g_at]

/-- A later point adds to what the point before left. -/
theorem step (c : Dev nD) (t : Fin cfg0.N) (ht : ¬ t.val % 2 = 0) (i : S1024x1408.Idx) :
    (outsAt0 m c t.val t.isLt).2 i
      = (outsAt0 m c (t.val - 1) (Nat.lt_of_le_of_lt (Nat.sub_le _ _) t.isLt)).2 i + term m c t i := by
  idx_vars i
  rw [outsAt0_B m c t ht (by omega)]
  frame_out
  simp only [read_unread_whole]
  pointwise [k0_pay2, term, x_at, g_at]

/-- The last point of a tile writes the sum out. -/
theorem out_at (c : Dev nD) (t : Fin cfg0.N) (ht : t.val % 2 = 1) (p : Fin 1) (k : Fin 1024) (n : Fin 1408) :
    (outsAt0 m c t.val t.isLt).1 (ix3 p k n) = (outsAt0 m c t.val t.isLt).2 (ix2 k n) := by
  rw [outsAt0_B m c t (by omega) ht]
  frame_open
  (try simp (disch := decide) only [↓ View.readCov_skip, ↓ View.readCov_cons_toLoadRect, ↓ View.readCov_fill])
  frame_out
  simp only [read_unread_whole]
  pointwise [k0_pay3]

/-- The weight's gradient at an entry. -/
def grad (c : Dev nD) (k : Fin 2048) (n : Fin 11264) : EReal := ∑ t : Fin 4096, xK m c t k * gK m c t n

/-- The column of the product that column `n` of part `d` holds. -/
def part (d : Fin 4) (n : Fin 2816) : Fin 11264 := ⟨2816 * d + n, by omega⟩

/-- The weight's gradient the call writes: at each entry the sum over all times of the two inputs' product. -/
theorem final (c : Dev nD) (d : Fin 4) (k : Fin 2048) (n : Fin 2816) :
    (dats m 0 c).arrAt 2 cfg0.N (ix3 d k n) = grad m c k (part d n) := by
  have := (dats m 0 c).arrAt_eq_of_covers 2 (fun i : S4x2048x2816.Idx => grad m c (i 1) (part (i 0) (i 2)))
    (by decide +kernel) fun t hf y => by
      have ht := (flush0_2 t).mp hf
      idx_vars y
      blk_simp
      rw [after0_2]
      refine (out_at m c t ht y0 y1 y2).trans ?_
      have e : (win0_2.blk t).view.emb (ix3 y0 y1 y2) = ix3 ⟨t.val / 2 % 8 / 2, by omega⟩ (row t y1) ⟨1408 * (t.val / 2 % 8 % 2) + y2, by omega⟩ := by
        unfold row
        blk_ext [idx t]
      rw [e]
      have e' : part ⟨t.val / 2 % 8 / 2, by omega⟩ ⟨1408 * (t.val / 2 % 8 % 2) + y2, by omega⟩ = cln t y2 :=
        Fin.ext (by show 2816 * (t.val / 2 % 8 / 2) + (1408 * (t.val / 2 % 8 % 2) + y2.val) = 1408 * (t.val / 2 % 8) + y2.val; omega)
      refine Eq.trans (α := EReal) ?_ (congrArg (grad m c (row t y1)) e').symm
      exact Cert.Halves.sum_of_halves (fun n h => (outsAt0 m c n h).2) (term m c) (reset m c) (step m c) t ht _
        (fun r => xK m c r (row t y1) * gK m c r (cln t y2)) fun s h => by
          show ∑ r : Fin 2048, xK m c (tim s r) (row s y1) * gK m c (tim s r) (cln s y2) = _
          rw [row_same s t h, cln_same s t h]
          rfl
  exact congrFun this (ix3 d k n)

end Cert.Kernel3Ideal.FfnUp

namespace Cert.Reference3Ideal.FfnUp
open Cert.Reference3Ideal Cert.Reference3Ideal.Gen

/-- The gradient's two halves side by side. -/
def halves (G : FVec Ideal S2x4096x5632 .bf16) : FVec Ideal S4096x11264 .bf16 :=
  concatenate S4096x11264 1 [⟨S4096x5632, shapeCast _ (extractStridedSlice S1x4096x5632 ![0, 0, 0] G slices_S2x4096x5632_S1x4096x5632_0_0_0) shapeCasts_S1x4096x5632_S4096x5632⟩, ⟨S4096x5632, shapeCast _ (extractStridedSlice S1x4096x5632 ![1, 0, 0] G slices_S2x4096x5632_S1x4096x5632_1_0_0) shapeCasts_S1x4096x5632_S4096x5632⟩] concatenates_S4096x5632_S4096x5632_S4096x11264_d1

/-- The halves side by side at an entry. -/
theorem halves_at (G : FVec Ideal S2x4096x5632 .bf16) (t : Fin 4096) (n : Fin 11264) :
    (halves G (ix2 t n) : EReal) = G (ix3 ⟨n.val / 5632, by omega⟩ t ⟨n.val % 5632, by omega⟩) := by
  by_cases h : n.val < 5632
  · have e1 : n.val / 5632 = 0 := by omega
    have e2 : n.val % 5632 = n := by omega
    simp only [e1, e2]
    pointwise [halves, h]
  · have e1 : n.val / 5632 = 1 := by omega
    have e2 : n.val % 5632 = n - 5632 := by omega
    simp only [e1, e2]
    pointwise [halves, h]

/-- The reference's gradient of the whole matrix, its four parts side by side. -/
def whole (X : FVec Ideal S4096x2048 .bf16) (G : FVec Ideal S2x4096x5632 .bf16) : FVec Ideal S2048x11264 .f32 :=
  transpose S2048x11264 [1, 0] (Host.dotGeneral dot_S4096x11264_S4096x2048_S11264x2048_0_0_1_1_n_n none (extf .f32 (halves G) bitsLt_bf16_f32) (extf .f32 X bitsLt_bf16_f32)) transposes_S11264x2048_S2048x11264_1_0

/-- The whole matrix' gradient at an entry. -/
theorem whole_at (X : FVec Ideal S4096x2048 .bf16) (G : FVec Ideal S2x4096x5632 .bf16) (k : Fin 2048) (n : Fin 11264) :
    (whole X G (ix2 k n) : EReal) = ∑ t : Fin 4096, X (ix2 t k) * G (ix3 ⟨n.val / 5632, by omega⟩ t ⟨n.val % 5632, by omega⟩) := by
  simp only [← halves_at]
  pointwise [whole, mul_comm]

/-- The reference's gradient, part by part. -/
def parts (X : FVec Ideal S4096x2048 .bf16) (G : FVec Ideal S2x4096x5632 .bf16) : FVec Ideal S4x2048x2816 .bf16 :=
  truncf .bf16 (concatenate S4x2048x2816 0 [⟨S1x2048x2816, broadcastInDim S1x2048x2816 ![1, 2] bcast_S2048x2816_S1x2048x2816_1_2 (extractStridedSlice S2048x2816 ![0, 0] (whole X G) slices_S2048x11264_S2048x2816_0_0)⟩, ⟨S1x2048x2816, broadcastInDim S1x2048x2816 ![1, 2] bcast_S2048x2816_S1x2048x2816_1_2 (extractStridedSlice S2048x2816 ![0, 2816] (whole X G) slices_S2048x11264_S2048x2816_0_2816)⟩, ⟨S1x2048x2816, broadcastInDim S1x2048x2816 ![1, 2] bcast_S2048x2816_S1x2048x2816_1_2 (extractStridedSlice S2048x2816 ![0, 5632] (whole X G) slices_S2048x11264_S2048x2816_0_5632)⟩, ⟨S1x2048x2816, broadcastInDim S1x2048x2816 ![1, 2] bcast_S2048x2816_S1x2048x2816_1_2 (extractStridedSlice S2048x2816 ![0, 8448] (whole X G) slices_S2048x11264_S2048x2816_0_8448)⟩] concatenates_S1x2048x2816_S1x2048x2816_S1x2048x2816_S1x2048x2816_S4x2048x2816_d0) bitsLt_bf16_f32

/-- The reference's gradient at an entry: part `d` holds 2816 columns of the whole from `2816 d`. -/
theorem value (X : FVec Ideal S4096x2048 .bf16) (G : FVec Ideal S2x4096x5632 .bf16) (d : Fin 4) (k : Fin 2048) (n : Fin 2816) :
    (parts X G (ix3 d k n) : EReal) = ∑ t : Fin 4096, X (ix2 t k)
      * G (ix3 ⟨(2816 * d.val + n.val) / 5632, by omega⟩ t ⟨(2816 * d.val + n.val) % 5632, by omega⟩) := by
  refine Eq.trans (α := EReal) ?_ (whole_at X G k ⟨2816 * d + n, by omega⟩)
  match d with
  | 0 => pointwise [parts]
  | 1 => pointwise [parts]
  | 2 => pointwise [parts]
  | 3 => pointwise [parts]

end Cert.Reference3Ideal.FfnUp

namespace Cert.Proof.FfnUp

/-- The kernel's frame on bit patterns. -/
theorem frame_kernel : Cert.quiescent_Kernel3 := fun m ρ _ => Cert.Kernel3.Gen.frame m ρ

/-- The kernel's frame over the extended reals. -/
theorem frame_ideal : Cert.quiescent_Kernel3Ideal := fun m ρ _ => Cert.Kernel3Ideal.Gen.frame m ρ

/-- The reference's frame: its run keeps the arguments, and it has no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The gradient the kernel writes is the reference's. -/
theorem algebraic : Cert.algebraic_Kernel3Ideal_Reference3Ideal := by
  intro m g m' g' _ hag
  refine ⟨_, Cert.Kernel3Ideal.Value.run_blocks (F := Ideal) m g, ?_⟩
  refine (θ_run Cert.Reference3Ideal.defs _ _).mono (fun r h c => ?_) (Cert.Reference3Ideal.Value.run (F := Ideal) m' g')
  obtain ⟨h0, hk⟩ := h c
  refine ⟨h0.trans ?_, hk⟩
  funext i
  idx_vars i
  refine (Cert.Reference3Ideal.FfnUp.value _ _ i0 i1 i2).trans (Eq.trans (α := EReal) ?_ (Cert.Kernel3Ideal.FfnUp.final m c i0 i1 i2).symm)
  rw [(hag c).1, (hag c).2]
  rfl

end Cert.Proof.FfnUp
end
-- ==== Proof.FfnDown.lean ====
module

public import proofs.«01_k».proof.Defs
public import proofs.«01_k».proof.Proof.HalfSums
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel4Ideal.FfnDown
open Cert.Kernel4Ideal Cert.Kernel4Ideal.Gen

variable (m : (ℓ : Loc nD τ sig) → Buf (Elt Ideal) ℓ)

/-- The gated rows, the product's left side forward. -/
def xK (c : Dev nD) (t : Fin 4096) (k : Fin 5632) : EReal := m ((c : Thread nD τ).loc main_arg0) (ix2 t k)
/-- The gradient at the product's rows. -/
def gK (c : Dev nD) (t : Fin 4096) (n : Fin 2048) : EReal := m ((c : Thread nD τ).loc main_arg1) (ix2 t n)

/-- The blocks a point reads and the tile it works for. -/
theorem idx : ∀ t : Fin cfg0.N, win0_0.index t = ![t.val % 2, t.val / 4] ∧ win0_1.index t = ![t.val % 2, t.val / 2 % 2]
    ∧ win0_2.index t = ![0, t.val / 4, t.val / 2 % 2] := (by decide +kernel : ∀ t : Fin grid0.N, _)

/-- A time of the point's half of the rows. -/
def tim (t : Fin cfg0.N) (r : Fin 2048) : Fin 4096 := ⟨2048 * (t.val % 2) + r, by omega⟩
/-- A row of the point's tile. -/
def row (t : Fin cfg0.N) (k : Fin 1408) : Fin 5632 := ⟨1408 * (t.val / 4) + k, by have := t.isLt.trans_eq N_0; omega⟩
/-- A column of the point's tile. -/
def cln (t : Fin cfg0.N) (n : Fin 1024) : Fin 2048 := ⟨1024 * (t.val / 2 % 2) + n, by omega⟩

/-- The two points of a tile have the same rows. -/
theorem row_same (s t : Fin cfg0.N) (h : s.val / 2 = t.val / 2) (k : Fin 1408) : row s k = row t k :=
  Fin.ext (by show 1408 * (s.val / 4) + k.val = 1408 * (t.val / 4) + k.val; omega)

/-- The two points of a tile have the same columns. -/
theorem cln_same (s t : Fin cfg0.N) (h : s.val / 2 = t.val / 2) (n : Fin 1024) : cln s n = cln t n :=
  Fin.ext (by show 1024 * (s.val / 2 % 2) + n.val = 1024 * (t.val / 2 % 2) + n.val; omega)

/-- The first input's block at an entry. -/
theorem x_at (c : Dev nD) (t : Fin cfg0.N) (r : Fin 2048) (k : Fin 1408) : iblk m c 0 t (ix2 r k) = xK m c (tim t r) (row t k) := by
  unfold xK tim row
  blk_ext [iblk, V, idx t]

/-- The second input's block at an entry. -/
theorem g_at (c : Dev nD) (t : Fin cfg0.N) (r : Fin 2048) (n : Fin 1024) : iblk m c 1 t (ix2 r n) = gK m c (tim t r) (cln t n) := by
  unfold gK tim cln
  blk_ext [iblk, V, idx t]

/-- What a point adds to its tile: the product over its half of the times. -/
def term (c : Dev nD) (t : Fin cfg0.N) (i : S1408x1024.Idx) : EReal :=
  ∑ r : Fin 2048, xK m c (tim t r) (row t (i 0)) * gK m c (tim t r) (cln t (i 1))

/-- The first point of a tile starts from zero. -/
theorem reset (c : Dev nD) (t : Fin cfg0.N) (ht : t.val % 2 = 0) (i : S1408x1024.Idx) :
    (outsAt0 m c t.val t.isLt).2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, x_at, g_at]

/-- A later point adds to what the point before left. -/
theorem step (c : Dev nD) (t : Fin cfg0.N) (ht : ¬ t.val % 2 = 0) (i : S1408x1024.Idx) :
    (outsAt0 m c t.val t.isLt).2 i
      = (outsAt0 m c (t.val - 1) (Nat.lt_of_le_of_lt (Nat.sub_le _ _) t.isLt)).2 i + term m c t i := by
  idx_vars i
  rw [outsAt0_B m c t ht (by omega)]
  frame_out
  simp only [read_unread_whole]
  pointwise [k0_pay2, term, x_at, g_at]

/-- The last point of a tile writes the sum out. -/
theorem out_at (c : Dev nD) (t : Fin cfg0.N) (ht : t.val % 2 = 1) (p : Fin 1) (k : Fin 1408) (n : Fin 1024) :
    (outsAt0 m c t.val t.isLt).1 (ix3 p k n) = (outsAt0 m c t.val t.isLt).2 (ix2 k n) := by
  rw [outsAt0_B m c t (by omega) ht]
  frame_open
  (try simp (disch := decide) only [↓ View.readCov_skip, ↓ View.readCov_cons_toLoadRect, ↓ View.readCov_fill])
  frame_out
  simp only [read_unread_whole]
  pointwise [k0_pay3]

/-- The weight's gradient at an entry. -/
def grad (c : Dev nD) (k : Fin 5632) (n : Fin 2048) : EReal := ∑ t : Fin 4096, xK m c t k * gK m c t n

/-- The weight's gradient the call writes: at each entry the sum over all times of the two inputs' product. -/
theorem final (c : Dev nD) (p : Fin 1) (k : Fin 5632) (n : Fin 2048) :
    (dats m 0 c).arrAt 2 cfg0.N (ix3 p k n) = grad m c k n := by
  have := (dats m 0 c).arrAt_eq_of_covers 2 (fun i : S1x5632x2048.Idx => grad m c (i 1) (i 2))
    (by decide +kernel) fun t hf y => by
      have ht := (flush0_2 t).mp hf
      idx_vars y
      blk_simp
      rw [after0_2]
      refine (out_at m c t ht y0 y1 y2).trans ?_
      have e : (win0_2.blk t).view.emb (ix3 y0 y1 y2) = ix3 y0 (row t y1) (cln t y2) := by
        unfold row cln
        blk_ext [idx t]
      rw [e]
      exact Cert.Halves.sum_of_halves (fun n h => (outsAt0 m c n h).2) (term m c) (reset m c) (step m c) t ht _
        (fun r => xK m c r (row t y1) * gK m c r (cln t y2)) fun s h => by
          show ∑ r : Fin 2048, xK m c (tim s r) (row s y1) * gK m c (tim s r) (cln s y2) = _
          rw [row_same s t h, cln_same s t h]
          rfl
  exact congrFun this (ix3 p k n)

end Cert.Kernel4Ideal.FfnDown

namespace Cert.Reference4Ideal.FfnDown
open Cert.Reference4Ideal Cert.Reference4Ideal.Gen

/-- The reference's gradient at an entry. -/
theorem value (X : FVec Ideal S4096x5632 .bf16) (G : FVec Ideal S4096x2048 .bf16) (p : Fin 1) (k : Fin 5632) (n : Fin 2048) :
    (broadcastInDim S1x5632x2048 ![1, 2] bcast_S5632x2048_S1x5632x2048_1_2 (truncf .bf16 (transpose S5632x2048 [1, 0] (Host.dotGeneral dot_S4096x2048_S4096x5632_S2048x5632_0_0_1_1_n_n none (extf .f32 G bitsLt_bf16_f32) (extf .f32 X bitsLt_bf16_f32)) transposes_S2048x5632_S5632x2048_1_0) bitsLt_bf16_f32) (ix3 p k n) : EReal)
      = ∑ t : Fin 4096, X (ix2 t k) * G (ix2 t n) := by
  pointwise [mul_comm]

end Cert.Reference4Ideal.FfnDown

namespace Cert.Proof.FfnDown

/-- The kernel's frame on bit patterns. -/
theorem frame_kernel : Cert.quiescent_Kernel4 := fun m ρ _ => Cert.Kernel4.Gen.frame m ρ

/-- The kernel's frame over the extended reals. -/
theorem frame_ideal : Cert.quiescent_Kernel4Ideal := fun m ρ _ => Cert.Kernel4Ideal.Gen.frame m ρ

/-- The reference's frame: its run keeps the arguments, and it has no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gradient the kernel writes is the reference's. -/
theorem algebraic : Cert.algebraic_Kernel4Ideal_Reference4Ideal := by
  intro m g m' g' _ hag
  refine ⟨_, Cert.Kernel4Ideal.Value.run_blocks (F := Ideal) m g, ?_⟩
  refine (θ_run Cert.Reference4Ideal.defs _ _).mono (fun r h c => ?_) (Cert.Reference4Ideal.Value.run (F := Ideal) m' g')
  obtain ⟨h0, hk⟩ := h c
  refine ⟨h0.trans ?_, hk⟩
  funext i
  idx_vars i
  refine (Cert.Reference4Ideal.FfnDown.value _ _ i0 i1 i2).trans (Eq.trans (α := EReal) ?_ (Cert.Kernel4Ideal.FfnDown.final m c i0 i1 i2).symm)
  rw [(hag c).1, (hag c).2]
  rfl

end Cert.Proof.FfnDown
end
-- ==== Proof.MixOut.lean ====
module

public import proofs.«01_k».proof.Defs
public import proofs.«01_k».proof.Proof.HalfSums
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel5Ideal.MixOut
open Cert.Kernel5Ideal Cert.Kernel5Ideal.Gen

variable (m : (ℓ : Loc nD τ sig) → Buf (Elt Ideal) ℓ)

/-- The mixer's rows, the product's left side forward. -/
def xK (c : Dev nD) (t : Fin 4096) (k : Fin 2048) : EReal := m ((c : Thread nD τ).loc main_arg0) (ix2 t k)
/-- The gradient at the product's rows. -/
def gK (c : Dev nD) (t : Fin 4096) (n : Fin 2048) : EReal := m ((c : Thread nD τ).loc main_arg1) (ix2 t n)

/-- The blocks a point reads and the tile it works for. -/
theorem idx : ∀ t : Fin cfg0.N, win0_0.index t = ![t.val % 2, t.val / 4] ∧ win0_1.index t = ![t.val % 2, t.val / 2 % 2]
    ∧ win0_2.index t = ![0, t.val / 4, t.val / 2 % 2] := (by decide +kernel : ∀ t : Fin grid0.N, _)

/-- A time of the point's half of the rows. -/
def tim (t : Fin cfg0.N) (r : Fin 2048) : Fin 4096 := ⟨2048 * (t.val % 2) + r, by omega⟩
/-- A row of the point's tile. -/
def row (t : Fin cfg0.N) (k : Fin 1024) : Fin 2048 := ⟨1024 * (t.val / 4) + k, by have := t.isLt.trans_eq N_0; omega⟩
/-- A column of the point's tile. -/
def cln (t : Fin cfg0.N) (n : Fin 1024) : Fin 2048 := ⟨1024 * (t.val / 2 % 2) + n, by omega⟩

/-- The two points of a tile have the same rows. -/
theorem row_same (s t : Fin cfg0.N) (h : s.val / 2 = t.val / 2) (k : Fin 1024) : row s k = row t k :=
  Fin.ext (by show 1024 * (s.val / 4) + k.val = 1024 * (t.val / 4) + k.val; omega)

/-- The two points of a tile have the same columns. -/
theorem cln_same (s t : Fin cfg0.N) (h : s.val / 2 = t.val / 2) (n : Fin 1024) : cln s n = cln t n :=
  Fin.ext (by show 1024 * (s.val / 2 % 2) + n.val = 1024 * (t.val / 2 % 2) + n.val; omega)

/-- The first input's block at an entry. -/
theorem x_at (c : Dev nD) (t : Fin cfg0.N) (r : Fin 2048) (k : Fin 1024) : iblk m c 0 t (ix2 r k) = xK m c (tim t r) (row t k) := by
  unfold xK tim row
  blk_ext [iblk, V, idx t]

/-- The second input's block at an entry. -/
theorem g_at (c : Dev nD) (t : Fin cfg0.N) (r : Fin 2048) (n : Fin 1024) : iblk m c 1 t (ix2 r n) = gK m c (tim t r) (cln t n) := by
  unfold gK tim cln
  blk_ext [iblk, V, idx t]

/-- What a point adds to its tile: the product over its half of the times. -/
def term (c : Dev nD) (t : Fin cfg0.N) (i : S1024x1024.Idx) : EReal :=
  ∑ r : Fin 2048, xK m c (tim t r) (row t (i 0)) * gK m c (tim t r) (cln t (i 1))

/-- The first point of a tile starts from zero. -/
theorem reset (c : Dev nD) (t : Fin cfg0.N) (ht : t.val % 2 = 0) (i : S1024x1024.Idx) :
    (outsAt0 m c t.val t.isLt).2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, x_at, g_at]

/-- A later point adds to what the point before left. -/
theorem step (c : Dev nD) (t : Fin cfg0.N) (ht : ¬ t.val % 2 = 0) (i : S1024x1024.Idx) :
    (outsAt0 m c t.val t.isLt).2 i
      = (outsAt0 m c (t.val - 1) (Nat.lt_of_le_of_lt (Nat.sub_le _ _) t.isLt)).2 i + term m c t i := by
  idx_vars i
  rw [outsAt0_B m c t ht (by omega)]
  frame_out
  simp only [read_unread_whole]
  pointwise [k0_pay2, term, x_at, g_at]

/-- The last point of a tile writes the sum out. -/
theorem out_at (c : Dev nD) (t : Fin cfg0.N) (ht : t.val % 2 = 1) (p : Fin 1) (k n : Fin 1024) :
    (outsAt0 m c t.val t.isLt).1 (ix3 p k n) = (outsAt0 m c t.val t.isLt).2 (ix2 k n) := by
  rw [outsAt0_B m c t (by omega) ht]
  frame_open
  (try simp (disch := decide) only [↓ View.readCov_skip, ↓ View.readCov_cons_toLoadRect, ↓ View.readCov_fill])
  frame_out
  simp only [read_unread_whole]
  pointwise [k0_pay3]

/-- The weight's gradient at an entry. -/
def grad (c : Dev nD) (k n : Fin 2048) : EReal := ∑ t : Fin 4096, xK m c t k * gK m c t n

/-- The weight's gradient the call writes: at each entry the sum over all times of the two inputs' product. -/
theorem final (c : Dev nD) (p : Fin 1) (k n : Fin 2048) :
    (dats m 0 c).arrAt 2 cfg0.N (ix3 p k n) = grad m c k n := by
  have := (dats m 0 c).arrAt_eq_of_covers 2 (fun i : S1x2048x2048.Idx => grad m c (i 1) (i 2))
    (by decide +kernel) fun t hf y => by
      have ht := (flush0_2 t).mp hf
      idx_vars y
      blk_simp
      rw [after0_2]
      refine (out_at m c t ht y0 y1 y2).trans ?_
      have e : (win0_2.blk t).view.emb (ix3 y0 y1 y2) = ix3 y0 (row t y1) (cln t y2) := by
        unfold row cln
        blk_ext [idx t]
      rw [e]
      exact Cert.Halves.sum_of_halves (fun n h => (outsAt0 m c n h).2) (term m c) (reset m c) (step m c) t ht _
        (fun r => xK m c r (row t y1) * gK m c r (cln t y2)) fun s h => by
          show ∑ r : Fin 2048, xK m c (tim s r) (row s y1) * gK m c (tim s r) (cln s y2) = _
          rw [row_same s t h, cln_same s t h]
          rfl
  exact congrFun this (ix3 p k n)

end Cert.Kernel5Ideal.MixOut

namespace Cert.Reference5Ideal.MixOut
open Cert.Reference5Ideal Cert.Reference5Ideal.Gen

/-- The reference's gradient at an entry. -/
theorem value (X G : FVec Ideal S4096x2048 .bf16) (p : Fin 1) (k n : Fin 2048) :
    (broadcastInDim S1x2048x2048 ![1, 2] bcast_S2048x2048_S1x2048x2048_1_2 (truncf .bf16 (transpose S2048x2048 [1, 0] (Host.dotGeneral dot_S4096x2048_S4096x2048_S2048x2048_0_0_1_1_n_n none (extf .f32 G bitsLt_bf16_f32) (extf .f32 X bitsLt_bf16_f32)) transposes_S2048x2048_S2048x2048_1_0) bitsLt_bf16_f32) (ix3 p k n) : EReal)
      = ∑ t : Fin 4096, X (ix2 t k) * G (ix2 t n) := by
  pointwise [mul_comm]

end Cert.Reference5Ideal.MixOut

namespace Cert.Proof.MixOut

/-- The kernel's frame on bit patterns. -/
theorem frame_kernel : Cert.quiescent_Kernel5 := fun m ρ _ => Cert.Kernel5.Gen.frame m ρ

/-- The kernel's frame over the extended reals. -/
theorem frame_ideal : Cert.quiescent_Kernel5Ideal := fun m ρ _ => Cert.Kernel5Ideal.Gen.frame m ρ

/-- The reference's frame: its run keeps the arguments, and it has no semaphore. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The gradient the kernel writes is the reference's. -/
theorem algebraic : Cert.algebraic_Kernel5Ideal_Reference5Ideal := by
  intro m g m' g' _ hag
  refine ⟨_, Cert.Kernel5Ideal.Value.run_blocks (F := Ideal) m g, ?_⟩
  refine (θ_run Cert.Reference5Ideal.defs _ _).mono (fun r h c => ?_) (Cert.Reference5Ideal.Value.run (F := Ideal) m' g')
  obtain ⟨h0, hk⟩ := h c
  refine ⟨h0.trans ?_, hk⟩
  funext i
  idx_vars i
  refine (Cert.Reference5Ideal.MixOut.value _ _ i0 i1 i2).trans (Eq.trans (α := EReal) ?_ (Cert.Kernel5Ideal.MixOut.final m c i0 i1 i2).symm)
  rw [(hag c).1, (hag c).2]
  rfl

end Cert.Proof.MixOut
end
-- ==== Proof.MixIn.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel6Ideal.MixIn
open Cert.Kernel6Ideal Cert.Kernel6Ideal.Gen

variable (m : (ℓ : Loc nD τ sig) → Buf (Elt Ideal) ℓ)

/-- The gradient at the product's rows. -/
def gK (c : Dev nD) (t : Fin 4096) (d : Fin 2048) : EReal := m ((c : Thread nD τ).loc main_arg0) (ix2 t d)
/-- The output matrix. -/
def wK (c : Dev nD) (n : Fin 2048) (d : Fin 2048) : EReal := m ((c : Thread nD τ).loc main_arg1) (ix2 n d)

/-- The blocks a point reads and the tile it writes. -/
theorem idx : ∀ t : Fin cfg0.N, win0_0.index t = ![t.val / 4, 0] ∧ win0_1.index t = ![t.val % 4, 0]
    ∧ win0_2.index t = ![t.val / 4, t.val % 4] := (by decide +kernel : ∀ t : Fin grid0.N, _)

/-- A row of the point's tile. -/
def row (t : Fin cfg0.N) (r : Fin 1024) : Fin 4096 := ⟨1024 * (t.val / 4) + r, by have := t.isLt.trans_eq N_0; omega⟩
/-- A column of the point's tile, a row of the matrix. -/
def cln (t : Fin cfg0.N) (n : Fin 512) : Fin 2048 := ⟨512 * (t.val % 4) + n, by omega⟩

/-- The first input's block at an entry. -/
theorem g_at (c : Dev nD) (t : Fin cfg0.N) (r : Fin 1024) (d : Fin 2048) : iblk m c 0 t (ix2 r d) = gK m c (row t r) d := by
  unfold gK row
  blk_ext [iblk, V, idx t]

/-- The matrix' block at an entry. -/
theorem w_at (c : Dev nD) (t : Fin cfg0.N) (n : Fin 512) (d : Fin 2048) : iblk m c 1 t (ix2 n d) = wK m c (cln t n) d := by
  unfold wK cln
  blk_ext [iblk, V, idx t]

/-- The gradient at the product's left side: a row of the gradient times a row of the matrix. -/
def back (c : Dev nD) (t : Fin 4096) (n : Fin 2048) : EReal := ∑ d : Fin 2048, gK m c t d * wK m c n d

/-- What a point writes. -/
theorem out_at (c : Dev nD) (t : Fin cfg0.N) (r : Fin 1024) (n : Fin 512) :
    out0_2 (iblk m c 0 t) (iblk m c 1 t) (ix2 r n) = back m c (row t r) (cln t n) := by
  frame_open
  frame_out
  pointwise [k0_pay1, back, g_at, w_at]

/-- The gradient the call writes. -/
theorem final (c : Dev nD) (t : Fin 4096) (n : Fin 2048) :
    (dats m 0 c).arrAt 2 cfg0.N (ix2 t n) = back m c t n := by
  have := (dats m 0 c).arrAt_eq_of_covers 2 (fun i : S4096x2048.Idx => back m c (i 0) (i 1))
    (by decide +kernel) fun t hf y => by
      idx_vars y
      blk_simp
      rw [after0_2]
      refine (out_at m c t y0 y1).trans ?_
      have e : (win0_2.blk t).view.emb (ix2 y0 y1) = ix2 (row t y0) (cln t y1) := by
        unfold row cln
        blk_ext [idx t]
      rw [e]
      rfl
  exact congrFun this (ix2 t n)

end Cert.Kernel6Ideal.MixIn

namespace Cert.Reference6Ideal.MixIn
open Cert.Reference6Ideal Cert.Reference6Ideal.Gen

/-- The reference's gradient at an entry. -/
theorem value (G : FVec Ideal S4096x2048 .bf16) (W : FVec Ideal S2048x2048 .bf16) (t : Fin 4096) (n : Fin 2048) :
    (truncf .bf16 (Host.dotGeneral dot_S4096x2048_S2048x2048_S4096x2048_1_1_0_0_n_n none (extf .f32 G bitsLt_bf16_f32) (extf .f32 W bitsLt_bf16_f32)) bitsLt_bf16_f32 (ix2 t n) : EReal)
      = ∑ d : Fin 2048, G (ix2 t d) * W (ix2 n d) := by
  pointwise

end Cert.Reference6Ideal.MixIn

namespace Cert.Proof.MixIn

/-- The kernel's frame on bit patterns. -/
theorem frame_kernel : Cert.quiescent_Kernel6 := fun m ρ _ => Cert.Kernel6.Gen.frame m ρ

/-- The kernel's frame over the extended reals. -/
theorem frame_ideal : Cert.quiescent_Kernel6Ideal := fun m ρ _ => Cert.Kernel6Ideal.Gen.frame m ρ

/-- The reference's frame: its run keeps the arguments, and it has no semaphore. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient the kernel writes is the reference's. -/
theorem algebraic : Cert.algebraic_Kernel6Ideal_Reference6Ideal := by
  intro m g m' g' _ hag
  refine ⟨_, Cert.Kernel6Ideal.Value.run_blocks (F := Ideal) m g, ?_⟩
  refine (θ_run Cert.Reference6Ideal.defs _ _).mono (fun r h c => ?_) (Cert.Reference6Ideal.Value.run (F := Ideal) m' g')
  obtain ⟨h0, hk⟩ := h c
  refine ⟨h0.trans ?_, hk⟩
  funext i
  idx_vars i
  refine (Cert.Reference6Ideal.MixIn.value _ _ i0 i1).trans (Eq.trans (α := EReal) ?_ (Cert.Kernel6Ideal.MixIn.final m c i0 i1).symm)
  rw [(hag c).1, (hag c).2]
  rfl

end Cert.Proof.MixIn
end
-- ==== Proof.EvGrad.lean ====
module

public import proofs.«01_k».proof.Defs
public import proofs.«01_k».proof.Proof.HalfSums
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel7Ideal.EvGrad
open Cert.Kernel7Ideal Cert.Kernel7Ideal.Gen

variable (m : (ℓ : Loc nD τ sig) → Buf (Elt Ideal) ℓ)

/-- The gradient at the product's rows. -/
def gK (c : Dev nD) (t : Fin 4096) (k : Fin 3072) : EReal := m ((c : Thread nD τ).loc main_arg0) (ix2 t k)
/-- The input matrix, its four parts side by side. -/
def wK (c : Dev nD) (d : Fin 2048) (k : Fin 3072) : EReal :=
  m ((c : Thread nD τ).loc main_arg1) (ix3 ⟨k.val / 768, by omega⟩ d ⟨k.val % 768, by omega⟩)
/-- The gradient that comes past the product. -/
def sK (c : Dev nD) (t : Fin 4096) (d : Fin 2048) : EReal := m ((c : Thread nD τ).loc main_arg2) (ix2 t d)

/-- The blocks a point reads and the rows it works for. -/
theorem idx : ∀ t : Fin cfg0.N, win0_0.index t = ![t.val / 4, t.val % 4] ∧ win0_1.index t = ![t.val % 4, 0, 0]
    ∧ win0_2.index t = ![t.val / 4, 0] ∧ win0_3.index t = ![t.val / 4, 0] := (by decide +kernel : ∀ t : Fin grid0.N, _)

/-- A row of the point's block. -/
def row (t : Fin cfg0.N) (r : Fin 512) : Fin 4096 := ⟨512 * (t.val / 4) + r, by have := t.isLt.trans_eq N_0; omega⟩
/-- A column of the point's part. -/
def cln (t : Fin cfg0.N) (k : Fin 768) : Fin 3072 := ⟨768 * (t.val % 4) + k, by omega⟩

/-- The points of a row block have the same rows. -/
theorem row_same (s t : Fin cfg0.N) (h : s.val / 4 = t.val / 4) (r : Fin 512) : row s r = row t r :=
  Fin.ext (by show 512 * (s.val / 4) + r.val = 512 * (t.val / 4) + r.val; rw [h])

/-- The gradient's block at an entry. -/
theorem g_at (c : Dev nD) (t : Fin cfg0.N) (r : Fin 512) (k : Fin 768) : iblk m c 0 t (ix2 r k) = gK m c (row t r) (cln t k) := by
  unfold gK row cln
  blk_ext [iblk, V, idx t]

/-- The matrix' block at an entry. -/
theorem w_at (c : Dev nD) (t : Fin cfg0.N) (d : Fin 2048) (k : Fin 768) : iblk m c 1 t (ix3 0 d k) = wK m c d (cln t k) := by
  have e1 : (cln t k).val / 768 = t.val % 4 := by show (768 * (t.val % 4) + k.val) / 768 = _; omega
  have e2 : (cln t k).val % 768 = k := by show (768 * (t.val % 4) + k.val) % 768 = _; omega
  unfold wK
  simp only [e1, e2]
  blk_ext [iblk, V, idx t]

/-- The other gradient's block at an entry. -/
theorem s_at (c : Dev nD) (t : Fin cfg0.N) (r : Fin 512) (d : Fin 2048) : iblk m c 2 t (ix2 r d) = sK m c (row t r) d := by
  unfold sK row
  blk_ext [iblk, V, idx t]

/-- What a point adds to its rows: the product over its part of the columns. -/
def term (c : Dev nD) (t : Fin cfg0.N) (i : S512x2048.Idx) : EReal :=
  ∑ k : Fin 768, gK m c (row t (i 0)) (cln t k) * wK m c (i 1) (cln t k)

/-- The first point of a row block starts from zero. -/
theorem reset (c : Dev nD) (t : Fin cfg0.N) (ht : t.val % 4 = 0) (i : S512x2048.Idx) :
    (outsAt0 m c t.val t.isLt).2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, g_at, w_at]

/-- A later point adds to what the point before left. -/
theorem step (c : Dev nD) (t : Fin cfg0.N) (ht : ¬ t.val % 4 = 0) (i : S512x2048.Idx) :
    (outsAt0 m c t.val t.isLt).2 i
      = (outsAt0 m c (t.val - 1) (Nat.lt_of_le_of_lt (Nat.sub_le _ _) t.isLt)).2 i + term m c t i := by
  idx_vars i
  by_cases h : t.val % 4 = 3
  · rw [outsAt0_C m c t ht h]
    frame_out
    simp only [read_unread_whole]
    pointwise [k0_pay2, term, g_at, w_at]
  · rw [outsAt0_B m c t ht h]
    frame_out
    simp only [read_unread_whole]
    pointwise [k0_pay2, term, g_at, w_at]

/-- The constant the residual is scaled by. -/
def alpha : EReal := FloatOps.ofBits (F := Ideal) .f32 0x3FB504F3#32

/-- The last point of a row block writes the scaled gradient plus the sum. -/
theorem out_at (c : Dev nD) (t : Fin cfg0.N) (ht : t.val % 4 = 3) (r : Fin 512) (d : Fin 2048) :
    (outsAt0 m c t.val t.isLt).1 (ix2 r d) = alpha * sK m c (row t r) d + (outsAt0 m c t.val t.isLt).2 (ix2 r d) := by
  rw [outsAt0_C m c t (by omega) ht]
  frame_open
  (try simp (disch := decide) only [↓ View.readCov_skip, ↓ View.readCov_cons_toLoadRect, ↓ View.readCov_fill])
  frame_out
  try simp only [read_unread_whole]
  canon_tiles x h
  all_goals
    idx_vars x
    (try simp only [ix2_0, ix2_1] at h0 h1)
    obtain rfl : d = x1 := Fin.ext h1
    obtain ⟨r, hr⟩ := r
    obtain rfl : r = _ := h0
    rw [← s_at]
    pointwise [k0_pay3, k0_pay4, k0_pay5, k0_pay6, alpha]

/-- The input's gradient: the scaled gradient past the product, plus the gradient through it. -/
def back (c : Dev nD) (t : Fin 4096) (d : Fin 2048) : EReal := alpha * sK m c t d + ∑ k : Fin 3072, gK m c t k * wK m c d k

/-- The gradient the call writes. -/
theorem final (c : Dev nD) (t : Fin 4096) (d : Fin 2048) :
    (dats m 0 c).arrAt 3 cfg0.N (ix2 t d) = back m c t d := by
  have := (dats m 0 c).arrAt_eq_of_covers 3 (fun i : S4096x2048.Idx => back m c (i 0) (i 1))
    (by decide +kernel) fun t hf y => by
      have ht := (flush0_3 t).mp hf
      idx_vars y
      blk_simp
      rw [after0_3]
      refine (out_at m c t ht y0 y1).trans ?_
      have e : (win0_3.blk t).view.emb (ix2 y0 y1) = ix2 (row t y0) y1 := by
        unfold row
        blk_ext [idx t]
      rw [e]
      refine congrArg (alpha * sK m c (row t y0) y1 + ·) ?_
      refine (Cert.Halves.sum_of_parts (fun n h => (outsAt0 m c n h).2) (term m c) 4 768 (reset m c) (step m c) t ht _
        (Cert.Halves.upto fun k : Fin 3072 => gK m c (row t y0) k * wK m c y1 k) fun s h => ?_).trans
        (Finset.sum_congr rfl fun k _ => Cert.Halves.upto_of_lt _ _ k.isLt)
      refine Eq.trans ?_ (Finset.sum_congr rfl fun (k : Fin 768) _ => (Cert.Halves.upto_of_lt (fun k : Fin 3072 => gK m c (row t y0) k * wK m c y1 k) (768 * (s.val % 4) + k.val) (by omega)).symm)
      show ∑ k : Fin 768, gK m c (row s y0) (cln s k) * wK m c y1 (cln s k) = _
      rw [row_same s t h]
      rfl
  exact congrFun this (ix2 t d)

end Cert.Kernel7Ideal.EvGrad

namespace Cert.Reference7Ideal.EvGrad
open Cert.Reference7Ideal Cert.Reference7Ideal.Gen

/-- The matrix' four parts side by side. -/
def whole (W : FVec Ideal S4x2048x768 .bf16) : FVec Ideal S2048x3072 .bf16 :=
  concatenate S2048x3072 1 [⟨S2048x768, shapeCast _ (extractStridedSlice S1x2048x768 ![0, 0, 0] W slices_S4x2048x768_S1x2048x768_0_0_0) shapeCasts_S1x2048x768_S2048x768⟩, ⟨S2048x768, shapeCast _ (extractStridedSlice S1x2048x768 ![1, 0, 0] W slices_S4x2048x768_S1x2048x768_1_0_0) shapeCasts_S1x2048x768_S2048x768⟩, ⟨S2048x768, shapeCast _ (extractStridedSlice S1x2048x768 ![2, 0, 0] W slices_S4x2048x768_S1x2048x768_2_0_0) shapeCasts_S1x2048x768_S2048x768⟩, ⟨S2048x768, shapeCast _ (extractStridedSlice S1x2048x768 ![3, 0, 0] W slices_S4x2048x768_S1x2048x768_3_0_0) shapeCasts_S1x2048x768_S2048x768⟩] concatenates_S2048x768_S2048x768_S2048x768_S2048x768_S2048x3072_d1

/-- The parts side by side at an entry. -/
theorem whole_at (W : FVec Ideal S4x2048x768 .bf16) (d : Fin 2048) (k : Fin 3072) :
    (whole W (ix2 d k) : EReal) = W (ix3 ⟨k.val / 768, by omega⟩ d ⟨k.val % 768, by omega⟩) := by
  obtain ⟨p, q, rfl⟩ : ∃ (p : Fin 4) (q : Fin 768), k = ⟨768 * p + q, by omega⟩ :=
    ⟨⟨k.val / 768, by omega⟩, ⟨k.val % 768, by omega⟩, Fin.ext (Nat.div_add_mod k.val 768).symm⟩
  have e1 : (768 * p.val + q.val) / 768 = p := by omega
  have e2 : (768 * p.val + q.val) % 768 = q := by omega
  simp only [e1, e2]
  match p with
  | 0 => pointwise [whole]
  | 1 => pointwise [whole]
  | 2 =>
    have f1 : ¬ 1536 + q.val < 768 := by omega
    have f2 : ¬ 1536 + q.val - 768 < 768 := by omega
    have f3 : 1536 + q.val - 768 - 768 = q := by omega
    pointwise [whole, f1, f2, f3]
  | 3 =>
    have f1 : ¬ 2304 + q.val < 768 := by omega
    have f2 : ¬ 2304 + q.val - 768 < 768 := by omega
    have f3 : ¬ 2304 + q.val - 768 - 768 < 768 := by omega
    have f4 : 2304 + q.val - 768 - 768 - 768 = q := by omega
    pointwise [whole, f1, f2, f3, f4]

/-- The reference's input gradient. -/
def grad (G : FVec Ideal S4096x3072 .bf16) (W : FVec Ideal S4x2048x768 .bf16) (A : FVec Ideal S4096x2048 .f32) : FVec Ideal S4096x2048 .f32 :=
  addf (Host.dotGeneral dot_S4096x3072_S2048x3072_S4096x2048_1_1_0_0_n_n none (extf .f32 G bitsLt_bf16_f32) (extf .f32 (whole W) bitsLt_bf16_f32)) (mulf (broadcastInDim S4096x2048 ![] bcast_S_S4096x2048 (constant S_ .f32 0x3FB504F3#32)) A)

/-- The reference's input gradient at an entry. -/
theorem value (G : FVec Ideal S4096x3072 .bf16) (W : FVec Ideal S4x2048x768 .bf16) (A : FVec Ideal S4096x2048 .f32) (t : Fin 4096) (d : Fin 2048) :
    (grad G W A (ix2 t d) : EReal) = Cert.Kernel7Ideal.EvGrad.alpha * A (ix2 t d)
      + ∑ k : Fin 3072, G (ix2 t k) * W (ix3 ⟨k.val / 768, by omega⟩ d ⟨k.val % 768, by omega⟩) := by
  simp only [← whole_at]
  rw [add_comm]
  pointwise [grad, Cert.Kernel7Ideal.EvGrad.alpha]

end Cert.Reference7Ideal.EvGrad

namespace Cert.Proof.EvGrad

/-- The kernel's frame on bit patterns. -/
theorem frame_kernel : Cert.quiescent_Kernel7 := fun m ρ _ => Cert.Kernel7.Gen.frame m ρ

/-- The kernel's frame over the extended reals. -/
theorem frame_ideal : Cert.quiescent_Kernel7Ideal := fun m ρ _ => Cert.Kernel7Ideal.Gen.frame m ρ

/-- The reference's frame: its run keeps the arguments, and it has no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The gradient the kernel writes is the reference's. -/
theorem algebraic : Cert.algebraic_Kernel7Ideal_Reference7Ideal := by
  intro m g m' g' _ hag
  refine ⟨_, Cert.Kernel7Ideal.Value.run_blocks (F := Ideal) m g, ?_⟩
  refine (θ_run Cert.Reference7Ideal.defs _ _).mono (fun r h c => ?_) (Cert.Reference7Ideal.Value.run (F := Ideal) m' g')
  obtain ⟨h0, hk⟩ := h c
  refine ⟨h0.trans ?_, hk⟩
  funext i
  idx_vars i
  refine (Cert.Reference7Ideal.EvGrad.value _ _ _ i0 i1).trans (Eq.trans (α := EReal) ?_ (Cert.Kernel7Ideal.EvGrad.final m c i0 i1).symm)
  rw [(hag c).1, (hag c).2.1, (hag c).2.2]
  rfl

end Cert.Proof.EvGrad
end
-- ==== Proof.EvIn.lean ====
module

public import proofs.«01_k».proof.Defs
public import proofs.«01_k».proof.Proof.HalfSums
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel8Ideal.EvIn
open Cert.Kernel8Ideal Cert.Kernel8Ideal.Gen

variable (m : (ℓ : Loc nD τ sig) → Buf (Elt Ideal) ℓ)

/-- The layer's input rows, the product's left side forward. -/
def xK (c : Dev nD) (t : Fin 4096) (k : Fin 2048) : EReal := m ((c : Thread nD τ).loc main_arg0) (ix2 t k)
/-- The gradient at the product's rows. -/
def gK (c : Dev nD) (t : Fin 4096) (n : Fin 3072) : EReal := m ((c : Thread nD τ).loc main_arg1) (ix2 t n)

/-- The blocks a point reads and the tile it works for. -/
theorem idx : ∀ t : Fin cfg0.N, win0_0.index t = ![t.val % 2, t.val / 8] ∧ win0_1.index t = ![t.val % 2, t.val / 2 % 4]
    ∧ win0_2.index t = ![t.val / 2 % 4, t.val / 8, 0] := (by decide +kernel : ∀ t : Fin grid0.N, _)

/-- A time of the point's half of the rows. -/
def tim (t : Fin cfg0.N) (r : Fin 2048) : Fin 4096 := ⟨2048 * (t.val % 2) + r, by omega⟩
/-- A row of the point's tile. -/
def row (t : Fin cfg0.N) (k : Fin 1024) : Fin 2048 := ⟨1024 * (t.val / 8) + k, by have := t.isLt.trans_eq N_0; omega⟩
/-- A column of the point's tile. -/
def cln (t : Fin cfg0.N) (n : Fin 768) : Fin 3072 := ⟨768 * (t.val / 2 % 4) + n, by omega⟩

/-- The two points of a tile have the same rows. -/
theorem row_same (s t : Fin cfg0.N) (h : s.val / 2 = t.val / 2) (k : Fin 1024) : row s k = row t k :=
  Fin.ext (by show 1024 * (s.val / 8) + k.val = 1024 * (t.val / 8) + k.val; omega)

/-- The two points of a tile have the same columns. -/
theorem cln_same (s t : Fin cfg0.N) (h : s.val / 2 = t.val / 2) (n : Fin 768) : cln s n = cln t n :=
  Fin.ext (by show 768 * (s.val / 2 % 4) + n.val = 768 * (t.val / 2 % 4) + n.val; omega)

/-- The first input's block at an entry. -/
theorem x_at (c : Dev nD) (t : Fin cfg0.N) (r : Fin 2048) (k : Fin 1024) : iblk m c 0 t (ix2 r k) = xK m c (tim t r) (row t k) := by
  unfold xK tim row
  blk_ext [iblk, V, idx t]

/-- The second input's block at an entry. -/
theorem g_at (c : Dev nD) (t : Fin cfg0.N) (r : Fin 2048) (n : Fin 768) : iblk m c 1 t (ix2 r n) = gK m c (tim t r) (cln t n) := by
  unfold gK tim cln
  blk_ext [iblk, V, idx t]

/-- What a point adds to its tile: the product over its half of the times. -/
def term (c : Dev nD) (t : Fin cfg0.N) (i : S1024x768.Idx) : EReal :=
  ∑ r : Fin 2048, xK m c (tim t r) (row t (i 0)) * gK m c (tim t r) (cln t (i 1))

/-- The first point of a tile starts from zero. -/
theorem reset (c : Dev nD) (t : Fin cfg0.N) (ht : t.val % 2 = 0) (i : S1024x768.Idx) :
    (outsAt0 m c t.val t.isLt).2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, x_at, g_at]

/-- A later point adds to what the point before left. -/
theorem step (c : Dev nD) (t : Fin cfg0.N) (ht : ¬ t.val % 2 = 0) (i : S1024x768.Idx) :
    (outsAt0 m c t.val t.isLt).2 i
      = (outsAt0 m c (t.val - 1) (Nat.lt_of_le_of_lt (Nat.sub_le _ _) t.isLt)).2 i + term m c t i := by
  idx_vars i
  rw [outsAt0_B m c t ht (by omega)]
  frame_out
  simp only [read_unread_whole]
  pointwise [k0_pay2, term, x_at, g_at]

/-- The last point of a tile writes the sum out. -/
theorem out_at (c : Dev nD) (t : Fin cfg0.N) (ht : t.val % 2 = 1) (p : Fin 1) (k : Fin 1024) (n : Fin 768) :
    (outsAt0 m c t.val t.isLt).1 (ix3 p k n) = (outsAt0 m c t.val t.isLt).2 (ix2 k n) := by
  rw [outsAt0_B m c t (by omega) ht]
  frame_open
  (try simp (disch := decide) only [↓ View.readCov_skip, ↓ View.readCov_cons_toLoadRect, ↓ View.readCov_fill])
  frame_out
  simp only [read_unread_whole]
  pointwise [k0_pay3]

/-- The weight's gradient at an entry. -/
def grad (c : Dev nD) (k : Fin 2048) (n : Fin 3072) : EReal := ∑ t : Fin 4096, xK m c t k * gK m c t n

/-- The column of the product that column `n` of part `d` holds. -/
def part (d : Fin 4) (n : Fin 768) : Fin 3072 := ⟨768 * d + n, by omega⟩

/-- The weight's gradient the call writes: at each entry the sum over all times of the two inputs' product. -/
theorem final (c : Dev nD) (d : Fin 4) (k : Fin 2048) (n : Fin 768) :
    (dats m 0 c).arrAt 2 cfg0.N (ix3 d k n) = grad m c k (part d n) := by
  have := (dats m 0 c).arrAt_eq_of_covers 2 (fun i : S4x2048x768.Idx => grad m c (i 1) (part (i 0) (i 2)))
    (by decide +kernel) fun t hf y => by
      have ht := (flush0_2 t).mp hf
      idx_vars y
      blk_simp
      rw [after0_2]
      refine (out_at m c t ht y0 y1 y2).trans ?_
      have e : (win0_2.blk t).view.emb (ix3 y0 y1 y2) = ix3 ⟨t.val / 2 % 4, by omega⟩ (row t y1) y2 := by
        unfold row
        blk_ext [idx t]
      rw [e]
      show _ = grad m c (row t y1) (cln t y2)
      exact Cert.Halves.sum_of_halves (fun n h => (outsAt0 m c n h).2) (term m c) (reset m c) (step m c) t ht _
        (fun r => xK m c r (row t y1) * gK m c r (cln t y2)) fun s h => by
          show ∑ r : Fin 2048, xK m c (tim s r) (row s y1) * gK m c (tim s r) (cln s y2) = _
          rw [row_same s t h, cln_same s t h]
          rfl
  exact congrFun this (ix3 d k n)

end Cert.Kernel8Ideal.EvIn

namespace Cert.Reference8Ideal.EvIn
open Cert.Reference8Ideal Cert.Reference8Ideal.Gen

/-- The reference's gradient of the whole matrix, its four parts side by side. -/
def whole (X : FVec Ideal S4096x2048 .bf16) (G : FVec Ideal S4096x3072 .bf16) : FVec Ideal S2048x3072 .f32 :=
  transpose S2048x3072 [1, 0] (Host.dotGeneral dot_S4096x3072_S4096x2048_S3072x2048_0_0_1_1_n_n none (extf .f32 G bitsLt_bf16_f32) (extf .f32 X bitsLt_bf16_f32)) transposes_S3072x2048_S2048x3072_1_0

/-- The whole matrix' gradient at an entry. -/
theorem whole_at (X : FVec Ideal S4096x2048 .bf16) (G : FVec Ideal S4096x3072 .bf16) (k : Fin 2048) (n : Fin 3072) :
    (whole X G (ix2 k n) : EReal) = ∑ t : Fin 4096, X (ix2 t k) * G (ix2 t n) := by
  pointwise [whole, mul_comm]

/-- The reference's gradient, part by part. -/
def parts (X : FVec Ideal S4096x2048 .bf16) (G : FVec Ideal S4096x3072 .bf16) : FVec Ideal S4x2048x768 .bf16 :=
  truncf .bf16 (concatenate S4x2048x768 0 [⟨S1x2048x768, broadcastInDim S1x2048x768 ![1, 2] bcast_S2048x768_S1x2048x768_1_2 (extractStridedSlice S2048x768 ![0, 0] (whole X G) slices_S2048x3072_S2048x768_0_0)⟩, ⟨S1x2048x768, broadcastInDim S1x2048x768 ![1, 2] bcast_S2048x768_S1x2048x768_1_2 (extractStridedSlice S2048x768 ![0, 768] (whole X G) slices_S2048x3072_S2048x768_0_768)⟩, ⟨S1x2048x768, broadcastInDim S1x2048x768 ![1, 2] bcast_S2048x768_S1x2048x768_1_2 (extractStridedSlice S2048x768 ![0, 1536] (whole X G) slices_S2048x3072_S2048x768_0_1536)⟩, ⟨S1x2048x768, broadcastInDim S1x2048x768 ![1, 2] bcast_S2048x768_S1x2048x768_1_2 (extractStridedSlice S2048x768 ![0, 2304] (whole X G) slices_S2048x3072_S2048x768_0_2304)⟩] concatenates_S1x2048x768_S1x2048x768_S1x2048x768_S1x2048x768_S4x2048x768_d0) bitsLt_bf16_f32

/-- The reference's gradient at an entry: part `d` holds 768 columns of the whole from `768 d`. -/
theorem value (X : FVec Ideal S4096x2048 .bf16) (G : FVec Ideal S4096x3072 .bf16) (d : Fin 4) (k : Fin 2048) (n : Fin 768) :
    (parts X G (ix3 d k n) : EReal) = ∑ t : Fin 4096, X (ix2 t k) * G (ix2 t ⟨768 * d + n, by omega⟩) := by
  rw [← whole_at]
  match d with
  | 0 => pointwise [parts]
  | 1 => pointwise [parts]
  | 2 => pointwise [parts]
  | 3 => pointwise [parts]

end Cert.Reference8Ideal.EvIn

namespace Cert.Proof.EvIn

/-- The kernel's frame on bit patterns. -/
theorem frame_kernel : Cert.quiescent_Kernel8 := fun m ρ _ => Cert.Kernel8.Gen.frame m ρ

/-- The kernel's frame over the extended reals. -/
theorem frame_ideal : Cert.quiescent_Kernel8Ideal := fun m ρ _ => Cert.Kernel8Ideal.Gen.frame m ρ

/-- The reference's frame: its run keeps the arguments, and it has no semaphore. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The gradient the kernel writes is the reference's. -/
theorem algebraic : Cert.algebraic_Kernel8Ideal_Reference8Ideal := by
  intro m g m' g' _ hag
  refine ⟨_, Cert.Kernel8Ideal.Value.run_blocks (F := Ideal) m g, ?_⟩
  refine (θ_run Cert.Reference8Ideal.defs _ _).mono (fun r h c => ?_) (Cert.Reference8Ideal.Value.run (F := Ideal) m' g')
  obtain ⟨h0, hk⟩ := h c
  refine ⟨h0.trans ?_, hk⟩
  funext i
  idx_vars i
  refine (Cert.Reference8Ideal.EvIn.value _ _ i0 i1 i2).trans (Eq.trans (α := EReal) ?_ (Cert.Kernel8Ideal.EvIn.final m c i0 i1 i2).symm)
  rw [(hag c).1, (hag c).2]
  rfl

end Cert.Proof.EvIn
end
-- ==== Proof.OdInKernel.lean ====
module

public import proofs.«01_k».proof.Defs
public import proofs.«01_k».proof.Proof.HalfSums
public import proofs.«01_k».proof.Proof.RowNorm
public import proofs.«01_k».proof.Proof.Gen.Kernel9Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.OdIn
open Cert.Kernel9Ideal Cert.Kernel9Ideal.Gen
open Cert.Norm (alpha width eps mean centred spread rstd normed lnb)

variable (m : (ℓ : Loc nD τ sig) → Buf (Elt Ideal) ℓ)

/-- The gradient at the product, its columns as the call has them: 256 of each of the four parts in turn. -/
def dhK (c : Dev nD) (t : Fin 4096) (k : Fin 8192) : EReal := m ((c : Thread nD τ).loc main_arg0) (ix2 t k)
/-- The projection's four parts, their columns in the same order. -/
def wK (c : Dev nD) (d : Fin 2048) (k : Fin 8192) : EReal :=
  m ((c : Thread nD τ).loc main_arg1) (ix3 ⟨k.val % 1024 / 256, by omega⟩ d ⟨256 * (k.val / 1024) + k.val % 256, by omega⟩)
/-- The gradient that comes past the layer. -/
def resK (c : Dev nD) (t : Fin 4096) (d : Fin 2048) : EReal := m ((c : Thread nD τ).loc main_arg2) (ix2 t d)
/-- The norm's input. -/
def rK (c : Dev nD) (t : Fin 4096) (d : Fin 2048) : EReal := m ((c : Thread nD τ).loc main_arg3) (ix2 t d)
/-- The norm's gain. -/
def gK (c : Dev nD) (d : Fin 2048) : EReal := m ((c : Thread nD τ).loc main_arg4) (ix1 d)

/-- The blocks a point reads and the rows it works for. -/
theorem idx : ∀ t : Fin cfg0.N, win0_0.index t = ![t.val / 8, t.val % 8] ∧ win0_1.index t = ![0, 0, t.val % 8]
    ∧ win0_2.index t = ![t.val / 8, 0] ∧ win0_3.index t = ![t.val / 8, 0] ∧ win0_4.index t = ![t.val / 8, 0] ∧ win0_5.index t = ![0, 0]
    ∧ win0_6.index t = ![t.val / 8, 0] ∧ win0_7.index t = ![t.val / 8, 0] ∧ win0_8.index t = ![0, 0] ∧ win0_9.index t = ![0, 0] :=
  (by decide +kernel : ∀ t : Fin grid0.N, _)

/-- A row of the point's block. -/
def row (t : Fin cfg0.N) (r : Fin 512) : Fin 4096 := ⟨512 * (t.val / 8) + r, by have := t.isLt.trans_eq N_0; omega⟩
/-- A column of the point's part. -/
def cln (t : Fin cfg0.N) (k : Fin 1024) : Fin 8192 := ⟨1024 * (t.val % 8) + k, by omega⟩

/-- The rows are counted as in the sums over all rows. -/
theorem row_eq (t : Fin cfg0.N) (r : Fin 512) : Cert.Halves.row N_0 t r = row t r := rfl

/-- The points of a row block have the same rows. -/
theorem row_same (s t : Fin cfg0.N) (h : s.val / 8 = t.val / 8) (r : Fin 512) : row s r = row t r :=
  Fin.ext (by show 512 * (s.val / 8) + r.val = 512 * (t.val / 8) + r.val; rw [h])

/-- The product's gradient's block at an entry. -/
theorem dh_at (c : Dev nD) (t : Fin cfg0.N) (r : Fin 512) (k : Fin 1024) : iblk m c 0 t (ix2 r k) = dhK m c (row t r) (cln t k) := by
  unfold dhK row cln
  blk_ext [iblk, V, idx t]

/-- The normed rows as the call reads them, at an entry. -/
theorem x_host (c : Dev nD) (t : Fin 4096) (d : Fin 2048) :
    (StableHlo.after (hostOps0 (F := Ideal)) (fun b => m (c, b)) (Proc.tc.devRef main_v17) (ix2 t d) : EReal) = normed (rK m c t) d := by
  entry_read
  pointwise [normed, centred, rstd, spread, mean, eps, width, rK]

/-- The inverse deviations as the call reads them, at an entry. -/
theorem s_host (c : Dev nD) (t : Fin 4096) :
    (StableHlo.after (hostOps0 (F := Ideal)) (fun b => m (c, b)) (Proc.tc.devRef main_v13) (ix2 t 0) : EReal) = rstd (rK m c t) := by
  entry_read
  pointwise [centred, rstd, spread, mean, eps, width, rK]

/-- The gain as the call reads it, at an entry. -/
theorem g_host (c : Dev nD) (d : Fin 2048) :
    (StableHlo.after (hostOps0 (F := Ideal)) (fun b => m (c, b)) (Proc.tc.devRef main_v18) (ix2 0 d) : EReal) = gK m c d := by
  entry_read
  pointwise [gK]

/-- The projection's block at an entry. -/
theorem w_at (c : Dev nD) (t : Fin cfg0.N) (p : Fin 4) (d : Fin 2048) (k : Fin 256) :
    iblk m c 1 t (ix3 p d k) = wK m c d (cln t ⟨256 * p + k, by omega⟩) := by
  have e1 : (cln t ⟨256 * p + k, by omega⟩).val % 1024 / 256 = p := by show (1024 * (t.val % 8) + (256 * p.val + k.val)) % 1024 / 256 = _; omega
  have e2 : 256 * ((cln t ⟨256 * p + k, by omega⟩).val / 1024) + (cln t ⟨256 * p + k, by omega⟩).val % 256 = 256 * (t.val % 8) + k := by
    show 256 * ((1024 * (t.val % 8) + (256 * p.val + k.val)) / 1024) + (1024 * (t.val % 8) + (256 * p.val + k.val)) % 256 = _; omega
  unfold wK
  simp only [e1, e2]
  blk_ext [iblk, V, idx t]

/-- The four parts of the block side by side. -/
theorem parts (c : Dev nD) (t : Fin cfg0.N) (d : Fin 2048) (x : Fin 1024) :
    (if h : x.val < 256 then wK m c d (cln t x)
      else if h : x.val - 256 < 256 then wK m c d (cln t ⟨256 + (x.val - 256), by omega⟩)
      else if h : x.val - 256 - 256 < 256 then wK m c d (cln t ⟨512 + (x.val - 256 - 256), by omega⟩)
      else wK m c d (cln t ⟨768 + (x.val - 256 - 256 - 256), by omega⟩)) = wK m c d (cln t x) := by
  split_ifs
  · rfl
  all_goals exact congrArg (fun k => wK m c d (cln t k)) (Fin.ext (by dsimp only; omega))

/-- The other gradient's block at an entry. -/
theorem res_at (c : Dev nD) (t : Fin cfg0.N) (r : Fin 512) (d : Fin 2048) : iblk m c 2 t (ix2 r d) = resK m c (row t r) d := by
  unfold resK row
  blk_ext [iblk, V, idx t]

/-- The normed rows' block at an entry. -/
theorem x_at (c : Dev nD) (t : Fin cfg0.N) (r : Fin 512) (d : Fin 2048) : iblk m c 3 t (ix2 r d) = normed (rK m c (row t r)) d := by
  refine Eq.trans ?_ (x_host m c (row t r) d)
  unfold row
  blk_ext [iblk, V, idx t]

/-- The inverse deviations' block at an entry. -/
theorem s_at (c : Dev nD) (t : Fin cfg0.N) (r : Fin 512) : iblk m c 4 t (ix2 r 0) = rstd (rK m c (row t r)) := by
  refine Eq.trans ?_ (s_host m c (row t r))
  unfold row
  blk_ext [iblk, V, idx t]

/-- The gain's block at an entry. -/
theorem g_at (c : Dev nD) (t : Fin cfg0.N) (d : Fin 2048) : iblk m c 5 t (ix2 0 d) = gK m c d := by
  refine Eq.trans ?_ (g_host m c d)
  blk_ext [iblk, V, idx t]

/-- What a point adds to its rows: the product over its part of the columns. -/
def term (c : Dev nD) (t : Fin cfg0.N) (i : S512x2048.Idx) : EReal :=
  ∑ k : Fin 1024, dhK m c (row t (i 0)) (cln t k) * wK m c (i 1) (cln t k)

/-- The first point of a row block starts from zero. -/
theorem reset (c : Dev nD) (t : Fin cfg0.N) (ht : t.val % 8 = 0) (i : S512x2048.Idx) :
    (outsAt0 m c t.val t.isLt).2.2.2.2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, dh_at, w_at, parts]

/-- A later point adds to what the point before left. -/
theorem step (c : Dev nD) (t : Fin cfg0.N) (ht : ¬ t.val % 8 = 0) (i : S512x2048.Idx) :
    (outsAt0 m c t.val t.isLt).2.2.2.2 i
      = (outsAt0 m c (t.val - 1) (Nat.lt_of_le_of_lt (Nat.sub_le _ _) t.isLt)).2.2.2.2 i + term m c t i := by
  idx_vars i
  by_cases h : t.val % 8 = 7
  · rcases lt_or_ge t.val 8 with h2 | h2
    on_goal 1 => rw [outsAt0_C m c t ht h h2]
    on_goal 2 => rw [outsAt0_D m c t ht h (by omega)]
    all_goals
      frame_out
      simp only [read_unread_whole]
      pointwise [k0_pay2, term, dh_at, w_at, parts]
  · rw [outsAt0_B m c t ht h]
    frame_out
    simp only [read_unread_whole]
    pointwise [k0_pay2, term, dh_at, w_at, parts]

/-- What a point holds in its accumulator. -/
def acc (c : Dev nD) (t : Fin cfg0.N) (r : Fin 512) (j : Fin 2048) : EReal := (outsAt0 m c t.val t.isLt).2.2.2.2 (ix2 r j)

/-- What a point's last step reads as the gradient at the norm's output: the scaled residual's and the product's. -/
def dout (c : Dev nD) (t : Fin cfg0.N) (r : Fin 512) (j : Fin 2048) : EReal := alpha * iblk m c 2 t (ix2 r j) + acc m c t r j

/-- The gradient through the norm that the last point of a row block works out. -/
def lnbAt (c : Dev nD) (t : Fin cfg0.N) (r : Fin 512) (j : Fin 2048) : EReal :=
  lnb (dout m c t r) (fun k => iblk m c 3 t (ix2 r k)) (iblk m c 4 t (ix2 r 0)) (fun k => iblk m c 5 t (ix2 0 k)) j

/-- The last point of a row block writes the gradient through the norm, in both precisions. -/
theorem dr_at (c : Dev nD) (t : Fin cfg0.N) (ht : t.val % 8 = 7) (r : Fin 512) (j : Fin 2048) :
    (outsAt0 m c t.val t.isLt).1 (ix2 r j) = lnbAt m c t r j
    ∧ (outsAt0 m c t.val t.isLt).2.1 (ix2 r j) = lnbAt m c t r j := by
  unfold lnbAt dout acc
  rcases lt_or_ge t.val 8 with h | h
  on_goal 1 => rw [outsAt0_C m c t (by omega) ht h]
  on_goal 2 => rw [outsAt0_D m c t (by omega) ht (by omega)]
  all_goals
    constructor
    all_goals
      frame_open
      (try simp (disch := decide) only [↓ View.readCov_skip, ↓ View.readCov_cons_toLoadRect, ↓ View.readCov_fill])
      frame_out
      try simp only [read_unread_whole]
      canon_tiles x h
      all_goals
        idx_vars x
        (try simp only [ix2_0, ix2_1] at h0 h1)
        obtain rfl : j = x1 := Fin.ext h1
        obtain ⟨r, hr⟩ := r
        obtain rfl : r = _ := h0
        pointwise [k0_pay9, k0_pay7, k0_pay8, k0_pay12, k0_pay15, k0_pay16, k0_pay17, k0_pay18, k0_pay19, k0_pay20, k0_pay21, k0_pay22, k0_pay23, k0_pay26, k0_pay27, k0_pay28, k0_pay29, k0_pay30, k0_pay33, k0_pay34, k0_pay35, k0_pay38, alpha, width, lnb]

/-- The first row block's last point starts the gradients of gain and offset. -/
theorem sums_first (c : Dev nD) (t : Fin cfg0.N) (ht : t.val % 8 = 7) (h : t.val < 8) (j : Fin 2048) :
    (outsAt0 m c t.val t.isLt).2.2.1 (ix2 0 j) = 0 + ∑ r : Fin 512, dout m c t r j * iblk m c 3 t (ix2 r j)
    ∧ (outsAt0 m c t.val t.isLt).2.2.2.1 (ix2 0 j) = 0 + ∑ r : Fin 512, dout m c t r j := by
  unfold dout acc
  rw [outsAt0_C m c t (by omega) ht h]
  constructor
  all_goals
    frame_open
    (try simp (disch := decide) only [↓ View.readCov_skip, ↓ View.readCov_cons_toLoadRect, ↓ View.readCov_fill])
    frame_out
    try simp only [read_unread_whole]
    rw [Cert.Halves.sum_slabs]
    simp only [← add_assoc]
    pointwise [k0_pay3, k0_pay4, k0_pay36, k0_pay37, k0_pay31, k0_pay32, k0_pay24, k0_pay25, k0_pay13, k0_pay14, k0_pay10, k0_pay11, k0_pay5, k0_pay6, k0_pay7, k0_pay8, k0_pay15, k0_pay16, k0_pay26, k0_pay27, k0_pay33, k0_pay34, alpha]

/-- A later row block's last point adds to the gradients of gain and offset. -/
theorem sums_next (c : Dev nD) (t : Fin cfg0.N) (ht : t.val % 8 = 7) (h : ¬ t.val < 8) (j : Fin 2048) :
    (outsAt0 m c t.val t.isLt).2.2.1 (ix2 0 j) = (outsAt0 m c (t.val - 1) (Nat.lt_of_le_of_lt (Nat.sub_le _ _) t.isLt)).2.2.1 (ix2 0 j)
      + ∑ r : Fin 512, dout m c t r j * iblk m c 3 t (ix2 r j)
    ∧ (outsAt0 m c t.val t.isLt).2.2.2.1 (ix2 0 j) = (outsAt0 m c (t.val - 1) (Nat.lt_of_le_of_lt (Nat.sub_le _ _) t.isLt)).2.2.2.1 (ix2 0 j)
      + ∑ r : Fin 512, dout m c t r j := by
  unfold dout acc
  rw [outsAt0_D m c t (by omega) ht h]
  constructor
  all_goals
    frame_open
    (try simp (disch := decide) only [↓ View.readCov_skip, ↓ View.readCov_cons_toLoadRect, ↓ View.readCov_fill])
    frame_out
    try simp only [read_unread_whole]
    rw [Cert.Halves.sum_slabs]
    simp only [← add_assoc]
    pointwise [k0_pay3, k0_pay4, k0_pay36, k0_pay37, k0_pay31, k0_pay32, k0_pay24, k0_pay25, k0_pay13, k0_pay14, k0_pay10, k0_pay11, k0_pay5, k0_pay6, k0_pay7, k0_pay8, k0_pay15, k0_pay16, k0_pay26, k0_pay27, k0_pay33, k0_pay34, alpha]

/-- The gradients of gain and offset that a point holds. -/
def held (c : Dev nD) (n : ℕ) (h : n < cfg0.N) (j : Fin 2048) : EReal × EReal :=
  ((outsAt0 m c n h).2.2.1 (ix2 0 j), (outsAt0 m c n h).2.2.2.1 (ix2 0 j))

/-- A point that is not the last of its row block keeps them. -/
theorem held_keep (c : Dev nD) (n : ℕ) (h : n + 1 < cfg0.N) (h7 : ¬ (n + 1) % 8 = 7) (j : Fin 2048) :
    held m c (n + 1) h j = held m c n (Nat.lt_of_succ_lt h) j := by
  unfold held
  by_cases h0 : (n + 1) % 8 = 0
  · rw [outsAt0_A m c ⟨n + 1, h⟩ h0 h7]
    rfl
  · rw [outsAt0_B m c ⟨n + 1, h⟩ h0 h7]
    rfl

/-- So the points after a row block's last keep them up to the next block's last. -/
theorem held_back (c : Dev nD) (n : ℕ) (hn : n % 8 = 7) (j : Fin 2048) (k : ℕ) (hk : k < 8) (h : n + k < cfg0.N) :
    held m c (n + k) h j = held m c n (Nat.lt_of_le_of_lt (Nat.le_add_right _ _) h) j := by
  induction k with
  | zero => rfl
  | succ k ih =>
    exact (held_keep m c (n + k) h (by omega) j).trans (ih (by omega) (Nat.lt_of_succ_lt h))

/-- The gradient at the norm's output: the scaled gradient past the layer, plus the gradient through the up projection. -/
def dK (c : Dev nD) (t : Fin 4096) (d : Fin 2048) : EReal := alpha * resK m c t d + ∑ k : Fin 8192, dhK m c t k * wK m c d k

/-- A row block's last point holds that gradient. -/
theorem dout_eq (c : Dev nD) (t : Fin cfg0.N) (ht : t.val % 8 = 7) (r : Fin 512) (d : Fin 2048) : dout m c t r d = dK m c (row t r) d := by
  unfold dout dK acc
  rw [res_at]
  refine congrArg (alpha * resK m c (row t r) d + ·) ?_
  refine (Cert.Halves.sum_of_parts (fun n h => (outsAt0 m c n h).2.2.2.2) (term m c) 8 1024 (reset m c) (step m c) t ht _
    (Cert.Halves.upto fun k : Fin 8192 => dhK m c (row t r) k * wK m c d k) fun s h => ?_).trans
    (Finset.sum_congr rfl fun k _ => Cert.Halves.upto_of_lt _ _ k.isLt)
  refine Eq.trans ?_ (Finset.sum_congr rfl fun (k : Fin 1024) _ => (Cert.Halves.upto_of_lt (fun k : Fin 8192 => dhK m c (row t r) k * wK m c d k) (1024 * (s.val % 8) + k.val) (by omega)).symm)
  show ∑ k : Fin 1024, dhK m c (row s r) (cln s k) * wK m c d (cln s k) = _
  rw [row_same s t h]
  rfl

/-- The gradient at the norm's input. -/
def back (c : Dev nD) (t : Fin 4096) (d : Fin 2048) : EReal := lnb (dK m c t) (normed (rK m c t)) (rstd (rK m c t)) (gK m c) d
/-- The gradient of the gain. -/
def gain (c : Dev nD) (d : Fin 2048) : EReal := ∑ t : Fin 4096, dK m c t d * normed (rK m c t) d
/-- The gradient of the offset. -/
def offs (c : Dev nD) (d : Fin 2048) : EReal := ∑ t : Fin 4096, dK m c t d

/-- A row block's last point works out the gradient at the norm's input. -/
theorem lnbAt_eq (c : Dev nD) (t : Fin cfg0.N) (ht : t.val % 8 = 7) (r : Fin 512) (d : Fin 2048) :
    lnbAt m c t r d = back m c (row t r) d := by
  unfold lnbAt back
  rw [s_at, show dout m c t r = dK m c (row t r) from funext (dout_eq m c t ht r),
    show (fun k => iblk m c 3 t (ix2 r k)) = normed (rK m c (row t r)) from funext (x_at m c t r),
    show (fun k => iblk m c 5 t (ix2 0 k)) = gK m c from funext (g_at m c t)]

/-- The gradient at the norm's input, as the call writes it. -/
theorem final_dr (c : Dev nD) (t : Fin 4096) (d : Fin 2048) : (dats m 0 c).arrAt 6 cfg0.N (ix2 t d) = back m c t d := by
  have := (dats m 0 c).arrAt_eq_of_covers 6 (fun i : S4096x2048.Idx => back m c (i 0) (i 1))
    (by decide +kernel) fun t hf y => by
      have ht := (flush0_6 t).mp hf
      idx_vars y
      blk_simp
      rw [after0_6]
      refine ((dr_at m c t ht y0 y1).1.trans (lnbAt_eq m c t ht y0 y1)).trans ?_
      have e : (win0_6.blk t).view.emb (ix2 y0 y1) = ix2 (row t y0) y1 := by
        unfold row
        blk_ext [idx t]
      rw [e]
      rfl
  exact congrFun this (ix2 t d)

/-- The same in the half precision. -/
theorem final_drb (c : Dev nD) (t : Fin 4096) (d : Fin 2048) : (dats m 0 c).arrAt 7 cfg0.N (ix2 t d) = back m c t d := by
  have := (dats m 0 c).arrAt_eq_of_covers 7 (fun i : S4096x2048.Idx => back m c (i 0) (i 1))
    (by decide +kernel) fun t hf y => by
      have ht := (flush0_7 t).mp hf
      idx_vars y
      blk_simp
      rw [after0_7]
      refine ((dr_at m c t ht y0 y1).2.trans (lnbAt_eq m c t ht y0 y1)).trans ?_
      have e : (win0_7.blk t).view.emb (ix2 y0 y1) = ix2 (row t y0) y1 := by
        unfold row
        blk_ext [idx t]
      rw [e]
      rfl
  exact congrFun this (ix2 t d)

/-- The gain's gradient, as the call writes it. -/
theorem final_dg (c : Dev nD) (d : Fin 2048) : (dats m 0 c).arrAt 8 cfg0.N (ix2 0 d) = gain m c d := by
  have := (dats m 0 c).arrAt_eq_of_covers 8 (fun i : S1x2048.Idx => gain m c (i 1))
    (by decide +kernel) fun t hf y => by
      have ht := (flush0_8 t).mp hf
      have hN := t.isLt.trans_eq N_0
      idx_vars y
      blk_simp
      rw [after0_8]
      obtain rfl : y0 = 0 := Subsingleton.elim _ _
      have e : (win0_8.blk t).view.emb (ix2 0 y1) = ix2 0 y1 := by
        blk_ext [idx t]
      rw [e]
      refine Cert.Halves.sum_rows N_0 (fun n h => (held m c n h y1).1) (fun t => dK m c t y1 * normed (rK m c t) y1) (fun t h7 h => ?_) (fun t h7 h => ?_)
        (fun n hn h => congrArg Prod.fst (held_back m c n hn y1 7 (by omega) h)) t (by omega)
      · simp only [row_eq, ← dout_eq m c t h7, ← x_at]
        exact (sums_first m c t h7 h y1).1
      · simp only [row_eq, ← dout_eq m c t h7, ← x_at]
        exact (sums_next m c t h7 h y1).1
  exact congrFun this (ix2 0 d)

/-- The offset's gradient, as the call writes it. -/
theorem final_db (c : Dev nD) (d : Fin 2048) : (dats m 0 c).arrAt 9 cfg0.N (ix2 0 d) = offs m c d := by
  have := (dats m 0 c).arrAt_eq_of_covers 9 (fun i : S1x2048.Idx => offs m c (i 1))
    (by decide +kernel) fun t hf y => by
      have ht := (flush0_9 t).mp hf
      have hN := t.isLt.trans_eq N_0
      idx_vars y
      blk_simp
      rw [after0_9]
      obtain rfl : y0 = 0 := Subsingleton.elim _ _
      have e : (win0_9.blk t).view.emb (ix2 0 y1) = ix2 0 y1 := by
        blk_ext [idx t]
      rw [e]
      refine Cert.Halves.sum_rows N_0 (fun n h => (held m c n h y1).2) (fun t => dK m c t y1) (fun t h7 h => ?_) (fun t h7 h => ?_)
        (fun n hn h => congrArg Prod.snd (held_back m c n hn y1 7 (by omega) h)) t (by omega)
      · simp only [row_eq, ← dout_eq m c t h7]
        exact (sums_first m c t h7 h y1).2
      · simp only [row_eq, ← dout_eq m c t h7]
        exact (sums_next m c t h7 h y1).2
  exact congrFun this (ix2 0 d)

end Cert.Kernel9Ideal.OdIn
end
-- ==== Proof.OdInReference.lean ====
module

public import proofs.«01_k».proof.Proof.FfnInReference
public import proofs.«01_k».proof.Proof.Gen.Reference9Ideal.Run
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem Idealize.ShloMosaic.StableHlo

namespace Cert.Reference9Ideal.OdIn
open Cert.Reference9Ideal Cert.Reference9Ideal.Gen Cert.Norm

/-- The column, as the calls order them, of a column of the projection: the calls have 256 of each of the four parts in turn. -/
def perm (k : Fin 8192) : Fin 8192 := ⟨1024 * (k.val % 2048 / 256) + 256 * (k.val / 2048) + k.val % 256, by omega⟩

/-- The column of the projection that a column in the calls' order is. -/
def back (k : Fin 8192) : Fin 8192 := ⟨2048 * (k.val % 1024 / 256) + 256 * (k.val / 1024) + k.val % 256, by omega⟩

/-- The two orders are each other's inverse. -/
def order : Fin 8192 ≃ Fin 8192 where
  toFun := perm
  invFun := back
  left_inv k := Fin.ext (by unfold perm back; dsimp only; omega)
  right_inv k := Fin.ext (by unfold perm back; dsimp only; omega)

/-- A sum over the columns may be taken in either order. -/
theorem sum_perm (F : Fin 8192 → EReal) : ∑ k, F (perm k) = ∑ k, F k := Equiv.sum_comp order F

/-- The gradient's columns in the projection's order. -/
def natural (H : FVec Ideal S4096x8192 .bf16) : FVec Ideal S4096x8192 .bf16 :=
  shapeCast _ (transpose S4096x4x8x256 [0, 2, 1, 3] (shapeCast _ H shapeCasts_S4096x8192_S4096x8x4x256) transposes_S4096x8x4x256_S4096x4x8x256_0_2_1_3) shapeCasts_S4096x4x8x256_S4096x8192

/-- The reordered gradient at an entry. -/
theorem natural_at (H : FVec Ideal S4096x8192 .bf16) (t : Fin 4096) (k : Fin 8192) : (natural H (ix2 t k) : EReal) = H (ix2 t (perm k)) := by
  pointwise [natural]
  exact congrArg (fun k => H (ix2 t k)) (Fin.ext (by unfold perm; dsimp only; omega))

/-- The projection's four parts side by side. -/
def whole (W : FVec Ideal S4x2048x2048 .bf16) : FVec Ideal S2048x8192 .bf16 :=
  concatenate S2048x8192 1 [⟨S2048x2048, (shapeCast _ (extractStridedSlice S1x2048x2048 ![0, 0, 0] W slices_S4x2048x2048_S1x2048x2048_0_0_0) shapeCasts_S1x2048x2048_S2048x2048)⟩, ⟨S2048x2048, (shapeCast _ (extractStridedSlice S1x2048x2048 ![1, 0, 0] W slices_S4x2048x2048_S1x2048x2048_1_0_0) shapeCasts_S1x2048x2048_S2048x2048)⟩, ⟨S2048x2048, (shapeCast _ (extractStridedSlice S1x2048x2048 ![2, 0, 0] W slices_S4x2048x2048_S1x2048x2048_2_0_0) shapeCasts_S1x2048x2048_S2048x2048)⟩, ⟨S2048x2048, (shapeCast _ (extractStridedSlice S1x2048x2048 ![3, 0, 0] W slices_S4x2048x2048_S1x2048x2048_3_0_0) shapeCasts_S1x2048x2048_S2048x2048)⟩] concatenates_S2048x2048_S2048x2048_S2048x2048_S2048x2048_S2048x8192_d1

/-- The parts side by side at an entry. -/
theorem whole_at (W : FVec Ideal S4x2048x2048 .bf16) (d : Fin 2048) (k : Fin 8192) :
    (whole W (ix2 d k) : EReal) = W (ix3 ⟨k.val / 2048, by omega⟩ d ⟨k.val % 2048, by omega⟩) := by
  pointwise [whole]
  split_ifs
  all_goals exact congrArg₂ (fun p q => W (ix3 p d q)) (Fin.ext (by simp; omega)) (Fin.ext (by simp; omega))

/-- The gradient at the norm's output. -/
def out (H : FVec Ideal S4096x8192 .bf16) (W : FVec Ideal S4x2048x2048 .bf16) (A : FVec Ideal S4096x2048 .f32) : FVec Ideal S4096x2048 .f32 :=
  addf (Host.dotGeneral dot_S4096x8192_S2048x8192_S4096x2048_1_1_0_0_n_n none (extf .f32 (natural H) bitsLt_bf16_f32) (extf .f32 (whole W) bitsLt_bf16_f32))
    (mulf (broadcastInDim S4096x2048 ![] bcast_S_S4096x2048 (constant S_ .f32 0x3FB504F3#32)) A)

/-- The gradient at the norm's output, at an entry, the columns in the calls' order. -/
theorem out_at (H : FVec Ideal S4096x8192 .bf16) (W : FVec Ideal S4x2048x2048 .bf16) (A : FVec Ideal S4096x2048 .f32) (t : Fin 4096) (d : Fin 2048) :
    (out H W A (ix2 t d) : EReal) = alpha * A (ix2 t d)
      + ∑ k : Fin 8192, H (ix2 t k) * W (ix3 ⟨k.val % 1024 / 256, by omega⟩ d ⟨256 * (k.val / 1024) + k.val % 256, by omega⟩) := by
  have e : ∀ k : Fin 8192, (natural H (ix2 t k) * whole W (ix2 d k) : EReal)
      = H (ix2 t (perm k)) * W (ix3 ⟨(perm k).val % 1024 / 256, by omega⟩ d ⟨256 * ((perm k).val / 1024) + (perm k).val % 256, by omega⟩) := fun k => by
    rw [natural_at, whole_at]
    refine congrArg (H (ix2 t (perm k)) * ·) ?_
    exact congrArg₂ (fun p q => W (ix3 p d q)) (Fin.ext (by unfold perm; dsimp only; omega)) (Fin.ext (by unfold perm; dsimp only; omega))
  refine Eq.trans ?_ (congrArg (alpha * A (ix2 t d) + ·) ((Finset.sum_congr rfl fun k _ => e k).trans
    (sum_perm fun k => H (ix2 t k) * W (ix3 ⟨k.val % 1024 / 256, by omega⟩ d ⟨256 * (k.val / 1024) + k.val % 256, by omega⟩))))
  rw [add_comm]
  pointwise [out, alpha]

end Cert.Reference9Ideal.OdIn
end
-- ==== Proof.OdInFinite.lean ====
module

public import proofs.«01_k».proof.Proof.Finite
public import proofs.«01_k».proof.Proof.Gen.Pre_all_finite9

@[expose] public section

set_option maxRecDepth 16384

noncomputable section

open Idealize.ShloMosaic Idealize.ShloMosaic.TcCoe Idealize.SL.Sem

namespace Cert.Pre_all_finite9
open Cert.Pre_all_finite9 Cert.Pre_all_finite9.Gen Cert.Ffn
open Cert.Pre_all_finite (num_of_cmp)

variable (x0 : FVec Ideal S4096x8192 .bf16) (x1 : FVec Ideal S4x2048x2048 .bf16) (x2 x3 : FVec Ideal S4096x2048 .f32)
  (x4 x5 : FVec Ideal S2048 .f32)

/-- The gradient at the product holds numbers. -/
theorem num0 (h : (fn (F := Ideal) x0 x1 x2 x3 x4 x5).1 = fun _ => 1#1) (t : Fin 4096) (q : Fin 8192) : IsNum (x0 (ix2 t q)) := by
  have e := congrFun h (ix2 t q)
  unfold fn at e
  pointwise at e
  exact num_of_cmp e

/-- The projection holds numbers. -/
theorem num1 (h : (fn (F := Ideal) x0 x1 x2 x3 x4 x5).2.1 = fun _ => 1#1) (p : Fin 4) (d : Fin 2048) (q : Fin 2048) : IsNum (x1 (ix3 p d q)) := by
  have e := congrFun h (ix3 p d q)
  unfold fn at e
  pointwise at e
  exact num_of_cmp e

/-- The gradient past the layer holds numbers. -/
theorem num2 (h : (fn (F := Ideal) x0 x1 x2 x3 x4 x5).2.2.1 = fun _ => 1#1) (t : Fin 4096) (d : Fin 2048) : IsNum (x2 (ix2 t d)) := by
  have e := congrFun h (ix2 t d)
  unfold fn at e
  pointwise at e
  exact num_of_cmp e

/-- The norm's input holds numbers. -/
theorem num3 (h : (fn (F := Ideal) x0 x1 x2 x3 x4 x5).2.2.2.1 = fun _ => 1#1) (t : Fin 4096) (d : Fin 2048) : IsNum (x3 (ix2 t d)) := by
  have e := congrFun h (ix2 t d)
  unfold fn at e
  pointwise at e
  exact num_of_cmp e

/-- The gain holds numbers. -/
theorem num4 (h : (fn (F := Ideal) x0 x1 x2 x3 x4 x5).2.2.2.2 = fun _ => 1#1) (d : Fin 2048) : IsNum (x4 (ix1 d)) := by
  have e := congrFun h (ix1 d)
  unfold fn at e
  pointwise at e
  exact num_of_cmp e

end Cert.Pre_all_finite9
end
-- ==== Proof.OdIn.lean ====
module

public import proofs.«01_k».proof.Defs
public import proofs.«01_k».proof.Proof.Gen.Kernel9.Frame
public import proofs.«01_k».proof.Proof.Gen.Kernel9Ideal.Value
public import proofs.«01_k».proof.Proof.OdInKernel
public import proofs.«01_k».proof.Proof.OdInReference
public import proofs.«01_k».proof.Proof.OdInFinite
public import Idealize.ShloMosaic.Adequacy
public import Idealize.ShloMosaic.Init

@[expose] public section

set_option maxRecDepth 16384

noncomputable section

namespace Cert.Proof.OdIn

open Idealize.ShloMosaic Idealize.SL.Sem

/-- The frame of the norm's kernel on bit patterns. -/
theorem frame_kernel : Cert.quiescent_Kernel9 := fun m ρ _ => Cert.Kernel9.Gen.frame m ρ

/-- Its frame over the extended reals. -/
theorem frame_ideal : Cert.quiescent_Kernel9Ideal := fun m ρ _ => Cert.Kernel9Ideal.Gen.frame m ρ

/-- The same from finite arguments. -/
theorem frame_ideal_finite : Cert.quiescent_Kernel9Ideal_pre_all_finite9 := fun m ρ _ => Cert.Kernel9Ideal.Gen.frame m ρ

/-- The reference's frame: its run keeps the arguments, and it has no semaphore. -/
theorem frame_reference : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The same from finite arguments. -/
theorem frame_reference_finite : Cert.quiescent_Reference9Ideal_pre_all_finite9 := fun m ρ _ => frame_reference m ρ trivial

variable (m : (ℓ : Loc Cert.Kernel9Ideal.nD Cert.Kernel9Ideal.τ Cert.Kernel9Ideal.sig) → Buf (Elt Ideal) ℓ)

/-- The gradient at the norm's output is the same in both. -/
theorem out_row (c : Dev Cert.Kernel9Ideal.nD) (t : Fin 4096) :
    Cert.Reference2Ideal.FfnIn.row (Cert.Reference9Ideal.OdIn.out (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) t = Cert.Kernel9Ideal.OdIn.dK m c t :=
  funext fun d => Cert.Reference9Ideal.OdIn.out_at _ _ _ t d

/-- From finite arguments it holds numbers. -/
theorem out_num (hpre : Cert.Pre_Kernel9Ideal_all_finite9 m) (c : Dev Cert.Kernel9Ideal.nD) (t : Fin 4096) (d : Fin 2048) :
    Cert.Ffn.IsNum (Cert.Kernel9Ideal.OdIn.dK m c t d) :=
  (Cert.Norm.alpha_num.mul (Cert.Pre_all_finite9.num2 _ _ _ _ _ _ (hpre c).2.2.1 t d)).add
    (.sum _ _ fun _ => (Cert.Pre_all_finite9.num0 _ _ _ _ _ _ (hpre c).1 _ _).mul (Cert.Pre_all_finite9.num1 _ _ _ _ _ _ (hpre c).2.1 _ _ _))

/-- From finite arguments the two forms of the norm's gradient are one. -/
theorem back_eq (hpre : Cert.Pre_Kernel9Ideal_all_finite9 m) (c : Dev Cert.Kernel9Ideal.nD) (t : Fin 4096) (d : Fin 2048) :
    Cert.Norm.chain (Cert.Kernel9Ideal.OdIn.dK m c t) (Cert.Kernel9Ideal.OdIn.rK m c t) (Cert.Kernel9Ideal.OdIn.gK m c) d
      = Cert.Kernel9Ideal.OdIn.back m c t d :=
  Cert.Norm.chain_eq (out_num m hpre c t) (fun k => Cert.Pre_all_finite9.num3 _ _ _ _ _ _ (hpre c).2.2.2.1 t k)
    (fun k => Cert.Pre_all_finite9.num4 _ _ _ _ _ _ (hpre c).2.2.2.2 k) d

/-- The gradients the kernel writes are the reference's. -/
theorem algebraic : Cert.algebraic_Kernel9Ideal_Reference9Ideal_pre_all_finite9 := by
  intro m g m' g' hpre hag
  refine ⟨_, _, _, _, Cert.Kernel9Ideal.Value.run_blocks (F := Ideal) m g, ?_⟩
  refine (θ_run Cert.Reference9Ideal.defs _ _).mono (fun r h c => ?_) (Cert.Reference9Ideal.Value.run (F := Ideal) m' g')
  obtain ⟨h0, h1, h2, h3, hk⟩ := h c
  obtain ⟨a0, a1, a2, a3, a4, a5⟩ := hag c
  have key : ∀ (t : Fin 4096) (d : Fin 2048),
      (Cert.Reference2Ideal.FfnIn.grad (Cert.Reference9Ideal.OdIn.out (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (ix2 t d) : EReal) = Cert.Kernel9Ideal.OdIn.back m c t d := fun t d => by
    rw [a0, a1, a2, a3, a4, Cert.Reference2Ideal.FfnIn.grad_at, out_row m c t]
    exact back_eq m hpre c t d
  refine ⟨h0.trans ?_, h1.trans ?_, h2.trans ?_, h3.trans ?_, hk⟩
  · funext i
    idx_vars i
    exact Eq.trans (α := EReal) (key i0 i1) (Cert.Kernel9Ideal.OdIn.final_dr m c i0 i1).symm
  · funext i
    idx_vars i
    exact Eq.trans (α := EReal) (key i0 i1) (Cert.Kernel9Ideal.OdIn.final_drb m c i0 i1).symm
  · funext i
    idx_vars i
    obtain rfl : i0 = 0 := Subsingleton.elim _ _
    refine (Cert.Reference2Ideal.FfnIn.cols_at (mulf (Cert.Reference2Ideal.FfnIn.nrm (m' ((c.tc : Thread Cert.Reference9Ideal.nD Cert.Reference9Ideal.τ).loc Cert.Reference9Ideal.main_arg3))) (Cert.Reference9Ideal.OdIn.out (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)))) i1).trans
      (Eq.trans (α := EReal) ?_ (Cert.Kernel9Ideal.OdIn.final_dg m c i1).symm)
    rw [a0, a1, a2, a3]
    refine Finset.sum_congr rfl fun t _ => ?_
    rw [← out_row m c t, mul_comm]
    exact congrArg (· * _) (Cert.Reference2Ideal.FfnIn.nrm_at _ t i1)
  · funext i
    idx_vars i
    obtain rfl : i0 = 0 := Subsingleton.elim _ _
    refine (Cert.Reference2Ideal.FfnIn.cols_at (Cert.Reference9Ideal.OdIn.out (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))) i1).trans
      (Eq.trans (α := EReal) ?_ (Cert.Kernel9Ideal.OdIn.final_db m c i1).symm)
    rw [a0, a1, a2]
    exact Finset.sum_congr rfl fun t _ => congrFun (out_row m c t) i1

end Cert.Proof.OdIn

end
-- ==== Proof.OdGrad.lean ====
module

public import proofs.«01_k».proof.Defs
public import proofs.«01_k».proof.Proof.HalfSums
public import proofs.«01_k».proof.Proof.OdInReference
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel10Ideal.OdGrad
open Cert.Kernel10Ideal Cert.Kernel10Ideal.Gen

variable (m : (ℓ : Loc nD τ sig) → Buf (Elt Ideal) ℓ)

/-- The layer's input rows, the product's left side forward. -/
def xK (c : Dev nD) (t : Fin 4096) (k : Fin 2048) : EReal := m ((c : Thread nD τ).loc main_arg0) (ix2 t k)
/-- The gradient at the product's rows, its columns as the call has them: 256 of each of the four parts in turn. -/
def gK (c : Dev nD) (t : Fin 4096) (n : Fin 8192) : EReal := m ((c : Thread nD τ).loc main_arg1) (ix2 t n)

/-- The blocks a point reads and the tile it works for. -/
theorem idx : ∀ t : Fin cfg0.N, win0_0.index t = ![t.val % 2, t.val / 16] ∧ win0_1.index t = ![t.val % 2, t.val / 2 % 8]
    ∧ win0_2.index t = ![0, t.val / 16, t.val / 2 % 8] := (by decide +kernel : ∀ t : Fin grid0.N, _)

/-- A time of the point's half of the rows. -/
def tim (t : Fin cfg0.N) (r : Fin 2048) : Fin 4096 := ⟨2048 * (t.val % 2) + r, by omega⟩
/-- A row of the point's tile. -/
def row (t : Fin cfg0.N) (k : Fin 1024) : Fin 2048 := ⟨1024 * (t.val / 16) + k, by have := t.isLt.trans_eq N_0; omega⟩
/-- A column of the point's tile. -/
def cln (t : Fin cfg0.N) (n : Fin 1024) : Fin 8192 := ⟨1024 * (t.val / 2 % 8) + n, by omega⟩

/-- The two points of a tile have the same rows. -/
theorem row_same (s t : Fin cfg0.N) (h : s.val / 2 = t.val / 2) (k : Fin 1024) : row s k = row t k :=
  Fin.ext (by show 1024 * (s.val / 16) + k.val = 1024 * (t.val / 16) + k.val; omega)

/-- The two points of a tile have the same columns. -/
theorem cln_same (s t : Fin cfg0.N) (h : s.val / 2 = t.val / 2) (n : Fin 1024) : cln s n = cln t n :=
  Fin.ext (by show 1024 * (s.val / 2 % 8) + n.val = 1024 * (t.val / 2 % 8) + n.val; omega)

/-- The first input's block at an entry. -/
theorem x_at (c : Dev nD) (t : Fin cfg0.N) (r : Fin 2048) (k : Fin 1024) : iblk m c 0 t (ix2 r k) = xK m c (tim t r) (row t k) := by
  unfold xK tim row
  blk_ext [iblk, V, idx t]

/-- The second input's block at an entry. -/
theorem g_at (c : Dev nD) (t : Fin cfg0.N) (r : Fin 2048) (n : Fin 1024) : iblk m c 1 t (ix2 r n) = gK m c (tim t r) (cln t n) := by
  unfold gK tim cln
  blk_ext [iblk, V, idx t]

/-- What a point adds to its tile: the product over its half of the times. -/
def term (c : Dev nD) (t : Fin cfg0.N) (i : S1024x1024.Idx) : EReal :=
  ∑ r : Fin 2048, xK m c (tim t r) (row t (i 0)) * gK m c (tim t r) (cln t (i 1))

/-- The first point of a tile starts from zero. -/
theorem reset (c : Dev nD) (t : Fin cfg0.N) (ht : t.val % 2 = 0) (i : S1024x1024.Idx) :
    (outsAt0 m c t.val t.isLt).2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, x_at, g_at]

/-- A later point adds to what the point before left. -/
theorem step (c : Dev nD) (t : Fin cfg0.N) (ht : ¬ t.val % 2 = 0) (i : S1024x1024.Idx) :
    (outsAt0 m c t.val t.isLt).2 i
      = (outsAt0 m c (t.val - 1) (Nat.lt_of_le_of_lt (Nat.sub_le _ _) t.isLt)).2 i + term m c t i := by
  idx_vars i
  rw [outsAt0_B m c t ht (by omega)]
  frame_out
  simp only [read_unread_whole]
  pointwise [k0_pay2, term, x_at, g_at]

/-- The last point of a tile writes the sum out, each part its 256 columns. -/
theorem out_at (c : Dev nD) (t : Fin cfg0.N) (ht : t.val % 2 = 1) (p : Fin 4) (k : Fin 1024) (n : Fin 256) :
    (outsAt0 m c t.val t.isLt).1 (ix3 p k n) = (outsAt0 m c t.val t.isLt).2 (ix2 k ⟨256 * p + n, by omega⟩) := by
  rw [outsAt0_B m c t (by omega) ht]
  frame_open
  (try simp (disch := decide) only [↓ View.readCov_skip, ↓ View.readCov_cons_toLoadRect, ↓ View.readCov_fill])
  frame_out
  try simp only [read_unread_whole]
  canon_tiles x h
  all_goals
    idx_vars x
    (try simp only [ix3_0, ix3_1, ix3_2] at h0 h1 h2)
    obtain rfl : k = x1 := Fin.ext h1
    obtain rfl : n = x2 := Fin.ext h2
    obtain ⟨p, hp⟩ := p
    obtain rfl : p = _ := h0
    pointwise [k0_pay3, k0_pay4, k0_pay5, k0_pay6]

/-- The weight's gradient at an entry. -/
def grad (c : Dev nD) (k : Fin 2048) (n : Fin 8192) : EReal := ∑ t : Fin 4096, xK m c t k * gK m c t n

/-- The column of the product that column `n` of part `d` holds. -/
def part (d : Fin 4) (n : Fin 2048) : Fin 8192 := ⟨1024 * (n.val / 256) + (256 * d + n.val % 256), by omega⟩

/-- The weight's gradient the call writes: at each entry the sum over all times of the two inputs' product. -/
theorem final (c : Dev nD) (d : Fin 4) (k : Fin 2048) (n : Fin 2048) :
    (dats m 0 c).arrAt 2 cfg0.N (ix3 d k n) = grad m c k (part d n) := by
  have := (dats m 0 c).arrAt_eq_of_covers 2 (fun i : S4x2048x2048.Idx => grad m c (i 1) (part (i 0) (i 2)))
    (by decide +kernel) fun t hf y => by
      have ht := (flush0_2 t).mp hf
      idx_vars y
      blk_simp
      rw [after0_2]
      refine (out_at m c t ht y0 y1 y2).trans ?_
      have e : (win0_2.blk t).view.emb (ix3 y0 y1 y2) = ix3 y0 (row t y1) ⟨256 * (t.val / 2 % 8) + y2, by omega⟩ := by
        unfold row
        blk_ext [idx t]
      rw [e]
      have e2 : part y0 ⟨256 * (t.val / 2 % 8) + y2, by omega⟩ = cln t ⟨256 * y0 + y2, by omega⟩ :=
        Fin.ext (by unfold part cln; dsimp only; omega)
      show _ = grad m c (row t y1) (part y0 ⟨256 * (t.val / 2 % 8) + y2, by omega⟩)
      rw [e2]
      exact Cert.Halves.sum_of_halves (fun n h => (outsAt0 m c n h).2) (term m c) (reset m c) (step m c) t ht _
        (fun r => xK m c r (row t y1) * gK m c r (cln t ⟨256 * y0 + y2, by omega⟩)) fun s h => by
          show ∑ r : Fin 2048, xK m c (tim s r) (row s y1) * gK m c (tim s r) (cln s ⟨256 * y0 + y2, by omega⟩) = _
          rw [row_same s t h, cln_same s t h]
          rfl
  exact congrFun this (ix3 d k n)

end Cert.Kernel10Ideal.OdGrad

namespace Cert.Reference10Ideal.OdGrad
open Cert.Reference10Ideal Cert.Reference10Ideal.Gen
open Cert.Reference9Ideal.OdIn (perm natural natural_at)

/-- The reference's gradient of the whole matrix, its four parts side by side. -/
def whole (X : FVec Ideal S4096x2048 .bf16) (G : FVec Ideal S4096x8192 .bf16) : FVec Ideal S2048x8192 .f32 :=
  transpose S2048x8192 [1, 0] (Host.dotGeneral dot_S4096x8192_S4096x2048_S8192x2048_0_0_1_1_n_n none (extf .f32 (natural G) bitsLt_bf16_f32) (extf .f32 X bitsLt_bf16_f32)) transposes_S8192x2048_S2048x8192_1_0

/-- The whole matrix' gradient at an entry. -/
theorem whole_at (X : FVec Ideal S4096x2048 .bf16) (G : FVec Ideal S4096x8192 .bf16) (k : Fin 2048) (n : Fin 8192) :
    (whole X G (ix2 k n) : EReal) = ∑ t : Fin 4096, X (ix2 t k) * G (ix2 t (perm n)) := by
  simp only [← natural_at]
  pointwise [whole, mul_comm]

/-- The reference's gradient, part by part. -/
def parts (X : FVec Ideal S4096x2048 .bf16) (G : FVec Ideal S4096x8192 .bf16) : FVec Ideal S4x2048x2048 .bf16 :=
  truncf .bf16 (concatenate S4x2048x2048 0 [⟨S1x2048x2048, broadcastInDim S1x2048x2048 ![1, 2] bcast_S2048x2048_S1x2048x2048_1_2 (extractStridedSlice S2048x2048 ![0, 0] (whole X G) slices_S2048x8192_S2048x2048_0_0)⟩, ⟨S1x2048x2048, broadcastInDim S1x2048x2048 ![1, 2] bcast_S2048x2048_S1x2048x2048_1_2 (extractStridedSlice S2048x2048 ![0, 2048] (whole X G) slices_S2048x8192_S2048x2048_0_2048)⟩, ⟨S1x2048x2048, broadcastInDim S1x2048x2048 ![1, 2] bcast_S2048x2048_S1x2048x2048_1_2 (extractStridedSlice S2048x2048 ![0, 4096] (whole X G) slices_S2048x8192_S2048x2048_0_4096)⟩, ⟨S1x2048x2048, broadcastInDim S1x2048x2048 ![1, 2] bcast_S2048x2048_S1x2048x2048_1_2 (extractStridedSlice S2048x2048 ![0, 6144] (whole X G) slices_S2048x8192_S2048x2048_0_6144)⟩] concatenates_S1x2048x2048_S1x2048x2048_S1x2048x2048_S1x2048x2048_S4x2048x2048_d0) bitsLt_bf16_f32

/-- The reference's gradient at an entry: part `d` holds 2048 columns of the whole from `2048 d`. -/
theorem value (X : FVec Ideal S4096x2048 .bf16) (G : FVec Ideal S4096x8192 .bf16) (d : Fin 4) (k : Fin 2048) (n : Fin 2048) :
    (parts X G (ix3 d k n) : EReal) = ∑ t : Fin 4096, X (ix2 t k) * G (ix2 t (perm ⟨2048 * d + n, by omega⟩)) := by
  rw [← whole_at]
  match d with
  | 0 => pointwise [parts]
  | 1 => pointwise [parts]
  | 2 => pointwise [parts]
  | 3 => pointwise [parts]

end Cert.Reference10Ideal.OdGrad

namespace Cert.Proof.OdGrad

/-- The kernel's frame on bit patterns. -/
theorem frame_kernel : Cert.quiescent_Kernel10 := fun m ρ _ => Cert.Kernel10.Gen.frame m ρ

/-- The kernel's frame over the extended reals. -/
theorem frame_ideal : Cert.quiescent_Kernel10Ideal := fun m ρ _ => Cert.Kernel10Ideal.Gen.frame m ρ

/-- The reference's frame: its run keeps the arguments, and it has no semaphore. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The gradient the kernel writes is the reference's. -/
theorem algebraic : Cert.algebraic_Kernel10Ideal_Reference10Ideal := by
  intro m g m' g' _ hag
  refine ⟨_, Cert.Kernel10Ideal.Value.run_blocks (F := Ideal) m g, ?_⟩
  refine (θ_run Cert.Reference10Ideal.defs _ _).mono (fun r h c => ?_) (Cert.Reference10Ideal.Value.run (F := Ideal) m' g')
  obtain ⟨h0, hk⟩ := h c
  refine ⟨h0.trans ?_, hk⟩
  funext i
  idx_vars i
  refine (Cert.Reference10Ideal.OdGrad.value _ _ i0 i1 i2).trans (Eq.trans (α := EReal) ?_ (Cert.Kernel10Ideal.OdGrad.final m c i0 i1 i2).symm)
  have e : Cert.Reference9Ideal.OdIn.perm ⟨2048 * i0 + i2, by omega⟩ = Cert.Kernel10Ideal.OdGrad.part i0 i2 :=
    Fin.ext (by unfold Cert.Reference9Ideal.OdIn.perm Cert.Kernel10Ideal.OdGrad.part; dsimp only; omega)
  rw [(hag c).1, (hag c).2, e]
  rfl

end Cert.Proof.OdGrad
end
-- ==== Proof.ConvUpKernel.lean ====
module

public import proofs.«01_k».proof.Defs
public import proofs.«01_k».proof.Proof.Gen.Kernel11Ideal.Value
public import proofs.«01_k».proof.Proof.BlockTerms
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.ConvUp
open Cert.Kernel11Ideal Cert.Kernel11Ideal.Gen

variable (m : (ℓ : Loc nD τ sig) → Buf (Elt Ideal) ℓ)

/-- The rows that come in. -/
def xK (c : Dev nD) (t : Fin 4096) (k : Fin 2048) : EReal := m ((c : Thread nD τ).loc main_arg0) (ix2 t k)
/-- The up projection, its four parts side by side. -/
def wK (c : Dev nD) (k : Fin 2048) (n : Fin 11264) : EReal :=
  m ((c : Thread nD τ).loc main_arg1) (ix3 ⟨n.val / 2816, by omega⟩ k ⟨n.val % 2816, by omega⟩)
/-- The convolution's taps. -/
def tapK (c : Dev nD) (j : Fin 3) (n : Fin 11264) : EReal := m ((c : Thread nD τ).loc main_arg2) (ix3 1 j n)
/-- The convolution's bias. -/
def biasK (c : Dev nD) (n : Fin 11264) : EReal := m ((c : Thread nD τ).loc main_arg3) (ix2 1 n)

/-- The blocks a point reads and the tile it works for. -/
theorem idx : ∀ t : Fin cfg0.N, win0_0.index t = ![t.val % 4, 0] ∧ win0_1.index t = ![0, t.val / 4 / 11, 0, t.val / 4 % 11]
    ∧ win0_2.index t = ![0, 2 + t.val / 4 / 11, 0, t.val / 4 % 11]
    ∧ win0_3.index t = ![1, 0, t.val / 4] ∧ win0_4.index t = ![1, 0, 22 + t.val / 4]
    ∧ win0_5.index t = ![1, 0, t.val / 4] ∧ win0_6.index t = ![1, 0, 22 + t.val / 4]
    ∧ win0_7.index t = ![0, t.val % 4, t.val / 4] ∧ win0_8.index t = ![0, t.val % 4, t.val / 4] ∧ win0_9.index t = ![t.val % 4, t.val / 4] :=
  (by decide +kernel : ∀ t : Fin grid0.N, _)

/-- A row of the point's tile. -/
def row (t : Fin cfg0.N) (r : Fin 1024) : Fin 4096 := ⟨1024 * (t.val % 4) + r, by omega⟩
/-- A column of the point's tile in a half. -/
def cln (t : Fin cfg0.N) (p : Fin 2) (q : Fin 256) : Fin 11264 := ⟨5632 * p + (256 * (t.val / 4) + q), by have := t.isLt.trans_eq N_0; omega⟩

/-- The rows' block at an entry. -/
theorem x_at (c : Dev nD) (t : Fin cfg0.N) (r : Fin 1024) (k : Fin 2048) : iblk m c 0 t (ix2 r k) = xK m c (row t r) k := by
  unfold xK row
  blk_ext [iblk, V, idx t]

/-- The up projection as the call reads it, at an entry. -/
theorem w_host (c : Dev nD) (p : Fin 4) (k : Fin 2048) (n : Fin 2816) :
    (StableHlo.after (hostOps0 (F := Ideal)) (fun b => m (c, b)) (Proc.tc.devRef main_v0) (ix4 0 p k n) : EReal)
      = m ((c : Thread nD τ).loc main_arg1) (ix3 p k n) := by
  entry_read
  pointwise

/-- The bias as the call reads it, at an entry. -/
theorem b_host (c : Dev nD) (l : Fin 2) (n : Fin 11264) :
    (StableHlo.after (hostOps0 (F := Ideal)) (fun b => m (c, b)) (Proc.tc.devRef main_v1) (ix3 l 0 n) : EReal)
      = m ((c : Thread nD τ).loc main_arg3) (ix2 l n) := by
  entry_read
  pointwise

/-- The up projection's block for the first half at an entry. -/
theorem wa_at (c : Dev nD) (t : Fin cfg0.N) (k : Fin 2048) (q : Fin 256) : iblk m c 1 t (ix4 0 0 k q) = wK m c k (cln t 0 q) := by
  have hN := t.isLt.trans_eq N_0
  have e1 : (cln t 0 q).val / 2816 = t.val / 4 / 11 := by show (5632 * 0 + (256 * (t.val / 4) + q.val)) / 2816 = _; omega
  have e2 : (cln t 0 q).val % 2816 = 256 * (t.val / 4 % 11) + q := by show (5632 * 0 + (256 * (t.val / 4) + q.val)) % 2816 = _; omega
  unfold wK
  refine Eq.trans ?_ (w_host m c _ k _)
  simp only [e1, e2]
  blk_ext [iblk, V, idx t]

/-- The up projection's block for the second half at an entry. -/
theorem wv_at (c : Dev nD) (t : Fin cfg0.N) (k : Fin 2048) (q : Fin 256) : iblk m c 2 t (ix4 0 0 k q) = wK m c k (cln t 1 q) := by
  have hN := t.isLt.trans_eq N_0
  have e1 : (cln t 1 q).val / 2816 = 2 + t.val / 4 / 11 := by show (5632 * 1 + (256 * (t.val / 4) + q.val)) / 2816 = _; omega
  have e2 : (cln t 1 q).val % 2816 = 256 * (t.val / 4 % 11) + q := by show (5632 * 1 + (256 * (t.val / 4) + q.val)) % 2816 = _; omega
  unfold wK
  refine Eq.trans ?_ (w_host m c _ k _)
  simp only [e1, e2]
  blk_ext [iblk, V, idx t]

/-- The taps' block for the first half at an entry. -/
theorem ta_at (c : Dev nD) (t : Fin cfg0.N) (j : Fin 3) (q : Fin 256) : iblk m c 3 t (ix3 0 j q) = tapK m c j (cln t 0 q) := by
  unfold tapK cln
  blk_ext [iblk, V, idx t]

/-- The taps' block for the second half at an entry. -/
theorem tv_at (c : Dev nD) (t : Fin cfg0.N) (j : Fin 3) (q : Fin 256) : iblk m c 4 t (ix3 0 j q) = tapK m c j (cln t 1 q) := by
  unfold tapK cln
  blk_ext [iblk, V, idx t]

/-- The bias' block for the first half at an entry. -/
theorem ba_at (c : Dev nD) (t : Fin cfg0.N) (q : Fin 256) : iblk m c 5 t (ix3 0 0 q) = biasK m c (cln t 0 q) := by
  unfold biasK cln
  refine Eq.trans ?_ (b_host m c 1 _)
  blk_ext [iblk, V, idx t]

/-- The bias' block for the second half at an entry. -/
theorem bv_at (c : Dev nD) (t : Fin cfg0.N) (q : Fin 256) : iblk m c 6 t (ix3 0 0 q) = biasK m c (cln t 1 q) := by
  unfold biasK cln
  refine Eq.trans ?_ (b_host m c 1 _)
  blk_ext [iblk, V, idx t]

/-- The product at an entry. -/
def prod (c : Dev nD) (t : Fin 4096) (n : Fin 11264) : EReal := ∑ k : Fin 2048, xK m c t k * wK m c k n

/-- The product some rows back, zero before the first row. -/
def lag (c : Dev nD) (t : Fin 4096) (n : Fin 11264) (s : ℕ) : EReal := if h : s ≤ t.val then prod m c ⟨t.val - s, by omega⟩ n else 0

/-- The convolution of the product. -/
def conv (c : Dev nD) (t : Fin 4096) (n : Fin 11264) : EReal :=
  biasK m c n + tapK m c 2 n * prod m c t n + tapK m c 1 n * lag m c t n 1 + tapK m c 0 n * lag m c t n 2

/-- The gated product. -/
def gate (c : Dev nD) (t : Fin 4096) (n : Fin 5632) : EReal :=
  conv m c t ⟨n, by omega⟩ * FloatOps.logistic (F := Ideal) (φ := .f32) (conv m c t ⟨n, by omega⟩) * conv m c t ⟨5632 + n, by omega⟩

/-- The last rows' products, which a point leaves for the next. -/
theorem kept (c : Dev nD) (t : Fin cfg0.N) (p : Fin 2) (j : Fin 8) (q : Fin 256) :
    (outsAt0 m c t.val t.isLt).2.2.2 (ix3 p j q) = prod m c (row t ⟨1016 + j, by omega⟩) (cln t p q) := by
  by_cases ht : t.val % 4 = 0
  on_goal 1 => rw [outsAt0_A m c t ht]
  on_goal 2 => rw [outsAt0_B m c t ht]
  all_goals
    frame_open
    (try simp (disch := decide) only [↓ View.readCov_skip, ↓ View.readCov_cons_toLoadRect, ↓ View.readCov_fill])
    frame_out
    try simp only [read_unread_whole]
  on_goal 1 =>
    refine (Cert.KernelIdeal.Ffn.canon_append_of_cover [_] [_, _] (ix3 p j q) ?_).trans ?_
    · exact View.cover_of_tiledL (s := S2x8x256) _ S1x8x256.size (by sl_kernel_rfl) _
  all_goals
    canon_tiles x h
    all_goals
      idx_vars x
      (try simp only [ix3_0, ix3_1, ix3_2] at h0 h1 h2)
      obtain rfl : j = x1 := Fin.ext h1
      obtain rfl : q = x2 := Fin.ext h2
      obtain ⟨p, hp⟩ := p
      obtain rfl : p = _ := h0
      pointwise [k0_pay16, k0_pay17, k0_pay7, k0_pay8, prod, x_at, wa_at, wv_at]

/-- The product's output block at an entry. -/
theorem h_at (c : Dev nD) (t : Fin cfg0.N) (p : Fin 2) (r : Fin 1024) (q : Fin 256) :
    (outsAt0 m c t.val t.isLt).1 (ix3 p r q) = prod m c (row t r) (cln t p q) := by
  by_cases ht : t.val % 4 = 0
  on_goal 1 => rw [outsAt0_A m c t ht]
  on_goal 2 => rw [outsAt0_B m c t ht]
  all_goals
    frame_open
    (try simp (disch := decide) only [↓ View.readCov_skip, ↓ View.readCov_cons_toLoadRect, ↓ View.readCov_fill])
    frame_out
    try simp only [read_unread_whole]
    canon_tiles x h
    all_goals
      idx_vars x
      (try simp only [ix3_0, ix3_1, ix3_2] at h0 h1 h2)
      obtain rfl : r = x1 := Fin.ext h1
      obtain rfl : q = x2 := Fin.ext h2
      obtain ⟨p, hp⟩ := p
      obtain rfl : p = _ := h0
      pointwise [k0_pay1, k0_pay2, k0_pay18, k0_pay7, k0_pay8, prod, x_at, wa_at, wv_at]

/-- A product some rows back, at the first rows of the whole product. -/
theorem lag_first (c : Dev nD) (t : Fin cfg0.N) (ht : t.val % 4 = 0) (r : Fin 1024) (n : Fin 11264) (d s : ℕ) (hs : d + s = 8) (h0 : 0 < s) :
    (if h : r.val + d < 8 then (0 : EReal) else ∑ x : Fin 2048, xK m c (row t ⟨r.val + d - 8, by omega⟩) x * wK m c x n) = lag m c (row t r) n s := by
  have e : (row t r).val = r.val := by show 1024 * (t.val % 4) + r.val = _; omega
  unfold lag
  split_ifs with h h' h'
  · omega
  · rfl
  · exact congrArg (fun a => prod m c a n) (Fin.ext (by simp only [row]; omega))
  · omega

/-- A product some rows back, where the rows before were left by the point before. -/
theorem lag_next (c : Dev nD) (t : Fin cfg0.N) (ht : ¬ t.val % 4 = 0) (r : Fin 1024) (p : Fin 2) (q : Fin 256) (d s : ℕ) (hs : d + s = 8) (h0 : 0 < s) :
    (if h : r.val + d < 8 then ((outsAt0 m c (t.val - 1) (Nat.lt_of_le_of_lt (Nat.sub_le _ _) t.isLt)).2.2.2 (ix3 p ⟨r.val + d, h⟩ q) : EReal)
        else ∑ x : Fin 2048, xK m c (row t ⟨r.val + d - 8, by omega⟩) x * wK m c x (cln t p q))
      = lag m c (row t r) (cln t p q) s := by
  have e : (row t r).val = 1024 * (t.val % 4) + r.val := rfl
  unfold lag
  split_ifs with h h' h'
  · refine (kept m c ⟨t.val - 1, Nat.lt_of_le_of_lt (Nat.sub_le _ _) t.isLt⟩ p _ q).trans ?_
    exact congrArg₂ (fun a b => prod m c a b) (Fin.ext (by simp only [row]; omega)) (Fin.ext (by simp only [cln]; omega))
  · omega
  · exact congrArg (fun a => prod m c a (cln t p q)) (Fin.ext (by simp only [row]; omega))
  · omega

set_option maxHeartbeats 4000000 in
/-- The convolution's output block at an entry. -/
theorem hc_at (c : Dev nD) (t : Fin cfg0.N) (p : Fin 2) (r : Fin 1024) (q : Fin 256) :
    (outsAt0 m c t.val t.isLt).2.1 (ix3 p r q) = conv m c (row t r) (cln t p q) := by
  have e1 : ((8 + r : ℕ) + 1032 - 1) % 1032 = r + 7 := by omega
  have e2 : ((8 + r : ℕ) + 1032 - 2) % 1032 = r + 6 := by omega
  by_cases ht : t.val % 4 = 0
  on_goal 1 => rw [outsAt0_A m c t ht]
  on_goal 2 => rw [outsAt0_B m c t ht]
  all_goals
    frame_open
    (try simp (disch := decide) only [↓ View.readCov_skip, ↓ View.readCov_cons_toLoadRect, ↓ View.readCov_fill])
    frame_out
    try simp only [read_unread_whole]
    canon_tiles x h
    all_goals
      idx_vars x
      (try simp only [ix3_0, ix3_1, ix3_2] at h0 h1 h2)
      obtain rfl : r = x1 := Fin.ext h1
      obtain rfl : q = x2 := Fin.ext h2
      obtain ⟨p, hp⟩ := p
      obtain rfl : p = _ := h0
      pointwise [k0_pay3, k0_pay4, k0_pay6, k0_pay7, k0_pay8, k0_pay9, k0_pay10, k0_pay11, k0_pay12, k0_pay13, k0_pay14, k0_pay15, prod, x_at, wa_at, wv_at, ta_at, tv_at, ba_at, bv_at, e1, e2]
  all_goals first
    | exact congrArg₂ (fun a b => _ + tapK m c 1 _ * a + tapK m c 0 _ * b) (lag_first m c t ht r _ 7 1 rfl (by decide)) (lag_first m c t ht r _ 6 2 rfl (by decide))
    | exact congrArg₂ (fun a b => _ + tapK m c 1 _ * a + tapK m c 0 _ * b) (lag_next m c t ht r _ q 7 1 rfl (by decide)) (lag_next m c t ht r _ q 6 2 rfl (by decide))

/-- The convolution as a point of the first row block reads it. -/
theorem conv_first (c : Dev nD) (t : Fin cfg0.N) (ht : t.val % 4 = 0) (r : Fin 1024) (n : Fin 11264) :
    biasK m c n + tapK m c 2 n * ∑ x : Fin 2048, xK m c (row t r) x * wK m c x n
        + tapK m c 1 n * (if h : r.val + 7 < 8 then (0 : EReal) else ∑ x : Fin 2048, xK m c (row t ⟨r.val + 7 - 8, by omega⟩) x * wK m c x n)
        + tapK m c 0 n * (if h : r.val + 6 < 8 then (0 : EReal) else ∑ x : Fin 2048, xK m c (row t ⟨r.val + 6 - 8, by omega⟩) x * wK m c x n)
      = conv m c (row t r) n :=
  congrArg₂ (fun a b => _ + tapK m c 1 _ * a + tapK m c 0 _ * b) (lag_first m c t ht r _ 7 1 rfl (by decide)) (lag_first m c t ht r _ 6 2 rfl (by decide))

/-- The convolution as a point of a later row block reads it. -/
theorem conv_next (c : Dev nD) (t : Fin cfg0.N) (ht : ¬ t.val % 4 = 0) (r : Fin 1024) (p : Fin 2) (q : Fin 256) :
    biasK m c (cln t p q) + tapK m c 2 (cln t p q) * ∑ x : Fin 2048, xK m c (row t r) x * wK m c x (cln t p q)
        + tapK m c 1 (cln t p q) * (if h : r.val + 7 < 8 then ((outsAt0 m c (t.val - 1) (Nat.lt_of_le_of_lt (Nat.sub_le _ _) t.isLt)).2.2.2 (ix3 p ⟨r.val + 7, h⟩ q) : EReal)
            else ∑ x : Fin 2048, xK m c (row t ⟨r.val + 7 - 8, by omega⟩) x * wK m c x (cln t p q))
        + tapK m c 0 (cln t p q) * (if h : r.val + 6 < 8 then ((outsAt0 m c (t.val - 1) (Nat.lt_of_le_of_lt (Nat.sub_le _ _) t.isLt)).2.2.2 (ix3 p ⟨r.val + 6, h⟩ q) : EReal)
            else ∑ x : Fin 2048, xK m c (row t ⟨r.val + 6 - 8, by omega⟩) x * wK m c x (cln t p q))
      = conv m c (row t r) (cln t p q) :=
  congrArg₂ (fun a b => _ + tapK m c 1 _ * a + tapK m c 0 _ * b) (lag_next m c t ht r p q 7 1 rfl (by decide)) (lag_next m c t ht r p q 6 2 rfl (by decide))

set_option maxHeartbeats 8000000 in
/-- The gated product's output block at an entry. -/
theorem f_at (c : Dev nD) (t : Fin cfg0.N) (r : Fin 1024) (q : Fin 256) :
    (outsAt0 m c t.val t.isLt).2.2.1 (ix2 r q)
      = conv m c (row t r) (cln t 0 q) * FloatOps.logistic (F := Ideal) (φ := .f32) (conv m c (row t r) (cln t 0 q)) * conv m c (row t r) (cln t 1 q) := by
  have e1 : ((8 + r : ℕ) + 1032 - 1) % 1032 = r + 7 := by omega
  have e2 : ((8 + r : ℕ) + 1032 - 2) % 1032 = r + 6 := by omega
  by_cases ht : t.val % 4 = 0
  on_goal 1 => rw [outsAt0_A m c t ht, ← conv_first m c t ht r (cln t 0 q), ← conv_first m c t ht r (cln t 1 q)]
  on_goal 2 => rw [outsAt0_B m c t ht, ← conv_next m c t ht r 0 q, ← conv_next m c t ht r 1 q]
  all_goals
    frame_open
    (try simp (disch := decide) only [↓ View.readCov_skip, ↓ View.readCov_cons_toLoadRect, ↓ View.readCov_fill])
    frame_out
    try simp only [read_unread_whole]
    pointwise [k0_pay5, k0_pay6, k0_pay7, k0_pay8, k0_pay9, k0_pay10, k0_pay11, k0_pay12, k0_pay13, k0_pay14, k0_pay15, x_at, wa_at, wv_at, ta_at, tv_at, ba_at, bv_at, e1, e2]

/-- A column of the two halves side by side. -/
def half (p : Fin 2) (n : Fin 5632) : Fin 11264 := ⟨5632 * p + n, by omega⟩

/-- The product the call writes. -/
theorem final_h (c : Dev nD) (p : Fin 2) (t : Fin 4096) (n : Fin 5632) : (dats m 0 c).arrAt 7 cfg0.N (ix3 p t n) = prod m c t (half p n) := by
  have := (dats m 0 c).arrAt_eq_of_covers 7 (fun i : S2x4096x5632.Idx => prod m c (i 1) (half (i 0) (i 2)))
    (by decide +kernel) fun t hf y => by
      have hN := t.isLt.trans_eq N_0
      idx_vars y
      blk_simp
      rw [after0_7]
      refine (h_at m c t y0 y1 y2).trans ?_
      have e : (win0_7.blk t).view.emb (ix3 y0 y1 y2) = ix3 y0 (row t y1) ⟨256 * (t.val / 4) + y2, by omega⟩ := by
        unfold row
        blk_ext [idx t]
      rw [e]
      rfl
  exact congrFun this (ix3 p t n)

/-- The convolution the call writes. -/
theorem final_hc (c : Dev nD) (p : Fin 2) (t : Fin 4096) (n : Fin 5632) : (dats m 0 c).arrAt 8 cfg0.N (ix3 p t n) = conv m c t (half p n) := by
  have := (dats m 0 c).arrAt_eq_of_covers 8 (fun i : S2x4096x5632.Idx => conv m c (i 1) (half (i 0) (i 2)))
    (by decide +kernel) fun t hf y => by
      have hN := t.isLt.trans_eq N_0
      idx_vars y
      blk_simp
      rw [after0_8]
      refine (hc_at m c t y0 y1 y2).trans ?_
      have e : (win0_8.blk t).view.emb (ix3 y0 y1 y2) = ix3 y0 (row t y1) ⟨256 * (t.val / 4) + y2, by omega⟩ := by
        unfold row
        blk_ext [idx t]
      rw [e]
      rfl
  exact congrFun this (ix3 p t n)

/-- The gated product the call writes. -/
theorem final_f (c : Dev nD) (t : Fin 4096) (n : Fin 5632) : (dats m 0 c).arrAt 9 cfg0.N (ix2 t n) = gate m c t n := by
  have := (dats m 0 c).arrAt_eq_of_covers 9 (fun i : S4096x5632.Idx => gate m c (i 0) (i 1))
    (by decide +kernel) fun t hf y => by
      have hN := t.isLt.trans_eq N_0
      idx_vars y
      blk_simp
      rw [after0_9]
      refine (f_at m c t y0 y1).trans ?_
      have e : (win0_9.blk t).view.emb (ix2 y0 y1) = ix2 (row t y0) ⟨256 * (t.val / 4) + y1, by omega⟩ := by
        unfold row
        blk_ext [idx t]
      rw [e]
      have e0 : cln t 0 y1 = ⟨256 * (t.val / 4) + y1, by omega⟩ := Fin.ext (by simp [cln])
      rw [e0]
      rfl
  exact congrFun this (ix2 t n)

end Cert.Kernel11Ideal.ConvUp
end
-- ==== Proof.ConvUp.lean ====
module

public import proofs.«01_k».proof.Proof.ConvUpKernel
public import proofs.«01_k».proof.Proof.FfnInReference
public import proofs.«01_k».proof.Proof.Gen.Kernel11.Frame
public import proofs.«01_k».proof.Proof.Gen.Reference11Ideal.Run
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem Idealize.ShloMosaic.StableHlo

namespace Cert.Reference11Ideal.ConvUp
open Cert.Reference11Ideal Cert.Reference11Ideal.Gen
open Cert.Reference2Ideal.FfnIn (whole whole_at)

/-- The rows times the up projection. -/
def prod (X : FVec Ideal S4096x2048 .bf16) (W : FVec Ideal S4x2048x2816 .bf16) : FVec Ideal S4096x11264 .f32 :=
  Host.dotGeneral dot_S4096x2048_S2048x11264_S4096x11264_1_0_0_1_n_n none (extf .f32 X bitsLt_bf16_f32) (extf .f32 (whole W) bitsLt_bf16_f32)

/-- The product at an entry. -/
theorem prod_at (X : FVec Ideal S4096x2048 .bf16) (W : FVec Ideal S4x2048x2816 .bf16) (t : Fin 4096) (n : Fin 11264) :
    (prod X W (ix2 t n) : EReal) = ∑ k : Fin 2048, X (ix2 t k) * W (ix3 ⟨n.val / 2816, by omega⟩ k ⟨n.val % 2816, by omega⟩) := by
  simp only [← whole_at]
  pointwise [prod]

/-- The one sequence's rows under their batch axis. -/
def line (H : FVec Ideal S4096x11264 .f32) : FVec Ideal S1x4096x11264 .f32 :=
  broadcastInDim S1x4096x11264 ![1, 2] bcast_S4096x11264_S1x4096x11264_1_2 H

/-- One tap, the same at every row. -/
def tap2 (T : FVec Ideal S2x3x11264 .f32) : FVec Ideal S1x4096x11264 .f32 :=
  broadcastInDim S1x4096x11264 ![0, 1, 2] bcast_S1x1x11264_S1x4096x11264_0_1_2 (broadcastInDim S1x1x11264 ![2] bcast_S11264_S1x1x11264_2 (shapeCast _ (extractStridedSlice S1x11264 ![2, 0] (shapeCast _ (extractStridedSlice S1x3x11264 ![1, 0, 0] T slices_S2x3x11264_S1x3x11264_1_0_0) shapeCasts_S1x3x11264_S3x11264) slices_S3x11264_S1x11264_2_0) shapeCasts_S1x11264_S11264))

/-- The tap one row back. -/
def tap1 (T : FVec Ideal S2x3x11264 .f32) : FVec Ideal S1x4096x11264 .f32 :=
  broadcastInDim S1x4096x11264 ![0, 1, 2] bcast_S1x1x11264_S1x4096x11264_0_1_2 (broadcastInDim S1x1x11264 ![2] bcast_S11264_S1x1x11264_2 (shapeCast _ (extractStridedSlice S1x11264 ![1, 0] (shapeCast _ (extractStridedSlice S1x3x11264 ![1, 0, 0] T slices_S2x3x11264_S1x3x11264_1_0_0) shapeCasts_S1x3x11264_S3x11264) slices_S3x11264_S1x11264_1_0) shapeCasts_S1x11264_S11264))

/-- The tap two rows back. -/
def tap0 (T : FVec Ideal S2x3x11264 .f32) : FVec Ideal S1x4096x11264 .f32 :=
  broadcastInDim S1x4096x11264 ![0, 1, 2] bcast_S1x1x11264_S1x4096x11264_0_1_2 (broadcastInDim S1x1x11264 ![2] bcast_S11264_S1x1x11264_2 (shapeCast _ (extractStridedSlice S1x11264 ![0, 0] (shapeCast _ (extractStridedSlice S1x3x11264 ![1, 0, 0] T slices_S2x3x11264_S1x3x11264_1_0_0) shapeCasts_S1x3x11264_S3x11264) slices_S3x11264_S1x11264_0_0) shapeCasts_S1x11264_S11264))

/-- The bias, the same at every row. -/
def bias (B : FVec Ideal S2x11264 .f32) : FVec Ideal S1x4096x11264 .f32 :=
  broadcastInDim S1x4096x11264 ![0, 1, 2] bcast_S1x1x11264_S1x4096x11264_0_1_2 (broadcastInDim S1x1x11264 ![2] bcast_S11264_S1x1x11264_2 (shapeCast _ (extractStridedSlice S1x11264 ![1, 0] B slices_S2x11264_S1x11264_1_0) shapeCasts_S1x11264_S11264))

/-- The rows two back. -/
def back2 (L : FVec Ideal S1x4096x11264 .f32) : FVec Ideal S1x4096x11264 .f32 :=
  concatenate S1x4096x11264 1 [⟨S1x2x11264, (broadcastInDim S1x2x11264 ![] bcast_S_S1x2x11264 (constant (F := Ideal) S_ .f32 0x00000000#32))⟩, ⟨S1x4094x11264, (extractStridedSlice S1x4094x11264 ![0, 0, 0] L slices_S1x4096x11264_S1x4094x11264_0_0_0)⟩] concatenates_S1x2x11264_S1x4094x11264_S1x4096x11264_d1

/-- The rows one back. -/
def back1 (L : FVec Ideal S1x4096x11264 .f32) : FVec Ideal S1x4096x11264 .f32 :=
  concatenate S1x4096x11264 1 [⟨S1x1x11264, (broadcastInDim S1x1x11264 ![] bcast_S_S1x1x11264 (constant (F := Ideal) S_ .f32 0x00000000#32))⟩, ⟨S1x4095x11264, (extractStridedSlice S1x4095x11264 ![0, 0, 0] L slices_S1x4096x11264_S1x4095x11264_0_0_0)⟩] concatenates_S1x1x11264_S1x4095x11264_S1x4096x11264_d1

/-- The convolution along the rows, taps and bias of the second layer. -/
def conv (H : FVec Ideal S4096x11264 .f32) (T : FVec Ideal S2x3x11264 .f32) (B : FVec Ideal S2x11264 .f32) : FVec Ideal S4096x11264 .f32 :=
  shapeCast _ (addf (addf (addf (bias B) (mulf (tap2 T) (line H))) (mulf (tap0 T) (back2 (line H)))) (mulf (tap1 T) (back1 (line H)))) shapeCasts_S1x4096x11264_S4096x11264

/-- The rows some way back at an entry, zero before the first. -/
def lag (H : FVec Ideal S4096x11264 .f32) (t : Fin 4096) (n : Fin 11264) (s : ℕ) : EReal :=
  if h : s ≤ t.val then H (ix2 ⟨t.val - s, by omega⟩ n) else 0

/-- The rows two back at an entry. -/
theorem back2_at (H : FVec Ideal S4096x11264 .f32) (t : Fin 4096) (n : Fin 11264) : (back2 (line H) (ix3 0 t n) : EReal) = lag H t n 2 := by
  unfold lag
  pointwise [back2, line]
  by_cases h : t.val < 2
  · have h' : ¬ 2 ≤ t.val := by omega
    simp [h, h']
  · have h' : 2 ≤ t.val := by omega
    simp [h, h']

/-- The rows one back at an entry. -/
theorem back1_at (H : FVec Ideal S4096x11264 .f32) (t : Fin 4096) (n : Fin 11264) : (back1 (line H) (ix3 0 t n) : EReal) = lag H t n 1 := by
  unfold lag
  pointwise [back1, line]
  by_cases h : t.val < 1
  · have h' : ¬ 1 ≤ t.val := by omega
    simp [h, h']
  · have h' : 1 ≤ t.val := by omega
    simp [h, h']

/-- The convolution at an entry. -/
theorem conv_at (H : FVec Ideal S4096x11264 .f32) (T : FVec Ideal S2x3x11264 .f32) (B : FVec Ideal S2x11264 .f32) (t : Fin 4096) (n : Fin 11264) :
    (conv H T B (ix2 t n) : EReal)
      = B (ix2 1 n) + T (ix3 1 2 n) * H (ix2 t n) + T (ix3 1 1 n) * lag H t n 1 + T (ix3 1 0 n) * lag H t n 2 := by
  have e : (line H (ix3 0 t n) : EReal) = H (ix2 t n) := by pointwise [line]
  rw [add_right_comm, ← back1_at, ← back2_at, ← e]
  pointwise [conv, bias, tap0, tap1, tap2]

/-- The two halves of the columns, one under the other. -/
def halves (H : FVec Ideal S4096x11264 .f32) : FVec Ideal S2x4096x5632 .bf16 :=
  truncf .bf16 (concatenate S2x4096x5632 0 [⟨S1x4096x5632, (broadcastInDim S1x4096x5632 ![1, 2] bcast_S4096x5632_S1x4096x5632_1_2 (extractStridedSlice S4096x5632 ![0, 0] H slices_S4096x11264_S4096x5632_0_0))⟩, ⟨S1x4096x5632, (broadcastInDim S1x4096x5632 ![1, 2] bcast_S4096x5632_S1x4096x5632_1_2 (extractStridedSlice S4096x5632 ![0, 5632] H slices_S4096x11264_S4096x5632_0_5632))⟩] concatenates_S1x4096x5632_S1x4096x5632_S2x4096x5632_d0) bitsLt_bf16_f32

/-- The halves at an entry. -/
theorem halves_at (H : FVec Ideal S4096x11264 .f32) (p : Fin 2) (t : Fin 4096) (n : Fin 5632) :
    (halves H (ix3 p t n) : EReal) = H (ix2 t ⟨5632 * p + n, by omega⟩) := by
  match p with
  | 0 => pointwise [halves]
  | 1 => pointwise [halves]

/-- The gated product. -/
def gate (C : FVec Ideal S4096x11264 .f32) : FVec Ideal S4096x5632 .bf16 :=
  truncf .bf16 (mulf (mulf (extractStridedSlice S4096x5632 ![0, 0] C slices_S4096x11264_S4096x5632_0_0) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] C slices_S4096x11264_S4096x5632_0_0)))))) (extractStridedSlice S4096x5632 ![0, 5632] C slices_S4096x11264_S4096x5632_0_5632)) bitsLt_bf16_f32

/-- The gated product at an entry. -/
theorem gate_at (C : FVec Ideal S4096x11264 .f32) (t : Fin 4096) (n : Fin 5632) :
    (gate C (ix2 t n) : EReal)
      = C (ix2 t ⟨n, by omega⟩) * Ideal.logistic (C (ix2 t ⟨n, by omega⟩)) * C (ix2 t ⟨5632 + n, by omega⟩) := by
  unfold Ideal.logistic
  pointwise [gate]

end Cert.Reference11Ideal.ConvUp

namespace Cert.Proof.ConvUp

/-- The kernel's frame on bit patterns. -/
theorem frame_kernel : Cert.quiescent_Kernel11 := fun m ρ _ => Cert.Kernel11.Gen.frame m ρ

/-- The kernel's frame over the extended reals. -/
theorem frame_ideal : Cert.quiescent_Kernel11Ideal := fun m ρ _ => Cert.Kernel11Ideal.Gen.frame m ρ

/-- The reference's frame: its run keeps the arguments, and it has no semaphore. -/
theorem frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

section Same
open Cert.Kernel11Ideal (nD τ sig)
variable (m : (ℓ : Loc Cert.Kernel11Ideal.nD Cert.Kernel11Ideal.τ Cert.Kernel11Ideal.sig) → Buf (Elt Ideal) ℓ) (c : Dev Cert.Kernel11Ideal.nD)

/-- The reference's product on the kernel's arguments. -/
def P : FVec Ideal Cert.Reference11Ideal.S4096x11264 .f32 :=
  Cert.Reference11Ideal.ConvUp.prod (m ((c : Thread nD τ).loc Cert.Kernel11Ideal.main_arg0)) (m ((c : Thread nD τ).loc Cert.Kernel11Ideal.main_arg1))

/-- The reference's convolution on the kernel's arguments. -/
def C : FVec Ideal Cert.Reference11Ideal.S4096x11264 .f32 :=
  Cert.Reference11Ideal.ConvUp.conv (P m c) (m ((c : Thread nD τ).loc Cert.Kernel11Ideal.main_arg2)) (m ((c : Thread nD τ).loc Cert.Kernel11Ideal.main_arg3))

/-- The two products are one. -/
theorem prod_eq (t : Fin 4096) (n : Fin 11264) : (P m c (ix2 t n) : EReal) = Cert.Kernel11Ideal.ConvUp.prod m c t n :=
  Cert.Reference11Ideal.ConvUp.prod_at _ _ t n

/-- The products some rows back are one. -/
theorem lag_eq (t : Fin 4096) (n : Fin 11264) (s : ℕ) :
    Cert.Reference11Ideal.ConvUp.lag (P m c) t n s = Cert.Kernel11Ideal.ConvUp.lag m c t n s := by
  unfold Cert.Reference11Ideal.ConvUp.lag Cert.Kernel11Ideal.ConvUp.lag
  simp only [prod_eq]

/-- The two convolutions are one. -/
theorem conv_eq (t : Fin 4096) (n : Fin 11264) : (C m c (ix2 t n) : EReal) = Cert.Kernel11Ideal.ConvUp.conv m c t n := by
  refine (Cert.Reference11Ideal.ConvUp.conv_at _ _ _ t n).trans ?_
  rw [lag_eq, lag_eq, prod_eq]
  rfl

end Same

/-- What the kernel writes is the reference's: the product, its convolution and the gated product. -/
theorem algebraic : Cert.algebraic_Kernel11Ideal_Reference11Ideal := by
  intro m g m' g' _ hag
  refine ⟨_, _, _, Cert.Kernel11Ideal.Value.run_blocks (F := Ideal) m g, ?_⟩
  refine (θ_run Cert.Reference11Ideal.defs _ _).mono (fun r h c => ?_) (Cert.Reference11Ideal.Value.run (F := Ideal) m' g')
  obtain ⟨h0, h1, h2, hk⟩ := h c
  obtain ⟨a0, a1, a2, a3⟩ := hag c
  refine ⟨h0.trans ?_, h1.trans ?_, h2.trans ?_, hk⟩
  · funext i
    idx_vars i
    rw [a0, a1]
    exact (Cert.Reference11Ideal.ConvUp.halves_at (P m c) i0 i1 i2).trans
      (Eq.trans (α := EReal) (prod_eq m c _ _) (Cert.Kernel11Ideal.ConvUp.final_h m c i0 i1 i2).symm)
  · funext i
    idx_vars i
    unfold Cert.Reference11Ideal.Value.res_main_v59
    rw [a0, a1, a2, a3]
    exact (Cert.Reference11Ideal.ConvUp.halves_at (C m c) i0 i1 i2).trans
      (Eq.trans (α := EReal) (conv_eq m c _ _) (Cert.Kernel11Ideal.ConvUp.final_hc m c i0 i1 i2).symm)
  · funext i
    idx_vars i
    unfold Cert.Reference11Ideal.Value.res_main_v62
    rw [a0, a1, a2, a3]
    refine (Cert.Reference11Ideal.ConvUp.gate_at (C m c) i0 i1).trans
      (Eq.trans (α := EReal) ?_ (Cert.Kernel11Ideal.ConvUp.final_f m c i0 i1).symm)
    rw [conv_eq, conv_eq]
    rfl

end Cert.Proof.ConvUp
end
-- ==== Proof.OdProd.lean ====
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.OdInReference
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel12Ideal.OdProd
open Cert.Kernel12Ideal Cert.Kernel12Ideal.Gen

variable (m : (ℓ : Loc nD τ sig) → Buf (Elt Ideal) ℓ)

/-- The normed rows. -/
def xK (c : Dev nD) (t : Fin 4096) (d : Fin 2048) : EReal := m ((c : Thread nD τ).loc main_arg0) (ix2 t d)
/-- The projection's four parts. -/
def wK (c : Dev nD) (p : Fin 4) (d : Fin 2048) (n : Fin 2048) : EReal := m ((c : Thread nD τ).loc main_arg1) (ix3 p d n)

/-- The blocks a point reads and the tile it writes. -/
theorem idx : ∀ t : Fin cfg0.N, win0_0.index t = ![t.val / 8, 0] ∧ win0_1.index t = ![0, 0, t.val % 8]
    ∧ win0_2.index t = ![t.val / 8, t.val % 8] := (by decide +kernel : ∀ t : Fin grid0.N, _)

/-- A row of the point's tile. -/
def row (t : Fin cfg0.N) (r : Fin 1024) : Fin 4096 := ⟨1024 * (t.val / 8) + r, by have := t.isLt.trans_eq N_0; omega⟩
/-- A column of the point's block of each part. -/
def cln (t : Fin cfg0.N) (q : Fin 256) : Fin 2048 := ⟨256 * (t.val % 8) + q, by omega⟩
/-- A column of the point's tile. -/
def pos (t : Fin cfg0.N) (n : Fin 1024) : Fin 8192 := ⟨1024 * (t.val % 8) + n, by omega⟩

/-- The rows' block at an entry. -/
theorem x_at (c : Dev nD) (t : Fin cfg0.N) (r : Fin 1024) (d : Fin 2048) : iblk m c 0 t (ix2 r d) = xK m c (row t r) d := by
  unfold xK row
  blk_ext [iblk, V, idx t]

/-- The matrix' block at an entry. -/
theorem w_at (c : Dev nD) (t : Fin cfg0.N) (p : Fin 4) (d : Fin 2048) (q : Fin 256) : iblk m c 1 t (ix3 p d q) = wK m c p d (cln t q) := by
  unfold wK cln
  blk_ext [iblk, V, idx t]

/-- A row times a column of one of the parts. -/
def dot (c : Dev nD) (t : Fin 4096) (p : Fin 4) (n : Fin 2048) : EReal := ∑ d : Fin 2048, xK m c t d * wK m c p d n

/-- The projection in the calls' order: 256 columns of each part in turn. -/
def proj (c : Dev nD) (t : Fin 4096) (k : Fin 8192) : EReal :=
  dot m c t ⟨k.val % 1024 / 256, by omega⟩ ⟨256 * (k.val / 1024) + k.val % 256, by omega⟩

/-- A tile's column of a part, in the calls' order. -/
theorem proj_pos (c : Dev nD) (t : Fin cfg0.N) (s : Fin 4096) (p : Fin 4) (q : Fin 256) (n : Fin 1024) (h : n.val = 256 * p.val + q.val) :
    proj m c s (pos t n) = dot m c s p (cln t q) := by
  have ht := t.isLt.trans_eq N_0
  exact congrArg₂ (dot m c s) (Fin.ext (by show (1024 * (t.val % 8) + n.val) % 1024 / 256 = p.val; omega))
    (Fin.ext (by show 256 * ((1024 * (t.val % 8) + n.val) / 1024) + (1024 * (t.val % 8) + n.val) % 256 = 256 * (t.val % 8) + q.val; omega))

set_option maxHeartbeats 4000000 in
/-- What a point writes. -/
theorem out_at (c : Dev nD) (t : Fin cfg0.N) (r : Fin 1024) (n : Fin 1024) :
    out0_2 (iblk m c 0 t) (iblk m c 1 t) (ix2 r n) = proj m c (row t r) (pos t n) := by
  frame_open
  frame_out
  canon_tiles x h
  all_goals idx_vars x
  all_goals (try simp only [ix2_0, ix2_1] at h0 h1)
  all_goals obtain rfl : r = x0 := Fin.ext (by omega)
  · rw [proj_pos m c t _ 3 x1 n (by omega)]
    pointwise [k0_pay4, dot, x_at, w_at]
  · rw [proj_pos m c t _ 2 x1 n (by omega)]
    pointwise [k0_pay3, dot, x_at, w_at]
  · rw [proj_pos m c t _ 1 x1 n (by omega)]
    pointwise [k0_pay2, dot, x_at, w_at]
  · rw [proj_pos m c t _ 0 x1 n (by omega)]
    pointwise [k0_pay1, dot, x_at, w_at]

/-- The projection the call writes. -/
theorem final (c : Dev nD) (t : Fin 4096) (n : Fin 8192) :
    (dats m 0 c).arrAt 2 cfg0.N (ix2 t n) = proj m c t n := by
  have := (dats m 0 c).arrAt_eq_of_covers 2 (fun i : S4096x8192.Idx => proj m c (i 0) (i 1))
    (by decide +kernel) fun t hf y => by
      idx_vars y
      blk_simp
      rw [after0_2]
      refine (out_at m c t y0 y1).trans ?_
      have e : (win0_2.blk t).view.emb (ix2 y0 y1) = ix2 (row t y0) (pos t y1) := by
        unfold row pos
        blk_ext [idx t]
      rw [e]
      rfl
  exact congrFun this (ix2 t n)

end Cert.Kernel12Ideal.OdProd

namespace Cert.Reference12Ideal.OdProd
open Cert.Reference12Ideal Cert.Reference12Ideal.Gen
open Cert.Reference9Ideal.OdIn (whole whole_at back)

/-- The reference's product with its columns in the calls' order. -/
def out (X : FVec Ideal S4096x2048 .bf16) (W : FVec Ideal S4x2048x2048 .bf16) : FVec Ideal S4096x8192 .bf16 :=
  truncf .bf16 (shapeCast S4096x8192 (transpose S4096x8x4x256 [0, 2, 1, 3] (shapeCast S4096x4x8x256
    (Host.dotGeneral dot_S4096x2048_S2048x8192_S4096x8192_1_0_0_1_n_n none (extf .f32 X bitsLt_bf16_f32) (extf .f32 (whole W) bitsLt_bf16_f32))
    shapeCasts_S4096x8192_S4096x4x8x256) transposes_S4096x4x8x256_S4096x8x4x256_0_2_1_3) shapeCasts_S4096x8x4x256_S4096x8192) bitsLt_bf16_f32

/-- The reference's product at an entry. -/
theorem value (X : FVec Ideal S4096x2048 .bf16) (W : FVec Ideal S4x2048x2048 .bf16) (t : Fin 4096) (k : Fin 8192) :
    (out X W (ix2 t k) : EReal)
      = ∑ d : Fin 2048, X (ix2 t d) * W (ix3 ⟨k.val % 1024 / 256, by omega⟩ d ⟨256 * (k.val / 1024) + k.val % 256, by omega⟩) := by
  have e (d : Fin 2048) : (whole W (ix2 d (back k)) : EReal) = W (ix3 ⟨k.val % 1024 / 256, by omega⟩ d ⟨256 * (k.val / 1024) + k.val % 256, by omega⟩) :=
    (whole_at W d (back k)).trans (congrArg₂ (fun p q => W (ix3 p d q)) (Fin.ext (by unfold back; dsimp only; omega)) (Fin.ext (by unfold back; dsimp only; omega)))
  simp only [← e]
  pointwise [out]
  exact Finset.sum_congr rfl fun d _ => congrArg (fun n => X (ix2 t d) * whole W (ix2 d n)) (Fin.ext (by unfold back; dsimp only; omega))

end Cert.Reference12Ideal.OdProd

namespace Cert.Proof.OdProd

/-- The kernel's frame on bit patterns. -/
theorem frame_kernel : Cert.quiescent_Kernel12 := fun m ρ _ => Cert.Kernel12.Gen.frame m ρ

/-- The kernel's frame over the extended reals. -/
theorem frame_ideal : Cert.quiescent_Kernel12Ideal := fun m ρ _ => Cert.Kernel12Ideal.Gen.frame m ρ

/-- The reference's frame: its run keeps the arguments, and it has no semaphore. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The projection the kernel writes is the reference's. -/
theorem algebraic : Cert.algebraic_Kernel12Ideal_Reference12Ideal := by
  intro m g m' g' _ hag
  refine ⟨_, Cert.Kernel12Ideal.Value.run_blocks (F := Ideal) m g, ?_⟩
  refine (θ_run Cert.Reference12Ideal.defs _ _).mono (fun r h c => ?_) (Cert.Reference12Ideal.Value.run (F := Ideal) m' g')
  obtain ⟨h0, hk⟩ := h c
  refine ⟨h0.trans ?_, hk⟩
  funext i
  idx_vars i
  refine (Cert.Reference12Ideal.OdProd.value _ _ i0 i1).trans (Eq.trans (α := EReal) ?_ (Cert.Kernel12Ideal.OdProd.final m c i0 i1).symm)
  rw [(hag c).1, (hag c).2]
  rfl

end Cert.Proof.OdProd
end
-- ==== Proof.EvProd.lean ====
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.EvGrad
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel13Ideal.EvProd
open Cert.Kernel13Ideal Cert.Kernel13Ideal.Gen

variable (m : (ℓ : Loc nD τ sig) → Buf (Elt Ideal) ℓ)

/-- The normed rows. -/
def xK (c : Dev nD) (t : Fin 4096) (d : Fin 2048) : EReal := m ((c : Thread nD τ).loc main_arg0) (ix2 t d)
/-- The projection's four parts. -/
def wK (c : Dev nD) (p : Fin 4) (d : Fin 2048) (n : Fin 768) : EReal := m ((c : Thread nD τ).loc main_arg1) (ix3 p d n)

/-- The blocks a point reads and the tile it writes. -/
theorem idx : ∀ t : Fin cfg0.N, win0_0.index t = ![t.val / 4, 0] ∧ win0_1.index t = ![t.val % 4, 0, 0]
    ∧ win0_2.index t = ![t.val / 4, t.val % 4] := (by decide +kernel : ∀ t : Fin grid0.N, _)

/-- A row of the point's tile. -/
def row (t : Fin cfg0.N) (r : Fin 1024) : Fin 4096 := ⟨1024 * (t.val / 4) + r, by have := t.isLt.trans_eq N_0; omega⟩
/-- A column of the point's tile. -/
def pos (t : Fin cfg0.N) (n : Fin 768) : Fin 3072 := ⟨768 * (t.val % 4) + n, by omega⟩

/-- The rows' block at an entry. -/
theorem x_at (c : Dev nD) (t : Fin cfg0.N) (r : Fin 1024) (d : Fin 2048) : iblk m c 0 t (ix2 r d) = xK m c (row t r) d := by
  unfold xK row
  blk_ext [iblk, V, idx t]

/-- The matrix' block at an entry: the point's part. -/
theorem w_at (c : Dev nD) (t : Fin cfg0.N) (p : Fin 1) (d : Fin 2048) (q : Fin 768) : iblk m c 1 t (ix3 p d q) = wK m c ⟨t.val % 4, by omega⟩ d q := by
  obtain rfl : p = 0 := Subsingleton.elim _ _
  unfold wK
  blk_ext [iblk, V, idx t]

/-- The projection: a row times a column of the parts side by side. -/
def proj (c : Dev nD) (t : Fin 4096) (k : Fin 3072) : EReal :=
  ∑ d : Fin 2048, xK m c t d * wK m c ⟨k.val / 768, by omega⟩ d ⟨k.val % 768, by omega⟩

/-- What a point writes. -/
theorem out_at (c : Dev nD) (t : Fin cfg0.N) (r : Fin 1024) (n : Fin 768) :
    out0_2 (iblk m c 0 t) (iblk m c 1 t) (ix2 r n) = proj m c (row t r) (pos t n) := by
  have e1 : (768 * (t.val % 4) + n.val) / 768 = t.val % 4 := by omega
  have e2 : (768 * (t.val % 4) + n.val) % 768 = n.val := by omega
  frame_open
  frame_out
  pointwise [k0_pay1, proj, x_at, w_at, pos, e1, e2]

/-- The projection the call writes. -/
theorem final (c : Dev nD) (t : Fin 4096) (n : Fin 3072) :
    (dats m 0 c).arrAt 2 cfg0.N (ix2 t n) = proj m c t n := by
  have := (dats m 0 c).arrAt_eq_of_covers 2 (fun i : S4096x3072.Idx => proj m c (i 0) (i 1))
    (by decide +kernel) fun t hf y => by
      idx_vars y
      blk_simp
      rw [after0_2]
      refine (out_at m c t y0 y1).trans ?_
      have e : (win0_2.blk t).view.emb (ix2 y0 y1) = ix2 (row t y0) (pos t y1) := by
        unfold row pos
        blk_ext [idx t]
      rw [e]
      rfl
  exact congrFun this (ix2 t n)

end Cert.Kernel13Ideal.EvProd

namespace Cert.Reference13Ideal.EvProd
open Cert.Reference13Ideal Cert.Reference13Ideal.Gen
open Cert.Reference7Ideal.EvGrad (whole whole_at)

/-- The reference's product at an entry. -/
theorem value (X : FVec Ideal S4096x2048 .bf16) (W : FVec Ideal S4x2048x768 .bf16) (t : Fin 4096) (k : Fin 3072) :
    (truncf .bf16 (Host.dotGeneral dot_S4096x2048_S2048x3072_S4096x3072_1_0_0_1_n_n none (extf .f32 X bitsLt_bf16_f32) (extf .f32 (whole W) bitsLt_bf16_f32)) bitsLt_bf16_f32 (ix2 t k) : EReal)
      = ∑ d : Fin 2048, X (ix2 t d) * W (ix3 ⟨k.val / 768, by omega⟩ d ⟨k.val % 768, by omega⟩) := by
  simp only [← whole_at]
  pointwise

end Cert.Reference13Ideal.EvProd

namespace Cert.Proof.EvProd

/-- The kernel's frame on bit patterns. -/
theorem frame_kernel : Cert.quiescent_Kernel13 := fun m ρ _ => Cert.Kernel13.Gen.frame m ρ

/-- The kernel's frame over the extended reals. -/
theorem frame_ideal : Cert.quiescent_Kernel13Ideal := fun m ρ _ => Cert.Kernel13Ideal.Gen.frame m ρ

/-- The reference's frame: its run keeps the arguments, and it has no semaphore. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The projection the kernel writes is the reference's. -/
theorem algebraic : Cert.algebraic_Kernel13Ideal_Reference13Ideal := by
  intro m g m' g' _ hag
  refine ⟨_, Cert.Kernel13Ideal.Value.run_blocks (F := Ideal) m g, ?_⟩
  refine (θ_run Cert.Reference13Ideal.defs _ _).mono (fun r h c => ?_) (Cert.Reference13Ideal.Value.run (F := Ideal) m' g')
  obtain ⟨h0, hk⟩ := h c
  refine ⟨h0.trans ?_, hk⟩
  funext i
  idx_vars i
  refine (Cert.Reference13Ideal.EvProd.value _ _ i0 i1).trans (Eq.trans (α := EReal) ?_ (Cert.Kernel13Ideal.EvProd.final m c i0 i1).symm)
  rw [(hag c).1, (hag c).2]
  rfl

end Cert.Proof.EvProd
end
-- ==== Proof.SlabNorm.lean ====
module

public import proofs.«01_k».proof.Proof.FfnInReference
public import proofs.«01_k».proof.Proof.Gen.Kernel14Ideal.Frame
public import proofs.«01_k».proof.Proof.Gen.Reference14Ideal.Run
public import Idealize.ShloMosaic.Lib.Pointwise

@[expose] public section

set_option maxRecDepth 16384

noncomputable section

open Idealize.ShloMosaic Idealize.ShloMosaic.TcCoe Idealize.SL.Sem Idealize.ShloMosaic.StableHlo

namespace Cert.Kernel14Ideal.SlabNorm
open Cert.Kernel14Ideal Cert.Kernel14Ideal.Gen
open Cert.Norm (alpha width eps mean centred spread rstd normed)

/-- The row a slab norms: the scaled residual plus the product. -/
def line (a : Vec Ideal S128x2048 .f32) (p q : Vec Ideal S1x2048 .f32) (b : Vec Ideal S128x2048 .f32) (r : Fin 128) (k : Fin 2048) : EReal :=
  alpha * (a (ix2 r k) * p (ix2 0 k) + q (ix2 0 k)) + b (ix2 r k)

variable (a : Vec Ideal S128x2048 .f32) (p q g h : Vec Ideal S1x2048 .f32) (b : Vec Ideal S128x2048 .f32) (r : Fin 128) (d : Fin 2048)

/-- The first slab's rows less their means. -/
theorem cen0 : (k0_pay7 a p q b (ix2 r d) : EReal) = centred (line a p q b r) d := by
  pointwise [k0_pay7, centred, mean, width, line, alpha]
/-- The second slab's are computed the same way. -/
theorem cen1 : (k0_pay12 a p q b (ix2 r d) : EReal) = centred (line a p q b r) d := cen0 a p q b r d
/-- So are the third's. -/
theorem cen2 : (k0_pay19 a p q b (ix2 r d) : EReal) = centred (line a p q b r) d := cen0 a p q b r d
/-- And the last's. -/
theorem cen3 : (k0_pay3 (k0_pay25 a p q b) (k0_pay28 a p q b) (ix2 r d) : EReal) = centred (line a p q b r) d := cen0 a p q b r d

/-- The first slab's inverse deviations. -/
theorem dev0 : (k0_pay8 a p q b (ix2 r 0) : EReal) = rstd (line a p q b r) := by
  unfold rstd spread mean
  simp only [← cen0]
  pointwise [k0_pay8, eps, width]
/-- The second slab's. -/
theorem dev1 : (k0_pay13 a p q b (ix2 r 0) : EReal) = rstd (line a p q b r) := dev0 a p q b r
/-- The third's. -/
theorem dev2 : (k0_pay22 (k0_pay20 a p q b) k0_pay21 (ix2 r 0) : EReal) = rstd (line a p q b r) := dev0 a p q b r
/-- The last's. -/
theorem dev3 : (k0_pay4 (k0_pay25 a p q b) (k0_pay28 a p q b) (ix2 r 0) : EReal) = rstd (line a p q b r) := dev0 a p q b r

/-- The first slab's normed rows. -/
theorem nrm0 : (k0_pay9 a p q b (ix2 r d) : EReal) = normed (line a p q b r) d := by
  unfold normed
  rw [← cen0, ← dev0]
  pointwise [k0_pay9]
/-- The second slab's. -/
theorem nrm1 : (k0_pay14 a p q b (ix2 r d) : EReal) = normed (line a p q b r) d := nrm0 a p q b r d
/-- The third's. -/
theorem nrm2 : (k0_pay23 (k0_pay19 a p q b) (k0_pay20 a p q b) k0_pay21 (ix2 r d) : EReal) = normed (line a p q b r) d := nrm0 a p q b r d
/-- The last's. -/
theorem nrm3 : (k0_pay5 (k0_pay25 a p q b) (k0_pay28 a p q b) (ix2 r d) : EReal) = normed (line a p q b r) d := nrm0 a p q b r d

/-- The first slab's rows with gain and offset. -/
theorem aff0 : (k0_pay10 a p q b g h (ix2 r d) : EReal) = normed (line a p q b r) d * g (ix2 0 d) + h (ix2 0 d) := by
  rw [← nrm0]
  pointwise [k0_pay10]
/-- The second slab's. -/
theorem aff1 : (k0_pay16 (k0_pay11 h) (k0_pay14 a p q b) (k0_pay15 g) (ix2 r d) : EReal) = normed (line a p q b r) d * g (ix2 0 d) + h (ix2 0 d) :=
  aff0 a p q g h b r d
/-- The third's. -/
theorem aff2 : (k0_pay24 (k0_pay17 g) (k0_pay18 h) (k0_pay19 a p q b) (k0_pay20 a p q b) k0_pay21 (ix2 r d) : EReal)
    = normed (line a p q b r) d * g (ix2 0 d) + h (ix2 0 d) := aff0 a p q g h b r d
/-- The last's. -/
theorem aff3 : (k0_pay6 (k0_pay25 a p q b) (k0_pay26 g) (k0_pay27 h) (k0_pay28 a p q b) (ix2 r d) : EReal)
    = normed (line a p q b r) d * g (ix2 0 d) + h (ix2 0 d) := aff0 a p q g h b r d

end Cert.Kernel14Ideal.SlabNorm

namespace Cert.Reference14Ideal.SlabNorm
open Cert.Reference14Ideal Cert.Reference14Ideal.Gen
open Cert.Norm (alpha rstd normed)
open Cert.Reference2Ideal.FfnIn (nrm nrm_at inv inv_at row)

variable (A P : FVec Ideal S4096x2048 .f32) (p q g h : FVec Ideal S2048 .f32)

/-- A vector along the rows. -/
def spreadRow (p : FVec Ideal S2048 .f32) : FVec Ideal S4096x2048 .f32 :=
  broadcastInDim S4096x2048 ![0, 1] bcast_S1x2048_S4096x2048_0_1 (broadcastInDim S1x2048 ![1] bcast_S2048_S1x2048_1 p)
/-- The norm's input: the scaled residual plus the product. -/
def resid : FVec Ideal S4096x2048 .f32 :=
  addf (mulf (broadcastInDim S4096x2048 ![] bcast_S_S4096x2048 (constant S_ .f32 0x3FB504F3#32)) (addf (mulf A (spreadRow p)) (spreadRow q))) P
/-- The norm's output. -/
def out : FVec Ideal S4096x2048 .bf16 := truncf .bf16 (addf (mulf (nrm (resid A P p q)) (spreadRow g)) (spreadRow h)) bitsLt_bf16_f32

/-- The norm's input at an entry. -/
theorem resid_at (t : Fin 4096) (k : Fin 2048) :
    (resid A P p q (ix2 t k) : EReal) = alpha * (A (ix2 t k) * p (ix1 k) + q (ix1 k)) + P (ix2 t k) := by
  pointwise [resid, spreadRow, alpha]
/-- The norm's output at an entry. -/
theorem out_at (t : Fin 4096) (d : Fin 2048) :
    (out A P p q g h (ix2 t d) : EReal) = normed (row (resid A P p q) t) d * g (ix1 d) + h (ix1 d) := by
  rw [← nrm_at]
  pointwise [out, spreadRow]

end Cert.Reference14Ideal.SlabNorm
end
-- ==== Proof.DownNorm.lean ====
module

public import proofs.«01_k».proof.Defs
public import proofs.«01_k».proof.Proof.HalfSums
public import proofs.«01_k».proof.Proof.SlabNorm
public import proofs.«01_k».proof.Proof.Gen.Kernel14.Frame
public import proofs.«01_k».proof.Proof.Gen.Kernel14Ideal.Value
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel14Ideal.DownNorm
open Cert.Kernel14Ideal Cert.Kernel14Ideal.Gen Cert.Kernel14Ideal.SlabNorm
open Cert.Norm (alpha rstd normed)

variable (m : (ℓ : Loc nD τ sig) → Buf (Elt Ideal) ℓ)

/-- The gated rows. -/
def fK (c : Dev nD) (t : Fin 4096) (j : Fin 5632) : EReal := m ((c : Thread nD τ).loc main_arg0) (ix2 t j)
/-- The down projection. -/
def wK (c : Dev nD) (j : Fin 5632) (d : Fin 2048) : EReal := m ((c : Thread nD τ).loc main_arg1) (ix2 j d)
/-- The residual's normed rows. -/
def resK (c : Dev nD) (t : Fin 4096) (d : Fin 2048) : EReal := m ((c : Thread nD τ).loc main_arg2) (ix2 t d)
/-- The residual's gain. -/
def pK (c : Dev nD) (d : Fin 2048) : EReal := m ((c : Thread nD τ).loc main_arg3) (ix1 d)
/-- The residual's offset. -/
def qK (c : Dev nD) (d : Fin 2048) : EReal := m ((c : Thread nD τ).loc main_arg4) (ix1 d)
/-- The norm's gain. -/
def gK (c : Dev nD) (d : Fin 2048) : EReal := m ((c : Thread nD τ).loc main_arg5) (ix1 d)
/-- The norm's offset. -/
def bK (c : Dev nD) (d : Fin 2048) : EReal := m ((c : Thread nD τ).loc main_arg6) (ix1 d)

/-- The blocks a point reads and the rows it works for. -/
theorem idx : ∀ t : Fin cfg0.N, win0_0.index t = ![t.val / 4, t.val % 4] ∧ win0_1.index t = ![0, t.val % 4, 0]
    ∧ win0_2.index t = ![t.val / 4, 0] ∧ win0_3.index t = ![0, 0] ∧ win0_4.index t = ![0, 0] ∧ win0_5.index t = ![0, 0] ∧ win0_6.index t = ![0, 0]
    ∧ win0_7.index t = ![t.val / 4, 0] ∧ win0_8.index t = ![t.val / 4, 0] ∧ win0_9.index t = ![t.val / 4, 0] :=
  (by decide +kernel : ∀ t : Fin grid0.N, _)

/-- A row of the point's block. -/
def row (t : Fin cfg0.N) (r : Fin 512) : Fin 4096 := ⟨512 * (t.val / 4) + r, by have := t.isLt.trans_eq N_0; omega⟩
/-- A column of the gated rows' block. -/
def cln (t : Fin cfg0.N) (k : Fin 1408) : Fin 5632 := ⟨1408 * (t.val % 4) + k, by omega⟩

/-- The points of a row block have the same rows. -/
theorem row_same (s t : Fin cfg0.N) (h : s.val / 4 = t.val / 4) (r : Fin 512) : row s r = row t r :=
  Fin.ext (by show 512 * (s.val / 4) + r.val = 512 * (t.val / 4) + r.val; rw [h])

/-- The gated rows' block at an entry. -/
theorem f_at (c : Dev nD) (t : Fin cfg0.N) (r : Fin 512) (k : Fin 1408) : iblk m c 0 t (ix2 r k) = fK m c (row t r) (cln t k) := by
  unfold fK row cln
  blk_ext [iblk, V, idx t]

/-- The down projection as the call reads it, at an entry. -/
theorem w_host (c : Dev nD) (j : Fin 5632) (d : Fin 2048) :
    (StableHlo.after (hostOps0 (F := Ideal)) (fun b => m (c, b)) (Proc.tc.devRef main_v0) (ix3 0 j d) : EReal) = wK m c j d := by
  entry_read
  pointwise [wK]
/-- The residual's gain as the call reads it. -/
theorem p_host (c : Dev nD) (d : Fin 2048) :
    (StableHlo.after (hostOps0 (F := Ideal)) (fun b => m (c, b)) (Proc.tc.devRef main_v1) (ix2 0 d) : EReal) = pK m c d := by
  entry_read
  pointwise [pK]
/-- The residual's offset as the call reads it. -/
theorem q_host (c : Dev nD) (d : Fin 2048) :
    (StableHlo.after (hostOps0 (F := Ideal)) (fun b => m (c, b)) (Proc.tc.devRef main_v2) (ix2 0 d) : EReal) = qK m c d := by
  entry_read
  pointwise [qK]
/-- The norm's gain as the call reads it. -/
theorem g_host (c : Dev nD) (d : Fin 2048) :
    (StableHlo.after (hostOps0 (F := Ideal)) (fun b => m (c, b)) (Proc.tc.devRef main_v3) (ix2 0 d) : EReal) = gK m c d := by
  entry_read
  pointwise [gK]
/-- The norm's offset as the call reads it. -/
theorem b_host (c : Dev nD) (d : Fin 2048) :
    (StableHlo.after (hostOps0 (F := Ideal)) (fun b => m (c, b)) (Proc.tc.devRef main_v4) (ix2 0 d) : EReal) = bK m c d := by
  entry_read
  pointwise [bK]

/-- The down projection's block at an entry. -/
theorem w_at (c : Dev nD) (t : Fin cfg0.N) (k : Fin 1408) (d : Fin 2048) : iblk m c 1 t (ix3 0 k d) = wK m c (cln t k) d := by
  refine Eq.trans ?_ (w_host m c (cln t k) d)
  unfold cln
  blk_ext [iblk, V, idx t]
/-- The residual's block at an entry. -/
theorem res_at (c : Dev nD) (t : Fin cfg0.N) (r : Fin 512) (d : Fin 2048) : iblk m c 2 t (ix2 r d) = resK m c (row t r) d := by
  unfold resK row
  blk_ext [iblk, V, idx t]
/-- The residual's gain's block at an entry. -/
theorem p_at (c : Dev nD) (t : Fin cfg0.N) (d : Fin 2048) : iblk m c 3 t (ix2 0 d) = pK m c d := by
  refine Eq.trans ?_ (p_host m c d)
  blk_ext [iblk, V, idx t]
/-- The residual's offset's block at an entry. -/
theorem q_at (c : Dev nD) (t : Fin cfg0.N) (d : Fin 2048) : iblk m c 4 t (ix2 0 d) = qK m c d := by
  refine Eq.trans ?_ (q_host m c d)
  blk_ext [iblk, V, idx t]
/-- The gain's block at an entry. -/
theorem g_at (c : Dev nD) (t : Fin cfg0.N) (d : Fin 2048) : iblk m c 5 t (ix2 0 d) = gK m c d := by
  refine Eq.trans ?_ (g_host m c d)
  blk_ext [iblk, V, idx t]
/-- The offset's block at an entry. -/
theorem b_at (c : Dev nD) (t : Fin cfg0.N) (d : Fin 2048) : iblk m c 6 t (ix2 0 d) = bK m c d := by
  refine Eq.trans ?_ (b_host m c d)
  blk_ext [iblk, V, idx t]

/-- What a point adds to its rows: the product over its part of the columns. -/
def term (c : Dev nD) (t : Fin cfg0.N) (i : S512x2048.Idx) : EReal :=
  ∑ k : Fin 1408, fK m c (row t (i 0)) (cln t k) * wK m c (cln t k) (i 1)

/-- The first point of a row block starts from zero. -/
theorem reset (c : Dev nD) (t : Fin cfg0.N) (ht : t.val % 4 = 0) (i : S512x2048.Idx) :
    (outsAt0 m c t.val t.isLt).2.2.2 i = 0 + term m c t i := by
  idx_vars i
  rw [outsAt0_A m c t ht (by omega)]
  frame_open
  simp (disch := decide) only [↓ View.readCov_skip, ↓ View.readCov_cons_toLoadRect, ↓ View.readCov_fill]
  frame_out
  pointwise [k0_pay2, k0_pay1, term, f_at, w_at]

/-- A later point adds to what the point before left. -/
theorem step (c : Dev nD) (t : Fin cfg0.N) (ht : ¬ t.val % 4 = 0) (i : S512x2048.Idx) :
    (outsAt0 m c t.val t.isLt).2.2.2 i
      = (outsAt0 m c (t.val - 1) (Nat.lt_of_le_of_lt (Nat.sub_le _ _) t.isLt)).2.2.2 i + term m c t i := by
  idx_vars i
  by_cases h : t.val % 4 = 3
  on_goal 1 => rw [outsAt0_C m c t ht h]
  on_goal 2 => rw [outsAt0_B m c t ht h]
  all_goals
    frame_out
    simp only [read_unread_whole]
    pointwise [k0_pay2, term, f_at, w_at]

/-- The product: a gated row times a column of the down projection. -/
def prod (c : Dev nD) (t : Fin 4096) (d : Fin 2048) : EReal := ∑ j : Fin 5632, fK m c t j * wK m c j d

/-- The norm's input: the scaled residual plus the product. -/
def input (c : Dev nD) (t : Fin 4096) (k : Fin 2048) : EReal := alpha * (resK m c t k * pK m c k + qK m c k) + prod m c t k

/-- At the last point of a row block the accumulator holds the product. -/
theorem acc_at (c : Dev nD) (t : Fin cfg0.N) (ht : t.val % 4 = 3) (r : Fin 512) (d : Fin 2048) :
    (outsAt0 m c (t.val - 1) (Nat.lt_of_le_of_lt (Nat.sub_le _ _) t.isLt)).2.2.2 (ix2 r d) + term m c t (ix2 r d) = prod m c (row t r) d := by
  refine (step m c t (by omega) (ix2 r d)).symm.trans ?_
  refine (Cert.Halves.sum_of_parts (fun n h => (outsAt0 m c n h).2.2.2) (term m c) 4 1408 (reset m c) (step m c) t ht (ix2 r d)
    (Cert.Halves.upto fun j : Fin 5632 => fK m c (row t r) j * wK m c j d) fun s h => ?_).trans
    (Finset.sum_congr rfl fun j _ => Cert.Halves.upto_of_lt _ _ j.isLt)
  show ∑ k : Fin 1408, fK m c (row s r) (cln s k) * wK m c (cln s k) d = _
  rw [row_same s t h]
  exact Finset.sum_congr rfl fun k _ => (Cert.Halves.upto_of_lt (fun j : Fin 5632 => fK m c (row t r) j * wK m c j d) _ (cln s k).isLt).symm

/-- The norm's input with the accumulator as the last point finds it. -/
theorem input_eq (c : Dev nD) (t : Fin cfg0.N) (ht : t.val % 4 = 3) (r : Fin 512) : input m c (row t r)
    = fun k => alpha * (resK m c (row t r) k * pK m c k + qK m c k)
      + ((outsAt0 m c (t.val - 1) (Nat.lt_of_le_of_lt (Nat.sub_le _ _) t.isLt)).2.2.2 (ix2 r k) + term m c t (ix2 r k)) := by
  funext k
  rw [acc_at m c t ht]
  rfl

set_option maxHeartbeats 4000000 in
/-- The last point of a row block writes its normed rows. -/
theorem nrm_at (c : Dev nD) (t : Fin cfg0.N) (ht : t.val % 4 = 3) (r : Fin 512) (d : Fin 2048) :
    (outsAt0 m c t.val t.isLt).1 (ix2 r d) = normed (input m c (row t r)) d := by
  rw [input_eq m c t ht, outsAt0_C m c t (by omega) ht]
  frame_open
  (try simp (disch := decide) only [↓ View.readCov_skip, ↓ View.readCov_cons_toLoadRect, ↓ View.readCov_fill])
  frame_out
  try simp only [read_unread_whole]
  canon_tiles x h
  all_goals
    idx_vars x
    (try simp only [ix2_0, ix2_1] at h0 h1)
    obtain rfl : d = x1 := Fin.ext h1
    obtain ⟨r, hr⟩ := r
    obtain rfl : r = _ := h0
    first | refine (nrm0 _ _ _ _ x0 d).trans ?_ | refine (nrm1 _ _ _ _ x0 d).trans ?_ | refine (nrm2 _ _ _ _ x0 d).trans ?_ | refine (nrm3 _ _ _ _ x0 d).trans ?_
    refine congrArg (normed · d) (funext fun k => ?_)
    pointwise [line, k0_pay2, term, f_at, w_at, res_at, p_at, q_at]

set_option maxHeartbeats 4000000 in
/-- It writes their output with gain and offset. -/
theorem aff_at (c : Dev nD) (t : Fin cfg0.N) (ht : t.val % 4 = 3) (r : Fin 512) (d : Fin 2048) :
    (outsAt0 m c t.val t.isLt).2.1 (ix2 r d) = normed (input m c (row t r)) d * gK m c d + bK m c d := by
  rw [input_eq m c t ht, outsAt0_C m c t (by omega) ht]
  frame_open
  (try simp (disch := decide) only [↓ View.readCov_skip, ↓ View.readCov_cons_toLoadRect, ↓ View.readCov_fill])
  frame_out
  try simp only [read_unread_whole]
  canon_tiles x h
  all_goals
    idx_vars x
    (try simp only [ix2_0, ix2_1] at h0 h1)
    obtain rfl : d = x1 := Fin.ext h1
    obtain ⟨r, hr⟩ := r
    obtain rfl : r = _ := h0
    first | refine (aff0 _ _ _ _ _ _ x0 d).trans ?_ | refine (aff1 _ _ _ _ _ _ x0 d).trans ?_ | refine (aff2 _ _ _ _ _ _ x0 d).trans ?_ | refine (aff3 _ _ _ _ _ _ x0 d).trans ?_
    rw [g_at, b_at]
    refine congrArg (fun l => normed l d * gK m c d + bK m c d) (funext fun k => ?_)
    pointwise [line, k0_pay2, term, f_at, w_at, res_at, p_at, q_at]

set_option maxHeartbeats 4000000 in
/-- It writes their inverse deviations. -/
theorem dev_at (c : Dev nD) (t : Fin cfg0.N) (ht : t.val % 4 = 3) (r : Fin 512) :
    (outsAt0 m c t.val t.isLt).2.2.1 (ix2 r 0) = rstd (input m c (row t r)) := by
  rw [input_eq m c t ht, outsAt0_C m c t (by omega) ht]
  frame_open
  (try simp (disch := decide) only [↓ View.readCov_skip, ↓ View.readCov_cons_toLoadRect, ↓ View.readCov_fill])
  frame_out
  try simp only [read_unread_whole]
  canon_tiles x h
  all_goals
    idx_vars x
    (try simp only [ix2_0, ix2_1] at h0 h1)
    obtain rfl : x1 = 0 := Subsingleton.elim _ _
    obtain ⟨r, hr⟩ := r
    obtain rfl : r = _ := h0
    first | refine (dev0 _ _ _ _ x0).trans ?_ | refine (dev1 _ _ _ _ x0).trans ?_ | refine (dev2 _ _ _ _ x0).trans ?_ | refine (dev3 _ _ _ _ x0).trans ?_
    refine congrArg rstd (funext fun k => ?_)
    pointwise [line, k0_pay2, term, f_at, w_at, res_at, p_at, q_at]

/-- The normed rows the call writes. -/
theorem final_nrm (c : Dev nD) (t : Fin 4096) (d : Fin 2048) :
    (dats m 0 c).arrAt 7 cfg0.N (ix2 t d) = normed (input m c t) d := by
  have := (dats m 0 c).arrAt_eq_of_covers 7 (fun i : S4096x2048.Idx => normed (input m c (i 0)) (i 1))
    (by decide +kernel) fun t hf y => by
      have ht := (flush0_7 t).mp hf
      idx_vars y
      blk_simp
      rw [after0_7]
      refine (nrm_at m c t ht y0 y1).trans ?_
      have e : (win0_7.blk t).view.emb (ix2 y0 y1) = ix2 (row t y0) y1 := by
        unfold row
        blk_ext [idx t]
      rw [e]
      rfl
  exact congrFun this (ix2 t d)

/-- The norm's output the call writes. -/
theorem final_aff (c : Dev nD) (t : Fin 4096) (d : Fin 2048) :
    (dats m 0 c).arrAt 8 cfg0.N (ix2 t d) = normed (input m c t) d * gK m c d + bK m c d := by
  have := (dats m 0 c).arrAt_eq_of_covers 8 (fun i : S4096x2048.Idx => normed (input m c (i 0)) (i 1) * gK m c (i 1) + bK m c (i 1))
    (by decide +kernel) fun t hf y => by
      have ht := (flush0_8 t).mp hf
      idx_vars y
      blk_simp
      rw [after0_8]
      refine (aff_at m c t ht y0 y1).trans ?_
      have e : (win0_8.blk t).view.emb (ix2 y0 y1) = ix2 (row t y0) y1 := by
        unfold row
        blk_ext [idx t]
      rw [e]
      rfl
  exact congrFun this (ix2 t d)

/-- The inverse deviations the call writes. -/
theorem final_dev (c : Dev nD) (t : Fin 4096) (d : Fin 1) :
    (dats m 0 c).arrAt 9 cfg0.N (ix2 t d) = rstd (input m c t) := by
  have := (dats m 0 c).arrAt_eq_of_covers 9 (fun i : S4096x1.Idx => rstd (input m c (i 0)))
    (by decide +kernel) fun t hf y => by
      have ht := (flush0_9 t).mp hf
      idx_vars y
      blk_simp
      rw [after0_9]
      obtain rfl : y1 = 0 := Subsingleton.elim _ _
      refine (dev_at m c t ht y0).trans ?_
      have e : (win0_9.blk t).view.emb (ix2 y0 0) = ix2 (row t y0) 0 := by
        unfold row
        blk_ext [idx t]
      rw [e]
      rfl
  exact congrFun this (ix2 t d)

end Cert.Kernel14Ideal.DownNorm

namespace Cert.Reference14Ideal.DownNorm
open Cert.Reference14Ideal Cert.Reference14Ideal.Gen Cert.Reference14Ideal.SlabNorm
open Cert.Norm (alpha)

/-- The reference's product. -/
def prod (X : FVec Ideal S4096x5632 .bf16) (W : FVec Ideal S5632x2048 .bf16) : FVec Ideal S4096x2048 .f32 :=
  Host.dotGeneral dot_S4096x5632_S5632x2048_S4096x2048_1_0_0_1_n_n none (extf .f32 X bitsLt_bf16_f32) (extf .f32 W bitsLt_bf16_f32)

/-- A row of the reference's norm's input. -/
theorem row_eq (X : FVec Ideal S4096x5632 .bf16) (W : FVec Ideal S5632x2048 .bf16) (A : FVec Ideal S4096x2048 .f32) (p q : FVec Ideal S2048 .f32) (t : Fin 4096) :
    Cert.Reference2Ideal.FfnIn.row (resid A (prod X W) p q) t
      = fun k => alpha * (A (ix2 t k) * p (ix1 k) + q (ix1 k)) + ∑ j : Fin 5632, X (ix2 t j) * W (ix2 j k) := by
  funext k
  refine (resid_at A (prod X W) p q t k).trans ?_
  pointwise [prod]

end Cert.Reference14Ideal.DownNorm

namespace Cert.Proof.DownNorm
open Cert.Reference2Ideal.FfnIn (nrm nrm_at inv inv_at)
open Cert.Reference14Ideal.SlabNorm (resid out_at)

/-- The kernel's frame on bit patterns. -/
theorem frame_kernel : Cert.quiescent_Kernel14 := fun m ρ _ => Cert.Kernel14.Gen.frame m ρ

/-- The kernel's frame over the extended reals. -/
theorem frame_ideal : Cert.quiescent_Kernel14Ideal := fun m ρ _ => Cert.Kernel14Ideal.Gen.frame m ρ

/-- The reference's frame: its run keeps the arguments, and it has no semaphore. -/
theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- The normed rows, the norm's output and the inverse deviations the kernel writes are the reference's. -/
theorem algebraic : Cert.algebraic_Kernel14Ideal_Reference14Ideal := by
  intro m g m' g' _ hag
  refine ⟨_, _, _, Cert.Kernel14Ideal.Value.run_blocks (F := Ideal) m g, ?_⟩
  refine (θ_run Cert.Reference14Ideal.defs _ _).mono (fun r h c => ?_) (Cert.Reference14Ideal.Value.run (F := Ideal) m' g')
  obtain ⟨h0, h1, h2, hk⟩ := h c
  obtain ⟨a0, a1, a2, a3, a4, a5, a6⟩ := hag c
  have e (t : Fin 4096) : Cert.Reference2Ideal.FfnIn.row (resid _ (Cert.Reference14Ideal.DownNorm.prod _ _) _ _) t = Cert.Kernel14Ideal.DownNorm.input m c t :=
    Cert.Reference14Ideal.DownNorm.row_eq (m ((c.tc : Thread Cert.Kernel14Ideal.nD Cert.Kernel14Ideal.τ).loc Cert.Kernel14Ideal.main_arg0)) (m (c.tc.loc Cert.Kernel14Ideal.main_arg1))
      (m (c.tc.loc Cert.Kernel14Ideal.main_arg2)) (m (c.tc.loc Cert.Kernel14Ideal.main_arg3)) (m (c.tc.loc Cert.Kernel14Ideal.main_arg4)) t
  refine ⟨h0.trans ?_, h1.trans ?_, h2.trans ?_, hk⟩
  · funext i
    idx_vars i
    refine Eq.trans (α := EReal) ?_ (Cert.Kernel14Ideal.DownNorm.final_nrm m c i0 i1).symm
    unfold Cert.Reference14Ideal.Value.res_main_v29
    rw [a0, a1, a2, a3, a4]
    exact (nrm_at (resid _ (Cert.Reference14Ideal.DownNorm.prod _ _) _ _) i0 i1).trans (congrArg (Cert.Norm.normed · i1) (e i0))
  · funext i
    idx_vars i
    refine Eq.trans (α := EReal) ?_ (Cert.Kernel14Ideal.DownNorm.final_aff m c i0 i1).symm
    unfold Cert.Reference14Ideal.Value.res_main_v54
    rw [a0, a1, a2, a3, a4, a5, a6]
    refine (out_at _ (Cert.Reference14Ideal.DownNorm.prod _ _) _ _ _ _ i0 i1).trans ?_
    rw [e i0]
    rfl
  · funext i
    idx_vars i
    obtain rfl : i1 = 0 := Subsingleton.elim _ _
    refine Eq.trans (α := EReal) ?_ (Cert.Kernel14Ideal.DownNorm.final_dev m c i0 0).symm
    rw [a0, a1, a2, a3, a4]
    exact (inv_at (resid _ (Cert.Reference14Ideal.DownNorm.prod _ _) _ _) i0).trans (congrArg Cert.Norm.rstd (e i0))

end Cert.Proof.DownNorm
end
-- ==== Proof.MixNorm.lean ====
module

public import proofs.«01_k».proof.Defs
public import proofs.«01_k».proof.Proof.SlabNorm
public import proofs.«01_k».proof.Proof.Gen.Reference15Ideal.Run
public import proofs.«01_k».proof.Proof.Gen.Kernel15.Frame
public import proofs.«01_k».proof.Proof.Gen.Kernel15Ideal.Value
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel15Ideal.MixNorm
open Cert.Kernel15Ideal Cert.Kernel15Ideal.Gen
open Cert.Kernel14Ideal.SlabNorm
open Cert.Norm (alpha rstd normed)

variable (m : (ℓ : Loc nD τ sig) → Buf (Elt Ideal) ℓ)

/-- The mixer's rows. -/
def fK (c : Dev nD) (t : Fin 4096) (j : Fin 2048) : EReal := m ((c : Thread nD τ).loc main_arg0) (ix2 t j)
/-- The output projection. -/
def wK (c : Dev nD) (j : Fin 2048) (d : Fin 2048) : EReal := m ((c : Thread nD τ).loc main_arg1) (ix2 j d)
/-- The residual's normed rows. -/
def resK (c : Dev nD) (t : Fin 4096) (d : Fin 2048) : EReal := m ((c : Thread nD τ).loc main_arg2) (ix2 t d)
/-- The residual's gain. -/
def pK (c : Dev nD) (d : Fin 2048) : EReal := m ((c : Thread nD τ).loc main_arg3) (ix1 d)
/-- The residual's offset. -/
def qK (c : Dev nD) (d : Fin 2048) : EReal := m ((c : Thread nD τ).loc main_arg4) (ix1 d)
/-- The norm's gain. -/
def gK (c : Dev nD) (d : Fin 2048) : EReal := m ((c : Thread nD τ).loc main_arg5) (ix1 d)
/-- The norm's offset. -/
def bK (c : Dev nD) (d : Fin 2048) : EReal := m ((c : Thread nD τ).loc main_arg6) (ix1 d)

/-- The blocks a point reads and the rows it works for. -/
theorem idx : ∀ t : Fin cfg0.N, win0_0.index t = ![t.val, 0] ∧ win0_1.index t = ![0, 0]
    ∧ win0_2.index t = ![t.val, 0] ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- A row of the point's block. -/
def row (t : Fin cfg0.N) (r : Fin 512) : Fin 4096 := ⟨512 * t.val + r, by have := t.isLt.trans_eq N_0; omega⟩

/-- The mixer's rows' block at an entry. -/
theorem f_at (c : Dev nD) (t : Fin cfg0.N) (r : Fin 512) (k : Fin 2048) : iblk m c 0 t (ix2 r k) = fK m c (row t r) k := by
  unfold fK row
  blk_ext [iblk, V, idx t]

/-- The residual's gain as the call reads it. -/
theorem p_host (c : Dev nD) (d : Fin 2048) :
    (StableHlo.after (hostOps0 (F := Ideal)) (fun b => m (c, b)) (Proc.tc.devRef main_v0) (ix2 0 d) : EReal) = pK m c d := by
  entry_read
  pointwise [pK]
/-- The residual's offset as the call reads it. -/
theorem q_host (c : Dev nD) (d : Fin 2048) :
    (StableHlo.after (hostOps0 (F := Ideal)) (fun b => m (c, b)) (Proc.tc.devRef main_v1) (ix2 0 d) : EReal) = qK m c d := by
  entry_read
  pointwise [qK]
/-- The norm's gain as the call reads it. -/
theorem g_host (c : Dev nD) (d : Fin 2048) :
    (StableHlo.after (hostOps0 (F := Ideal)) (fun b => m (c, b)) (Proc.tc.devRef main_v2) (ix2 0 d) : EReal) = gK m c d := by
  entry_read
  pointwise [gK]
/-- The norm's offset as the call reads it. -/
theorem b_host (c : Dev nD) (d : Fin 2048) :
    (StableHlo.after (hostOps0 (F := Ideal)) (fun b => m (c, b)) (Proc.tc.devRef main_v3) (ix2 0 d) : EReal) = bK m c d := by
  entry_read
  pointwise [bK]

/-- The output projection's block at an entry. -/
theorem w_at (c : Dev nD) (t : Fin cfg0.N) (k : Fin 2048) (d : Fin 2048) : iblk m c 1 t (ix2 k d) = wK m c k d := by
  unfold wK
  blk_ext [iblk, V, idx t]
/-- The residual's block at an entry. -/
theorem res_at (c : Dev nD) (t : Fin cfg0.N) (r : Fin 512) (d : Fin 2048) : iblk m c 2 t (ix2 r d) = resK m c (row t r) d := by
  unfold resK row
  blk_ext [iblk, V, idx t]
/-- The residual's gain's block at an entry. -/
theorem p_at (c : Dev nD) (t : Fin cfg0.N) (d : Fin 2048) : iblk m c 3 t (ix2 0 d) = pK m c d := by
  refine Eq.trans ?_ (p_host m c d)
  blk_ext [iblk, V, idx t]
/-- The residual's offset's block at an entry. -/
theorem q_at (c : Dev nD) (t : Fin cfg0.N) (d : Fin 2048) : iblk m c 4 t (ix2 0 d) = qK m c d := by
  refine Eq.trans ?_ (q_host m c d)
  blk_ext [iblk, V, idx t]
/-- The gain's block at an entry. -/
theorem g_at (c : Dev nD) (t : Fin cfg0.N) (d : Fin 2048) : iblk m c 5 t (ix2 0 d) = gK m c d := by
  refine Eq.trans ?_ (g_host m c d)
  blk_ext [iblk, V, idx t]
/-- The offset's block at an entry. -/
theorem b_at (c : Dev nD) (t : Fin cfg0.N) (d : Fin 2048) : iblk m c 6 t (ix2 0 d) = bK m c d := by
  refine Eq.trans ?_ (b_host m c d)
  blk_ext [iblk, V, idx t]

/-- The product: one of the mixer's rows times a column of the output projection. -/
def prod (c : Dev nD) (t : Fin 4096) (d : Fin 2048) : EReal := ∑ j : Fin 2048, fK m c t j * wK m c j d

/-- The norm's input: the scaled residual plus the product. -/
def input (c : Dev nD) (t : Fin 4096) (k : Fin 2048) : EReal := alpha * (resK m c t k * pK m c k + qK m c k) + prod m c t k

set_option maxHeartbeats 4000000 in
/-- A point writes its normed rows. -/
theorem nrm_at (c : Dev nD) (t : Fin cfg0.N) (r : Fin 512) (d : Fin 2048) :
    (outsAt0 m c t).1 (ix2 r d) = normed (input m c (row t r)) d := by
  rw [outsAt0]
  frame_open
  (try simp (disch := decide) only [↓ View.readCov_skip, ↓ View.readCov_cons_toLoadRect, ↓ View.readCov_fill])
  frame_out
  try simp only [read_unread_whole]
  canon_tiles x h
  all_goals
    idx_vars x
    (try simp only [ix2_0, ix2_1] at h0 h1)
    obtain rfl : d = x1 := Fin.ext h1
    obtain ⟨r, hr⟩ := r
    obtain rfl : r = _ := h0
    first | refine (nrm0 _ _ _ _ x0 d).trans ?_ | refine (nrm1 _ _ _ _ x0 d).trans ?_ | refine (nrm2 _ _ _ _ x0 d).trans ?_ | refine (nrm3 _ _ _ _ x0 d).trans ?_
    refine congrArg (normed · d) (funext fun k => ?_)
    pointwise [line, k0_pay1, k0_pay2, input, prod, f_at, w_at, res_at, p_at, q_at]

set_option maxHeartbeats 4000000 in
/-- It writes their output with gain and offset. -/
theorem aff_at (c : Dev nD) (t : Fin cfg0.N) (r : Fin 512) (d : Fin 2048) :
    (outsAt0 m c t).2.1 (ix2 r d) = normed (input m c (row t r)) d * gK m c d + bK m c d := by
  rw [outsAt0]
  frame_open
  (try simp (disch := decide) only [↓ View.readCov_skip, ↓ View.readCov_cons_toLoadRect, ↓ View.readCov_fill])
  frame_out
  try simp only [read_unread_whole]
  canon_tiles x h
  all_goals
    idx_vars x
    (try simp only [ix2_0, ix2_1] at h0 h1)
    obtain rfl : d = x1 := Fin.ext h1
    obtain ⟨r, hr⟩ := r
    obtain rfl : r = _ := h0
    first | refine (aff0 _ _ _ _ _ _ x0 d).trans ?_ | refine (aff1 _ _ _ _ _ _ x0 d).trans ?_ | refine (aff2 _ _ _ _ _ _ x0 d).trans ?_ | refine (aff3 _ _ _ _ _ _ x0 d).trans ?_
    rw [g_at, b_at]
    refine congrArg (fun l => normed l d * gK m c d + bK m c d) (funext fun k => ?_)
    pointwise [line, k0_pay1, k0_pay2, input, prod, f_at, w_at, res_at, p_at, q_at]

set_option maxHeartbeats 4000000 in
/-- It writes their inverse deviations. -/
theorem dev_at (c : Dev nD) (t : Fin cfg0.N) (r : Fin 512) :
    (outsAt0 m c t).2.2 (ix2 r 0) = rstd (input m c (row t r)) := by
  rw [outsAt0]
  frame_open
  (try simp (disch := decide) only [↓ View.readCov_skip, ↓ View.readCov_cons_toLoadRect, ↓ View.readCov_fill])
  frame_out
  try simp only [read_unread_whole]
  canon_tiles x h
  all_goals
    idx_vars x
    (try simp only [ix2_0, ix2_1] at h0 h1)
    obtain rfl : x1 = 0 := Subsingleton.elim _ _
    obtain ⟨r, hr⟩ := r
    obtain rfl : r = _ := h0
    first | refine (dev0 _ _ _ _ x0).trans ?_ | refine (dev1 _ _ _ _ x0).trans ?_ | refine (dev2 _ _ _ _ x0).trans ?_ | refine (dev3 _ _ _ _ x0).trans ?_
    refine congrArg rstd (funext fun k => ?_)
    pointwise [line, k0_pay1, k0_pay2, input, prod, f_at, w_at, res_at, p_at, q_at]

/-- The normed rows the call writes. -/
theorem final_nrm (c : Dev nD) (t : Fin 4096) (d : Fin 2048) :
    (dats m 0 c).arrAt 7 cfg0.N (ix2 t d) = normed (input m c t) d := by
  have := (dats m 0 c).arrAt_eq_of_covers 7 (fun i : S4096x2048.Idx => normed (input m c (i 0)) (i 1))
    (by decide +kernel) fun t hf y => by
      idx_vars y
      blk_simp
      rw [after0_7]
      refine (nrm_at m c t y0 y1).trans ?_
      have e : (win0_7.blk t).view.emb (ix2 y0 y1) = ix2 (row t y0) y1 := by
        unfold row
        blk_ext [idx t]
      rw [e]
      rfl
  exact congrFun this (ix2 t d)

/-- The norm's output the call writes. -/
theorem final_aff (c : Dev nD) (t : Fin 4096) (d : Fin 2048) :
    (dats m 0 c).arrAt 8 cfg0.N (ix2 t d) = normed (input m c t) d * gK m c d + bK m c d := by
  have := (dats m 0 c).arrAt_eq_of_covers 8 (fun i : S4096x2048.Idx => normed (input m c (i 0)) (i 1) * gK m c (i 1) + bK m c (i 1))
    (by decide +kernel) fun t hf y => by
      idx_vars y
      blk_simp
      rw [after0_8]
      refine (aff_at m c t y0 y1).trans ?_
      have e : (win0_8.blk t).view.emb (ix2 y0 y1) = ix2 (row t y0) y1 := by
        unfold row
        blk_ext [idx t]
      rw [e]
      rfl
  exact congrFun this (ix2 t d)

/-- The inverse deviations the call writes. -/
theorem final_dev (c : Dev nD) (t : Fin 4096) (d : Fin 1) :
    (dats m 0 c).arrAt 9 cfg0.N (ix2 t d) = rstd (input m c t) := by
  have := (dats m 0 c).arrAt_eq_of_covers 9 (fun i : S4096x1.Idx => rstd (input m c (i 0)))
    (by decide +kernel) fun t hf y => by
      idx_vars y
      blk_simp
      rw [after0_9]
      obtain rfl : y1 = 0 := Subsingleton.elim _ _
      refine (dev_at m c t y0).trans ?_
      have e : (win0_9.blk t).view.emb (ix2 y0 0) = ix2 (row t y0) 0 := by
        unfold row
        blk_ext [idx t]
      rw [e]
      rfl
  exact congrFun this (ix2 t d)

end Cert.Kernel15Ideal.MixNorm

namespace Cert.Reference15Ideal.MixNorm
open Cert.Reference15Ideal Cert.Reference15Ideal.Gen Cert.Reference14Ideal.SlabNorm
open Cert.Norm (alpha)

/-- The reference's product. -/
def prod (X : FVec Ideal S4096x2048 .bf16) (W : FVec Ideal S2048x2048 .bf16) : FVec Ideal S4096x2048 .f32 :=
  Host.dotGeneral dot_S4096x2048_S2048x2048_S4096x2048_1_0_0_1_n_n none (extf .f32 X bitsLt_bf16_f32) (extf .f32 W bitsLt_bf16_f32)

/-- A row of the reference's norm's input. -/
theorem row_eq (X : FVec Ideal S4096x2048 .bf16) (W : FVec Ideal S2048x2048 .bf16) (A : FVec Ideal S4096x2048 .f32) (p q : FVec Ideal S2048 .f32) (t : Fin 4096) :
    Cert.Reference2Ideal.FfnIn.row (resid A (prod X W) p q) t
      = fun k => alpha * (A (ix2 t k) * p (ix1 k) + q (ix1 k)) + ∑ j : Fin 2048, X (ix2 t j) * W (ix2 j k) := by
  funext k
  refine (resid_at A (prod X W) p q t k).trans ?_
  pointwise [prod]

end Cert.Reference15Ideal.MixNorm

namespace Cert.Proof.MixNorm
open Cert.Reference2Ideal.FfnIn (nrm nrm_at inv inv_at)
open Cert.Reference14Ideal.SlabNorm (resid out_at)

/-- The kernel's frame on bit patterns. -/
theorem frame_kernel : Cert.quiescent_Kernel15 := fun m ρ _ => Cert.Kernel15.Gen.frame m ρ

/-- The kernel's frame over the extended reals. -/
theorem frame_ideal : Cert.quiescent_Kernel15Ideal := fun m ρ _ => Cert.Kernel15Ideal.Gen.frame m ρ

/-- The reference's frame: its run keeps the arguments, and it has no semaphore. -/
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- The normed rows, the norm's output and the inverse deviations the kernel writes are the reference's. -/
theorem algebraic : Cert.algebraic_Kernel15Ideal_Reference15Ideal := by
  intro m g m' g' _ hag
  refine ⟨_, _, _, Cert.Kernel15Ideal.Value.run_blocks (F := Ideal) m g, ?_⟩
  refine (θ_run Cert.Reference15Ideal.defs _ _).mono (fun r h c => ?_) (Cert.Reference15Ideal.Value.run (F := Ideal) m' g')
  obtain ⟨h0, h1, h2, hk⟩ := h c
  obtain ⟨a0, a1, a2, a3, a4, a5, a6⟩ := hag c
  have e (t : Fin 4096) : Cert.Reference2Ideal.FfnIn.row (resid _ (Cert.Reference15Ideal.MixNorm.prod _ _) _ _) t = Cert.Kernel15Ideal.MixNorm.input m c t :=
    Cert.Reference15Ideal.MixNorm.row_eq (m ((c.tc : Thread Cert.Kernel15Ideal.nD Cert.Kernel15Ideal.τ).loc Cert.Kernel15Ideal.main_arg0)) (m (c.tc.loc Cert.Kernel15Ideal.main_arg1))
      (m (c.tc.loc Cert.Kernel15Ideal.main_arg2)) (m (c.tc.loc Cert.Kernel15Ideal.main_arg3)) (m (c.tc.loc Cert.Kernel15Ideal.main_arg4)) t
  refine ⟨h0.trans ?_, h1.trans ?_, h2.trans ?_, hk⟩
  · funext i
    idx_vars i
    refine Eq.trans (α := EReal) ?_ (Cert.Kernel15Ideal.MixNorm.final_nrm m c i0 i1).symm
    unfold Cert.Reference15Ideal.Value.res_main_v29
    rw [a0, a1, a2, a3, a4]
    exact (nrm_at (resid _ (Cert.Reference15Ideal.MixNorm.prod _ _) _ _) i0 i1).trans (congrArg (Cert.Norm.normed · i1) (e i0))
  · funext i
    idx_vars i
    refine Eq.trans (α := EReal) ?_ (Cert.Kernel15Ideal.MixNorm.final_aff m c i0 i1).symm
    unfold Cert.Reference15Ideal.Value.res_main_v54
    rw [a0, a1, a2, a3, a4, a5, a6]
    refine (out_at _ (Cert.Reference15Ideal.MixNorm.prod _ _) _ _ _ _ i0 i1).trans ?_
    rw [e i0]
    rfl
  · funext i
    idx_vars i
    obtain rfl : i1 = 0 := Subsingleton.elim _ _
    refine Eq.trans (α := EReal) ?_ (Cert.Kernel15Ideal.MixNorm.final_dev m c i0 0).symm
    rw [a0, a1, a2, a3, a4]
    exact (inv_at (resid _ (Cert.Reference15Ideal.MixNorm.prod _ _) _ _) i0).trans (congrArg Cert.Norm.rstd (e i0))

end Cert.Proof.MixNorm
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_all_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.FfnClaims
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Pre_all_finite2
public import proofs.«01_k».proof.Proof.Gen.Pre_all_finite9
public import proofs.«01_k».proof.Proof.FfnIn
public import proofs.«01_k».proof.Proof.FfnUp
public import proofs.«01_k».proof.Proof.FfnDown
public import proofs.«01_k».proof.Proof.MixOut
public import proofs.«01_k».proof.Proof.MixIn
public import proofs.«01_k».proof.Proof.EvGrad
public import proofs.«01_k».proof.Proof.EvIn
public import proofs.«01_k».proof.Proof.OdIn
public import proofs.«01_k».proof.Proof.OdGrad
public import proofs.«01_k».proof.Proof.ConvUp
public import proofs.«01_k».proof.Proof.OdProd
public import proofs.«01_k».proof.Proof.EvProd
public import proofs.«01_k».proof.Proof.DownNorm
public import proofs.«01_k».proof.Proof.MixNorm
public import Idealize.ShloMosaic.Adequacy
public import Idealize.ShloMosaic.Init

@[expose] public section

noncomputable section

namespace Cert.Proof

open Idealize.ShloMosaic Idealize.SL.Sem Cert.Kernel

/-- The kernels: their frames, and their results over the extended reals the references'. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_all_finite.Gen.facts, Cert.Pre_all_finite2.Gen.facts, Cert.Pre_all_finite9.Gen.facts,
  Ffn.frame_kernel, Ffn.frame_ideal, Ffn.frame_ideal_finite, Ffn.frame_reference, Ffn.frame_reference_finite,
  FfnIn.frame_kernel, FfnIn.frame_ideal, FfnIn.frame_ideal_finite, FfnIn.frame_reference, FfnIn.frame_reference_finite,
  FfnUp.frame_kernel, FfnUp.frame_ideal, FfnUp.frame_reference,
  FfnDown.frame_kernel, FfnDown.frame_ideal, FfnDown.frame_reference,
  MixOut.frame_kernel, MixOut.frame_ideal, MixOut.frame_reference,
  MixIn.frame_kernel, MixIn.frame_ideal, MixIn.frame_reference,
  EvGrad.frame_kernel, EvGrad.frame_ideal, EvGrad.frame_reference,
  EvIn.frame_kernel, EvIn.frame_ideal, EvIn.frame_reference,
  OdIn.frame_kernel, OdIn.frame_ideal, OdIn.frame_ideal_finite, OdIn.frame_reference, OdIn.frame_reference_finite,
  OdGrad.frame_kernel, OdGrad.frame_ideal, OdGrad.frame_reference,
  ConvUp.frame_kernel, ConvUp.frame_ideal, ConvUp.frame_reference,
  OdProd.frame_kernel, OdProd.frame_ideal, OdProd.frame_reference,
  EvProd.frame_kernel, EvProd.frame_ideal, EvProd.frame_reference,
  DownNorm.frame_kernel, DownNorm.frame_ideal, DownNorm.frame_reference,
  MixNorm.frame_kernel, MixNorm.frame_ideal, MixNorm.frame_reference,
  trivial, Ffn.algebraic, trivial, FfnIn.algebraic, trivial, FfnUp.algebraic, trivial, FfnDown.algebraic, trivial, MixOut.algebraic, trivial, MixIn.algebraic, trivial, EvGrad.algebraic, trivial, EvIn.algebraic, trivial, OdIn.algebraic, trivial, OdGrad.algebraic, trivial, ConvUp.algebraic, trivial, OdProd.algebraic, trivial, EvProd.algebraic, trivial, DownNorm.algebraic, trivial, MixNorm.algebraic⟩

end Cert.Proof

end
